-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_GlaStep (m : (ℓ : Loc Cert.GlaStep.nD Cert.GlaStep.τ Cert.GlaStep.sig) → Buf (Elt Bits) ℓ) : Prop :=
  True

def Pre_GlaStepIdeal (m : (ℓ : Loc Cert.GlaStepIdeal.nD Cert.GlaStepIdeal.τ Cert.GlaStepIdeal.sig) → Buf (Elt Ideal) ℓ) : Prop :=
  True

def Pre_GlaStepIdeal_finite_gates [hPre_finite_gates : Cert.Pre_finite_gates.Facts] (m : (ℓ : Loc Cert.GlaStepIdeal.nD Cert.GlaStepIdeal.τ Cert.GlaStepIdeal.sig) → Buf (Elt Ideal) ℓ) : Prop :=
  ∀ c : Dev Cert.GlaStepIdeal.nD,
    (Cert.Pre_finite_gates.fn (F := Ideal) (m ((c.tc : Thread Cert.GlaStepIdeal.nD Cert.GlaStepIdeal.τ).loc Cert.GlaStepIdeal.main_arg0)) (m ((c.tc : Thread Cert.GlaStepIdeal.nD Cert.GlaStepIdeal.τ).loc Cert.GlaStepIdeal.main_arg1)) (m ((c.tc : Thread Cert.GlaStepIdeal.nD Cert.GlaStepIdeal.τ).loc Cert.GlaStepIdeal.main_arg2)) (m ((c.tc : Thread Cert.GlaStepIdeal.nD Cert.GlaStepIdeal.τ).loc Cert.GlaStepIdeal.main_arg3)) (m ((c.tc : Thread Cert.GlaStepIdeal.nD Cert.GlaStepIdeal.τ).loc Cert.GlaStepIdeal.main_arg4)) (m ((c.tc : Thread Cert.GlaStepIdeal.nD Cert.GlaStepIdeal.τ).loc Cert.GlaStepIdeal.main_arg5)) (m ((c.tc : Thread Cert.GlaStepIdeal.nD Cert.GlaStepIdeal.τ).loc Cert.GlaStepIdeal.main_arg6))) = (fun _ => 1#1)

def Pre_GlaStepRefIdeal (m : (ℓ : Loc Cert.GlaStepRefIdeal.nD Cert.GlaStepRefIdeal.τ Cert.GlaStepRefIdeal.sig) → Buf (Elt Ideal) ℓ) : Prop :=
  True

def Pre_GlaStepRefIdeal_finite_gates [hPre_finite_gates : Cert.Pre_finite_gates.Facts] (m : (ℓ : Loc Cert.GlaStepRefIdeal.nD Cert.GlaStepRefIdeal.τ Cert.GlaStepRefIdeal.sig) → Buf (Elt Ideal) ℓ) : Prop :=
  ∀ c : Dev Cert.GlaStepRefIdeal.nD,
    (Cert.Pre_finite_gates.fn (F := Ideal) (m ((c.tc : Thread Cert.GlaStepRefIdeal.nD Cert.GlaStepRefIdeal.τ).loc Cert.GlaStepRefIdeal.main_arg0)) (m ((c.tc : Thread Cert.GlaStepRefIdeal.nD Cert.GlaStepRefIdeal.τ).loc Cert.GlaStepRefIdeal.main_arg1)) (m ((c.tc : Thread Cert.GlaStepRefIdeal.nD Cert.GlaStepRefIdeal.τ).loc Cert.GlaStepRefIdeal.main_arg2)) (m ((c.tc : Thread Cert.GlaStepRefIdeal.nD Cert.GlaStepRefIdeal.τ).loc Cert.GlaStepRefIdeal.main_arg3)) (m ((c.tc : Thread Cert.GlaStepRefIdeal.nD Cert.GlaStepRefIdeal.τ).loc Cert.GlaStepRefIdeal.main_arg4)) (m ((c.tc : Thread Cert.GlaStepRefIdeal.nD Cert.GlaStepRefIdeal.τ).loc Cert.GlaStepRefIdeal.main_arg5)) (m ((c.tc : Thread Cert.GlaStepRefIdeal.nD Cert.GlaStepRefIdeal.τ).loc Cert.GlaStepRefIdeal.main_arg6))) = (fun _ => 1#1)

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepRefIdeal (m : (ℓ : Loc Cert.FfnStepRefIdeal.nD Cert.FfnStepRefIdeal.τ Cert.FfnStepRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InStep (m : (ℓ : Loc Cert.InStep.nD Cert.InStep.τ Cert.InStep.sig) → Buf (Elt Bits) ℓ) : Prop :=
  True

def Pre_InStepIdeal (m : (ℓ : Loc Cert.InStepIdeal.nD Cert.InStepIdeal.τ Cert.InStepIdeal.sig) → Buf (Elt Ideal) ℓ) : Prop :=
  True

def Pre_InStepRefIdeal (m : (ℓ : Loc Cert.InStepRefIdeal.nD Cert.InStepRefIdeal.τ Cert.InStepRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_rows [hPre_finite_rows : Cert.Pre_finite_rows.Facts] (m : (ℓ : Loc Cert.PoolIdeal.nD Cert.PoolIdeal.τ Cert.PoolIdeal.sig) → Buf (Elt Ideal) ℓ) : Prop :=
  ∀ c : Dev Cert.PoolIdeal.nD,
    (Cert.Pre_finite_rows.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_rows [hPre_finite_rows : Cert.Pre_finite_rows.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_rows.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_GlaStep [hGlaStep : Cert.GlaStep.Facts] : Prop :=
  ∀ (m : (ℓ : Loc Cert.GlaStep.nD Cert.GlaStep.τ Cert.GlaStep.sig) → Buf (Elt Bits) ℓ) (g : Dev Cert.GlaStep.nD → PrngReg), Pre_GlaStep m →
    θ_run (Cert.GlaStep.defs (F := Bits)) (onTc (τ := Cert.GlaStep.τ) (Cert.GlaStep.main (F := Bits))) ⟨m, fun _ => 0, g⟩ (fun r => (∀ c : Dev Cert.GlaStep.nD,
      r.2.mem ((c.tc : Thread Cert.GlaStep.nD Cert.GlaStep.τ).loc Cert.GlaStep.main_arg0) = m ((c.tc : Thread Cert.GlaStep.nD Cert.GlaStep.τ).loc Cert.GlaStep.main_arg0)
      ∧ r.2.mem ((c.tc : Thread Cert.GlaStep.nD Cert.GlaStep.τ).loc Cert.GlaStep.main_arg1) = m ((c.tc : Thread Cert.GlaStep.nD Cert.GlaStep.τ).loc Cert.GlaStep.main_arg1)
      ∧ r.2.mem ((c.tc : Thread Cert.GlaStep.nD Cert.GlaStep.τ).loc Cert.GlaStep.main_arg2) = m ((c.tc : Thread Cert.GlaStep.nD Cert.GlaStep.τ).loc Cert.GlaStep.main_arg2)
      ∧ r.2.mem ((c.tc : Thread Cert.GlaStep.nD Cert.GlaStep.τ).loc Cert.GlaStep.main_arg3) = m ((c.tc : Thread Cert.GlaStep.nD Cert.GlaStep.τ).loc Cert.GlaStep.main_arg3)
      ∧ r.2.mem ((c.tc : Thread Cert.GlaStep.nD Cert.GlaStep.τ).loc Cert.GlaStep.main_arg4) = m ((c.tc : Thread Cert.GlaStep.nD Cert.GlaStep.τ).loc Cert.GlaStep.main_arg4)
      ∧ r.2.mem ((c.tc : Thread Cert.GlaStep.nD Cert.GlaStep.τ).loc Cert.GlaStep.main_arg5) = m ((c.tc : Thread Cert.GlaStep.nD Cert.GlaStep.τ).loc Cert.GlaStep.main_arg5)
      ∧ r.2.mem ((c.tc : Thread Cert.GlaStep.nD Cert.GlaStep.τ).loc Cert.GlaStep.main_arg6) = m ((c.tc : Thread Cert.GlaStep.nD Cert.GlaStep.τ).loc Cert.GlaStep.main_arg6))
      ∧ r.2.sem = fun _ => 0)

def quiescent_GlaStepIdeal [hGlaStepIdeal : Cert.GlaStepIdeal.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4)
      ∧ r.2.mem ((c.tc : Thread Cert.GlaStepIdeal.nD Cert.GlaStepIdeal.τ).loc Cert.GlaStepIdeal.main_arg5) = m ((c.tc : Thread Cert.GlaStepIdeal.nD Cert.GlaStepIdeal.τ).loc Cert.GlaStepIdeal.main_arg5)
      ∧ r.2.mem ((c.tc : Thread Cert.GlaStepIdeal.nD Cert.GlaStepIdeal.τ).loc Cert.GlaStepIdeal.main_arg6) = m ((c.tc : Thread Cert.GlaStepIdeal.nD Cert.GlaStepIdeal.τ).loc Cert.GlaStepIdeal.main_arg6))
      ∧ r.2.sem = fun _ => 0)

def quiescent_GlaStepIdeal_pre_finite_gates [hGlaStepIdeal : Cert.GlaStepIdeal.Facts] [hPre_finite_gates : Cert.Pre_finite_gates.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal_finite_gates m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4)
      ∧ r.2.mem ((c.tc : Thread Cert.GlaStepIdeal.nD Cert.GlaStepIdeal.τ).loc Cert.GlaStepIdeal.main_arg5) = m ((c.tc : Thread Cert.GlaStepIdeal.nD Cert.GlaStepIdeal.τ).loc Cert.GlaStepIdeal.main_arg5)
      ∧ r.2.mem ((c.tc : Thread Cert.GlaStepIdeal.nD Cert.GlaStepIdeal.τ).loc Cert.GlaStepIdeal.main_arg6) = m ((c.tc : Thread Cert.GlaStepIdeal.nD Cert.GlaStepIdeal.τ).loc Cert.GlaStepIdeal.main_arg6))
      ∧ r.2.sem = fun _ => 0)

def quiescent_GlaStepRefIdeal [hGlaStepRefIdeal : Cert.GlaStepRefIdeal.Facts] : Prop :=
  ∀ (m : (ℓ : Loc Cert.GlaStepRefIdeal.nD Cert.GlaStepRefIdeal.τ Cert.GlaStepRefIdeal.sig) → Buf (Elt Ideal) ℓ) (g : Dev Cert.GlaStepRefIdeal.nD → PrngReg), Pre_GlaStepRefIdeal m →
    θ_run (Cert.GlaStepRefIdeal.defs (F := Ideal)) (onTc (τ := Cert.GlaStepRefIdeal.τ) (Cert.GlaStepRefIdeal.main (F := Ideal))) ⟨m, fun _ => 0, g⟩ (fun r => (∀ c : Dev Cert.GlaStepRefIdeal.nD,
      r.2.mem ((c.tc : Thread Cert.GlaStepRefIdeal.nD Cert.GlaStepRefIdeal.τ).loc Cert.GlaStepRefIdeal.main_arg0) = m ((c.tc : Thread Cert.GlaStepRefIdeal.nD Cert.GlaStepRefIdeal.τ).loc Cert.GlaStepRefIdeal.main_arg0)
      ∧ r.2.mem ((c.tc : Thread Cert.GlaStepRefIdeal.nD Cert.GlaStepRefIdeal.τ).loc Cert.GlaStepRefIdeal.main_arg1) = m ((c.tc : Thread Cert.GlaStepRefIdeal.nD Cert.GlaStepRefIdeal.τ).loc Cert.GlaStepRefIdeal.main_arg1)
      ∧ r.2.mem ((c.tc : Thread Cert.GlaStepRefIdeal.nD Cert.GlaStepRefIdeal.τ).loc Cert.GlaStepRefIdeal.main_arg2) = m ((c.tc : Thread Cert.GlaStepRefIdeal.nD Cert.GlaStepRefIdeal.τ).loc Cert.GlaStepRefIdeal.main_arg2)
      ∧ r.2.mem ((c.tc : Thread Cert.GlaStepRefIdeal.nD Cert.GlaStepRefIdeal.τ).loc Cert.GlaStepRefIdeal.main_arg3) = m ((c.tc : Thread Cert.GlaStepRefIdeal.nD Cert.GlaStepRefIdeal.τ).loc Cert.GlaStepRefIdeal.main_arg3)
      ∧ r.2.mem ((c.tc : Thread Cert.GlaStepRefIdeal.nD Cert.GlaStepRefIdeal.τ).loc Cert.GlaStepRefIdeal.main_arg4) = m ((c.tc : Thread Cert.GlaStepRefIdeal.nD Cert.GlaStepRefIdeal.τ).loc Cert.GlaStepRefIdeal.main_arg4)
      ∧ r.2.mem ((c.tc : Thread Cert.GlaStepRefIdeal.nD Cert.GlaStepRefIdeal.τ).loc Cert.GlaStepRefIdeal.main_arg5) = m ((c.tc : Thread Cert.GlaStepRefIdeal.nD Cert.GlaStepRefIdeal.τ).loc Cert.GlaStepRefIdeal.main_arg5)
      ∧ r.2.mem ((c.tc : Thread Cert.GlaStepRefIdeal.nD Cert.GlaStepRefIdeal.τ).loc Cert.GlaStepRefIdeal.main_arg6) = m ((c.tc : Thread Cert.GlaStepRefIdeal.nD Cert.GlaStepRefIdeal.τ).loc Cert.GlaStepRefIdeal.main_arg6))
      ∧ r.2.sem = fun _ => 0)

def quiescent_GlaStepRefIdeal_pre_finite_gates [hGlaStepRefIdeal : Cert.GlaStepRefIdeal.Facts] [hPre_finite_gates : Cert.Pre_finite_gates.Facts] : Prop :=
  ∀ (m : (ℓ : Loc Cert.GlaStepRefIdeal.nD Cert.GlaStepRefIdeal.τ Cert.GlaStepRefIdeal.sig) → Buf (Elt Ideal) ℓ) (g : Dev Cert.GlaStepRefIdeal.nD → PrngReg), Pre_GlaStepRefIdeal_finite_gates m →
    θ_run (Cert.GlaStepRefIdeal.defs (F := Ideal)) (onTc (τ := Cert.GlaStepRefIdeal.τ) (Cert.GlaStepRefIdeal.main (F := Ideal))) ⟨m, fun _ => 0, g⟩ (fun r => (∀ c : Dev Cert.GlaStepRefIdeal.nD,
      r.2.mem ((c.tc : Thread Cert.GlaStepRefIdeal.nD Cert.GlaStepRefIdeal.τ).loc Cert.GlaStepRefIdeal.main_arg0) = m ((c.tc : Thread Cert.GlaStepRefIdeal.nD Cert.GlaStepRefIdeal.τ).loc Cert.GlaStepRefIdeal.main_arg0)
      ∧ r.2.mem ((c.tc : Thread Cert.GlaStepRefIdeal.nD Cert.GlaStepRefIdeal.τ).loc Cert.GlaStepRefIdeal.main_arg1) = m ((c.tc : Thread Cert.GlaStepRefIdeal.nD Cert.GlaStepRefIdeal.τ).loc Cert.GlaStepRefIdeal.main_arg1)
      ∧ r.2.mem ((c.tc : Thread Cert.GlaStepRefIdeal.nD Cert.GlaStepRefIdeal.τ).loc Cert.GlaStepRefIdeal.main_arg2) = m ((c.tc : Thread Cert.GlaStepRefIdeal.nD Cert.GlaStepRefIdeal.τ).loc Cert.GlaStepRefIdeal.main_arg2)
      ∧ r.2.mem ((c.tc : Thread Cert.GlaStepRefIdeal.nD Cert.GlaStepRefIdeal.τ).loc Cert.GlaStepRefIdeal.main_arg3) = m ((c.tc : Thread Cert.GlaStepRefIdeal.nD Cert.GlaStepRefIdeal.τ).loc Cert.GlaStepRefIdeal.main_arg3)
      ∧ r.2.mem ((c.tc : Thread Cert.GlaStepRefIdeal.nD Cert.GlaStepRefIdeal.τ).loc Cert.GlaStepRefIdeal.main_arg4) = m ((c.tc : Thread Cert.GlaStepRefIdeal.nD Cert.GlaStepRefIdeal.τ).loc Cert.GlaStepRefIdeal.main_arg4)
      ∧ r.2.mem ((c.tc : Thread Cert.GlaStepRefIdeal.nD Cert.GlaStepRefIdeal.τ).loc Cert.GlaStepRefIdeal.main_arg5) = m ((c.tc : Thread Cert.GlaStepRefIdeal.nD Cert.GlaStepRefIdeal.τ).loc Cert.GlaStepRefIdeal.main_arg5)
      ∧ r.2.mem ((c.tc : Thread Cert.GlaStepRefIdeal.nD Cert.GlaStepRefIdeal.τ).loc Cert.GlaStepRefIdeal.main_arg6) = m ((c.tc : Thread Cert.GlaStepRefIdeal.nD Cert.GlaStepRefIdeal.τ).loc Cert.GlaStepRefIdeal.main_arg6))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5)
      ∧ r.2.mem ((c.tc : Thread Cert.FfnStep.nD Cert.FfnStep.τ).loc Cert.FfnStep.main_arg6) = m ((c.tc : Thread Cert.FfnStep.nD Cert.FfnStep.τ).loc Cert.FfnStep.main_arg6))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
      ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6))
      ∧ r.2.sem = fun _ => 0)

def quiescent_FfnStepRefIdeal [hFfnStepRefIdeal : Cert.FfnStepRefIdeal.Facts] : Prop :=
  ∀ (m : (ℓ : Loc Cert.FfnStepRefIdeal.nD Cert.FfnStepRefIdeal.τ Cert.FfnStepRefIdeal.sig) → Buf (Elt Ideal) ℓ) (g : Dev Cert.FfnStepRefIdeal.nD → PrngReg), Pre_FfnStepRefIdeal m →
    θ_run (Cert.FfnStepRefIdeal.defs (F := Ideal)) (onTc (τ := Cert.FfnStepRefIdeal.τ) (Cert.FfnStepRefIdeal.main (F := Ideal))) ⟨m, fun _ => 0, g⟩ (fun r => (∀ c : Dev Cert.FfnStepRefIdeal.nD,
      r.2.mem ((c.tc : Thread Cert.FfnStepRefIdeal.nD Cert.FfnStepRefIdeal.τ).loc Cert.FfnStepRefIdeal.main_arg0) = m ((c.tc : Thread Cert.FfnStepRefIdeal.nD Cert.FfnStepRefIdeal.τ).loc Cert.FfnStepRefIdeal.main_arg0)
      ∧ r.2.mem ((c.tc : Thread Cert.FfnStepRefIdeal.nD Cert.FfnStepRefIdeal.τ).loc Cert.FfnStepRefIdeal.main_arg1) = m ((c.tc : Thread Cert.FfnStepRefIdeal.nD Cert.FfnStepRefIdeal.τ).loc Cert.FfnStepRefIdeal.main_arg1)
      ∧ r.2.mem ((c.tc : Thread Cert.FfnStepRefIdeal.nD Cert.FfnStepRefIdeal.τ).loc Cert.FfnStepRefIdeal.main_arg2) = m ((c.tc : Thread Cert.FfnStepRefIdeal.nD Cert.FfnStepRefIdeal.τ).loc Cert.FfnStepRefIdeal.main_arg2)
      ∧ r.2.mem ((c.tc : Thread Cert.FfnStepRefIdeal.nD Cert.FfnStepRefIdeal.τ).loc Cert.FfnStepRefIdeal.main_arg3) = m ((c.tc : Thread Cert.FfnStepRefIdeal.nD Cert.FfnStepRefIdeal.τ).loc Cert.FfnStepRefIdeal.main_arg3)
      ∧ r.2.mem ((c.tc : Thread Cert.FfnStepRefIdeal.nD Cert.FfnStepRefIdeal.τ).loc Cert.FfnStepRefIdeal.main_arg4) = m ((c.tc : Thread Cert.FfnStepRefIdeal.nD Cert.FfnStepRefIdeal.τ).loc Cert.FfnStepRefIdeal.main_arg4)
      ∧ r.2.mem ((c.tc : Thread Cert.FfnStepRefIdeal.nD Cert.FfnStepRefIdeal.τ).loc Cert.FfnStepRefIdeal.main_arg5) = m ((c.tc : Thread Cert.FfnStepRefIdeal.nD Cert.FfnStepRefIdeal.τ).loc Cert.FfnStepRefIdeal.main_arg5)
      ∧ r.2.mem ((c.tc : Thread Cert.FfnStepRefIdeal.nD Cert.FfnStepRefIdeal.τ).loc Cert.FfnStepRefIdeal.main_arg6) = m ((c.tc : Thread Cert.FfnStepRefIdeal.nD Cert.FfnStepRefIdeal.τ).loc Cert.FfnStepRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_InStep [hInStep : Cert.InStep.Facts] : Prop :=
  ∀ (m : (ℓ : Loc Cert.InStep.nD Cert.InStep.τ Cert.InStep.sig) → Buf (Elt Bits) ℓ) (g : Dev Cert.InStep.nD → PrngReg), Pre_InStep m →
    θ_run (Cert.InStep.defs (F := Bits)) (onTc (τ := Cert.InStep.τ) (Cert.InStep.main (F := Bits))) ⟨m, fun _ => 0, g⟩ (fun r => (∀ c : Dev Cert.InStep.nD,
      r.2.mem ((c.tc : Thread Cert.InStep.nD Cert.InStep.τ).loc Cert.InStep.main_arg0) = m ((c.tc : Thread Cert.InStep.nD Cert.InStep.τ).loc Cert.InStep.main_arg0)
      ∧ r.2.mem ((c.tc : Thread Cert.InStep.nD Cert.InStep.τ).loc Cert.InStep.main_arg1) = m ((c.tc : Thread Cert.InStep.nD Cert.InStep.τ).loc Cert.InStep.main_arg1)
      ∧ r.2.mem ((c.tc : Thread Cert.InStep.nD Cert.InStep.τ).loc Cert.InStep.main_arg2) = m ((c.tc : Thread Cert.InStep.nD Cert.InStep.τ).loc Cert.InStep.main_arg2)
      ∧ r.2.mem ((c.tc : Thread Cert.InStep.nD Cert.InStep.τ).loc Cert.InStep.main_arg3) = m ((c.tc : Thread Cert.InStep.nD Cert.InStep.τ).loc Cert.InStep.main_arg3)
      ∧ r.2.mem ((c.tc : Thread Cert.InStep.nD Cert.InStep.τ).loc Cert.InStep.main_arg4) = m ((c.tc : Thread Cert.InStep.nD Cert.InStep.τ).loc Cert.InStep.main_arg4)
      ∧ r.2.mem ((c.tc : Thread Cert.InStep.nD Cert.InStep.τ).loc Cert.InStep.main_arg5) = m ((c.tc : Thread Cert.InStep.nD Cert.InStep.τ).loc Cert.InStep.main_arg5)
      ∧ r.2.mem ((c.tc : Thread Cert.InStep.nD Cert.InStep.τ).loc Cert.InStep.main_arg6) = m ((c.tc : Thread Cert.InStep.nD Cert.InStep.τ).loc Cert.InStep.main_arg6)
      ∧ r.2.mem ((c.tc : Thread Cert.InStep.nD Cert.InStep.τ).loc Cert.InStep.main_arg7) = m ((c.tc : Thread Cert.InStep.nD Cert.InStep.τ).loc Cert.InStep.main_arg7))
      ∧ r.2.sem = fun _ => 0)

def quiescent_InStepIdeal [hInStepIdeal : Cert.InStepIdeal.Facts] : Prop :=
  ∀ (m : (ℓ : Loc Cert.InStepIdeal.nD Cert.InStepIdeal.τ Cert.InStepIdeal.sig) → Buf (Elt Ideal) ℓ) (g : Dev Cert.InStepIdeal.nD → PrngReg), Pre_InStepIdeal m →
    θ_run (Cert.InStepIdeal.defs (F := Ideal)) (onTc (τ := Cert.InStepIdeal.τ) (Cert.InStepIdeal.main (F := Ideal))) ⟨m, fun _ => 0, g⟩ (fun r => (∀ c : Dev Cert.InStepIdeal.nD,
      r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
      ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
      ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
      ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3)
      ∧ r.2.mem ((c.tc : Thread Cert.InStepIdeal.nD Cert.InStepIdeal.τ).loc Cert.InStepIdeal.main_arg4) = m ((c.tc : Thread Cert.InStepIdeal.nD Cert.InStepIdeal.τ).loc Cert.InStepIdeal.main_arg4)
      ∧ r.2.mem ((c.tc : Thread Cert.InStepIdeal.nD Cert.InStepIdeal.τ).loc Cert.InStepIdeal.main_arg5) = m ((c.tc : Thread Cert.InStepIdeal.nD Cert.InStepIdeal.τ).loc Cert.InStepIdeal.main_arg5)
      ∧ r.2.mem ((c.tc : Thread Cert.InStepIdeal.nD Cert.InStepIdeal.τ).loc Cert.InStepIdeal.main_arg6) = m ((c.tc : Thread Cert.InStepIdeal.nD Cert.InStepIdeal.τ).loc Cert.InStepIdeal.main_arg6)
      ∧ r.2.mem ((c.tc : Thread Cert.InStepIdeal.nD Cert.InStepIdeal.τ).loc Cert.InStepIdeal.main_arg7) = m ((c.tc : Thread Cert.InStepIdeal.nD Cert.InStepIdeal.τ).loc Cert.InStepIdeal.main_arg7))
      ∧ r.2.sem = fun _ => 0)

def quiescent_InStepRefIdeal [hInStepRefIdeal : Cert.InStepRefIdeal.Facts] : Prop :=
  ∀ (m : (ℓ : Loc Cert.InStepRefIdeal.nD Cert.InStepRefIdeal.τ Cert.InStepRefIdeal.sig) → Buf (Elt Ideal) ℓ) (g : Dev Cert.InStepRefIdeal.nD → PrngReg), Pre_InStepRefIdeal m →
    θ_run (Cert.InStepRefIdeal.defs (F := Ideal)) (onTc (τ := Cert.InStepRefIdeal.τ) (Cert.InStepRefIdeal.main (F := Ideal))) ⟨m, fun _ => 0, g⟩ (fun r => (∀ c : Dev Cert.InStepRefIdeal.nD,
      r.2.mem ((c.tc : Thread Cert.InStepRefIdeal.nD Cert.InStepRefIdeal.τ).loc Cert.InStepRefIdeal.main_arg0) = m ((c.tc : Thread Cert.InStepRefIdeal.nD Cert.InStepRefIdeal.τ).loc Cert.InStepRefIdeal.main_arg0)
      ∧ r.2.mem ((c.tc : Thread Cert.InStepRefIdeal.nD Cert.InStepRefIdeal.τ).loc Cert.InStepRefIdeal.main_arg1) = m ((c.tc : Thread Cert.InStepRefIdeal.nD Cert.InStepRefIdeal.τ).loc Cert.InStepRefIdeal.main_arg1)
      ∧ r.2.mem ((c.tc : Thread Cert.InStepRefIdeal.nD Cert.InStepRefIdeal.τ).loc Cert.InStepRefIdeal.main_arg2) = m ((c.tc : Thread Cert.InStepRefIdeal.nD Cert.InStepRefIdeal.τ).loc Cert.InStepRefIdeal.main_arg2)
      ∧ r.2.mem ((c.tc : Thread Cert.InStepRefIdeal.nD Cert.InStepRefIdeal.τ).loc Cert.InStepRefIdeal.main_arg3) = m ((c.tc : Thread Cert.InStepRefIdeal.nD Cert.InStepRefIdeal.τ).loc Cert.InStepRefIdeal.main_arg3)
      ∧ r.2.mem ((c.tc : Thread Cert.InStepRefIdeal.nD Cert.InStepRefIdeal.τ).loc Cert.InStepRefIdeal.main_arg4) = m ((c.tc : Thread Cert.InStepRefIdeal.nD Cert.InStepRefIdeal.τ).loc Cert.InStepRefIdeal.main_arg4)
      ∧ r.2.mem ((c.tc : Thread Cert.InStepRefIdeal.nD Cert.InStepRefIdeal.τ).loc Cert.InStepRefIdeal.main_arg5) = m ((c.tc : Thread Cert.InStepRefIdeal.nD Cert.InStepRefIdeal.τ).loc Cert.InStepRefIdeal.main_arg5)
      ∧ r.2.mem ((c.tc : Thread Cert.InStepRefIdeal.nD Cert.InStepRefIdeal.τ).loc Cert.InStepRefIdeal.main_arg6) = m ((c.tc : Thread Cert.InStepRefIdeal.nD Cert.InStepRefIdeal.τ).loc Cert.InStepRefIdeal.main_arg6)
      ∧ r.2.mem ((c.tc : Thread Cert.InStepRefIdeal.nD Cert.InStepRefIdeal.τ).loc Cert.InStepRefIdeal.main_arg7) = m ((c.tc : Thread Cert.InStepRefIdeal.nD Cert.InStepRefIdeal.τ).loc Cert.InStepRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_finite_rows [hPoolIdeal : Cert.PoolIdeal.Facts] [hPre_finite_rows : Cert.Pre_finite_rows.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_rows m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_finite_rows [hPoolRefIdeal : Cert.PoolRefIdeal.Facts] [hPre_finite_rows : Cert.Pre_finite_rows.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_rows m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v10) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_v35) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_GlaStep_GlaStepIdeal : Prop :=
  True

def algebraic_GlaStepIdeal_GlaStepRefIdeal_pre_finite_gates [hGlaStepIdeal : Cert.GlaStepIdeal.Facts] [hGlaStepRefIdeal : Cert.GlaStepRefIdeal.Facts] [hPre_finite_gates : Cert.Pre_finite_gates.Facts] : Prop :=
  ∀ (m : (ℓ : Loc Cert.GlaStepIdeal.nD Cert.GlaStepIdeal.τ Cert.GlaStepIdeal.sig) → Buf (Elt Ideal) ℓ) (g : Dev Cert.GlaStepIdeal.nD → PrngReg)
    (m' : (ℓ : Loc Cert.GlaStepRefIdeal.nD Cert.GlaStepRefIdeal.τ Cert.GlaStepRefIdeal.sig) → Buf (Elt Ideal) ℓ) (g' : Dev Cert.GlaStepRefIdeal.nD → PrngReg), Pre_GlaStepIdeal_finite_gates m →
    (∀ c : Dev Cert.GlaStepIdeal.nD,
      m' ((c.tc : Thread Cert.GlaStepRefIdeal.nD Cert.GlaStepRefIdeal.τ).loc Cert.GlaStepRefIdeal.main_arg0) = m ((c.tc : Thread Cert.GlaStepIdeal.nD Cert.GlaStepIdeal.τ).loc Cert.GlaStepIdeal.main_arg0)
      ∧ m' ((c.tc : Thread Cert.GlaStepRefIdeal.nD Cert.GlaStepRefIdeal.τ).loc Cert.GlaStepRefIdeal.main_arg1) = m ((c.tc : Thread Cert.GlaStepIdeal.nD Cert.GlaStepIdeal.τ).loc Cert.GlaStepIdeal.main_arg1)
      ∧ m' ((c.tc : Thread Cert.GlaStepRefIdeal.nD Cert.GlaStepRefIdeal.τ).loc Cert.GlaStepRefIdeal.main_arg2) = m ((c.tc : Thread Cert.GlaStepIdeal.nD Cert.GlaStepIdeal.τ).loc Cert.GlaStepIdeal.main_arg2)
      ∧ m' ((c.tc : Thread Cert.GlaStepRefIdeal.nD Cert.GlaStepRefIdeal.τ).loc Cert.GlaStepRefIdeal.main_arg3) = m ((c.tc : Thread Cert.GlaStepIdeal.nD Cert.GlaStepIdeal.τ).loc Cert.GlaStepIdeal.main_arg3)
      ∧ m' ((c.tc : Thread Cert.GlaStepRefIdeal.nD Cert.GlaStepRefIdeal.τ).loc Cert.GlaStepRefIdeal.main_arg4) = m ((c.tc : Thread Cert.GlaStepIdeal.nD Cert.GlaStepIdeal.τ).loc Cert.GlaStepIdeal.main_arg4)
      ∧ m' ((c.tc : Thread Cert.GlaStepRefIdeal.nD Cert.GlaStepRefIdeal.τ).loc Cert.GlaStepRefIdeal.main_arg5) = m ((c.tc : Thread Cert.GlaStepIdeal.nD Cert.GlaStepIdeal.τ).loc Cert.GlaStepIdeal.main_arg5)
      ∧ m' ((c.tc : Thread Cert.GlaStepRefIdeal.nD Cert.GlaStepRefIdeal.τ).loc Cert.GlaStepRefIdeal.main_arg6) = m ((c.tc : Thread Cert.GlaStepIdeal.nD Cert.GlaStepIdeal.τ).loc Cert.GlaStepIdeal.main_arg6)) →
    ∃ (v0 : (c : Dev Cert.GlaStepIdeal.nD) → Buf (Elt Ideal) ((c.tc : Thread Cert.GlaStepIdeal.nD Cert.GlaStepIdeal.τ).loc Cert.GlaStepIdeal.main_v10)) (v1 : (c : Dev Cert.GlaStepIdeal.nD) → Buf (Elt Ideal) ((c.tc : Thread Cert.GlaStepIdeal.nD Cert.GlaStepIdeal.τ).loc Cert.GlaStepIdeal.main_v11)),
      θ_run (Cert.GlaStepIdeal.defs (F := Ideal)) (onTc (τ := Cert.GlaStepIdeal.τ) (Cert.GlaStepIdeal.main (F := Ideal))) ⟨m, fun _ => 0, g⟩ (fun r => ∀ c : Dev Cert.GlaStepIdeal.nD,
          r.2.mem ((c.tc : Thread Cert.GlaStepIdeal.nD Cert.GlaStepIdeal.τ).loc Cert.GlaStepIdeal.main_v10) = v0 c
          ∧ r.2.mem ((c.tc : Thread Cert.GlaStepIdeal.nD Cert.GlaStepIdeal.τ).loc Cert.GlaStepIdeal.main_v11) = v1 c
          ∧ r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
          ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
          ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
          ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
          ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4)
          ∧ r.2.mem ((c.tc : Thread Cert.GlaStepIdeal.nD Cert.GlaStepIdeal.τ).loc Cert.GlaStepIdeal.main_arg5) = m ((c.tc : Thread Cert.GlaStepIdeal.nD Cert.GlaStepIdeal.τ).loc Cert.GlaStepIdeal.main_arg5)
          ∧ r.2.mem ((c.tc : Thread Cert.GlaStepIdeal.nD Cert.GlaStepIdeal.τ).loc Cert.GlaStepIdeal.main_arg6) = m ((c.tc : Thread Cert.GlaStepIdeal.nD Cert.GlaStepIdeal.τ).loc Cert.GlaStepIdeal.main_arg6))
      ∧ θ_run (Cert.GlaStepRefIdeal.defs (F := Ideal)) (onTc (τ := Cert.GlaStepRefIdeal.τ) (Cert.GlaStepRefIdeal.main (F := Ideal))) ⟨m', fun _ => 0, g'⟩ (fun r => ∀ c : Dev Cert.GlaStepRefIdeal.nD,
          r.2.mem ((c.tc : Thread Cert.GlaStepRefIdeal.nD Cert.GlaStepRefIdeal.τ).loc Cert.GlaStepRefIdeal.main_v53) = v0 c
          ∧ r.2.mem ((c.tc : Thread Cert.GlaStepRefIdeal.nD Cert.GlaStepRefIdeal.τ).loc Cert.GlaStepRefIdeal.main_v32) = v1 c
          ∧ r.2.mem ((c.tc : Thread Cert.GlaStepRefIdeal.nD Cert.GlaStepRefIdeal.τ).loc Cert.GlaStepRefIdeal.main_arg0) = m' ((c.tc : Thread Cert.GlaStepRefIdeal.nD Cert.GlaStepRefIdeal.τ).loc Cert.GlaStepRefIdeal.main_arg0)
          ∧ r.2.mem ((c.tc : Thread Cert.GlaStepRefIdeal.nD Cert.GlaStepRefIdeal.τ).loc Cert.GlaStepRefIdeal.main_arg1) = m' ((c.tc : Thread Cert.GlaStepRefIdeal.nD Cert.GlaStepRefIdeal.τ).loc Cert.GlaStepRefIdeal.main_arg1)
          ∧ r.2.mem ((c.tc : Thread Cert.GlaStepRefIdeal.nD Cert.GlaStepRefIdeal.τ).loc Cert.GlaStepRefIdeal.main_arg2) = m' ((c.tc : Thread Cert.GlaStepRefIdeal.nD Cert.GlaStepRefIdeal.τ).loc Cert.GlaStepRefIdeal.main_arg2)
          ∧ r.2.mem ((c.tc : Thread Cert.GlaStepRefIdeal.nD Cert.GlaStepRefIdeal.τ).loc Cert.GlaStepRefIdeal.main_arg3) = m' ((c.tc : Thread Cert.GlaStepRefIdeal.nD Cert.GlaStepRefIdeal.τ).loc Cert.GlaStepRefIdeal.main_arg3)
          ∧ r.2.mem ((c.tc : Thread Cert.GlaStepRefIdeal.nD Cert.GlaStepRefIdeal.τ).loc Cert.GlaStepRefIdeal.main_arg4) = m' ((c.tc : Thread Cert.GlaStepRefIdeal.nD Cert.GlaStepRefIdeal.τ).loc Cert.GlaStepRefIdeal.main_arg4)
          ∧ r.2.mem ((c.tc : Thread Cert.GlaStepRefIdeal.nD Cert.GlaStepRefIdeal.τ).loc Cert.GlaStepRefIdeal.main_arg5) = m' ((c.tc : Thread Cert.GlaStepRefIdeal.nD Cert.GlaStepRefIdeal.τ).loc Cert.GlaStepRefIdeal.main_arg5)
          ∧ r.2.mem ((c.tc : Thread Cert.GlaStepRefIdeal.nD Cert.GlaStepRefIdeal.τ).loc Cert.GlaStepRefIdeal.main_arg6) = m' ((c.tc : Thread Cert.GlaStepRefIdeal.nD Cert.GlaStepRefIdeal.τ).loc Cert.GlaStepRefIdeal.main_arg6))

def preserves_FfnStep_FfnStepIdeal : Prop :=
  True

def algebraic_FfnStepIdeal_FfnStepRefIdeal [hFfnStepIdeal : Cert.FfnStepIdeal.Facts] [hFfnStepRefIdeal : Cert.FfnStepRefIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepRefIdeal.nD Cert.FfnStepRefIdeal.τ Cert.FfnStepRefIdeal.sig) → Buf (Elt Ideal) ℓ) (g' : Dev Cert.FfnStepRefIdeal.nD → PrngReg), Pre_FfnStepIdeal m →
    (∀ c : Dev Cert.FfnStepIdeal.nD,
      m' ((c.tc : Thread Cert.FfnStepRefIdeal.nD Cert.FfnStepRefIdeal.τ).loc Cert.FfnStepRefIdeal.main_arg0) = m ((c.tc : Thread Cert.FfnStepIdeal.nD Cert.FfnStepIdeal.τ).loc Cert.FfnStepIdeal.main_arg0)
      ∧ m' ((c.tc : Thread Cert.FfnStepRefIdeal.nD Cert.FfnStepRefIdeal.τ).loc Cert.FfnStepRefIdeal.main_arg1) = m ((c.tc : Thread Cert.FfnStepIdeal.nD Cert.FfnStepIdeal.τ).loc Cert.FfnStepIdeal.main_arg1)
      ∧ m' ((c.tc : Thread Cert.FfnStepRefIdeal.nD Cert.FfnStepRefIdeal.τ).loc Cert.FfnStepRefIdeal.main_arg2) = m ((c.tc : Thread Cert.FfnStepIdeal.nD Cert.FfnStepIdeal.τ).loc Cert.FfnStepIdeal.main_arg2)
      ∧ m' ((c.tc : Thread Cert.FfnStepRefIdeal.nD Cert.FfnStepRefIdeal.τ).loc Cert.FfnStepRefIdeal.main_arg3) = m ((c.tc : Thread Cert.FfnStepIdeal.nD Cert.FfnStepIdeal.τ).loc Cert.FfnStepIdeal.main_arg3)
      ∧ m' ((c.tc : Thread Cert.FfnStepRefIdeal.nD Cert.FfnStepRefIdeal.τ).loc Cert.FfnStepRefIdeal.main_arg4) = m ((c.tc : Thread Cert.FfnStepIdeal.nD Cert.FfnStepIdeal.τ).loc Cert.FfnStepIdeal.main_arg4)
      ∧ m' ((c.tc : Thread Cert.FfnStepRefIdeal.nD Cert.FfnStepRefIdeal.τ).loc Cert.FfnStepRefIdeal.main_arg5) = m ((c.tc : Thread Cert.FfnStepIdeal.nD Cert.FfnStepIdeal.τ).loc Cert.FfnStepIdeal.main_arg5)
      ∧ m' ((c.tc : Thread Cert.FfnStepRefIdeal.nD Cert.FfnStepRefIdeal.τ).loc Cert.FfnStepRefIdeal.main_arg6) = m ((c.tc : Thread Cert.FfnStepIdeal.nD Cert.FfnStepIdeal.τ).loc Cert.FfnStepIdeal.main_arg6)) →
    ∃ (v0 : (c : Dev Cert.FfnStepIdeal.nD) → Buf (Elt Ideal) ((c.tc : Thread Cert.FfnStepIdeal.nD Cert.FfnStepIdeal.τ).loc Cert.FfnStepIdeal.main_v8_0)) (v1 : (c : Dev Cert.FfnStepIdeal.nD) → Buf (Elt Ideal) ((c.tc : Thread Cert.FfnStepIdeal.nD Cert.FfnStepIdeal.τ).loc Cert.FfnStepIdeal.main_v11)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v8_0) = v0 c
          ∧ r.2.mem ((c.tc : Thread Cert.FfnStepIdeal.nD Cert.FfnStepIdeal.τ).loc Cert.FfnStepIdeal.main_v11) = v1 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
          ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6))
      ∧ θ_run (Cert.FfnStepRefIdeal.defs (F := Ideal)) (onTc (τ := Cert.FfnStepRefIdeal.τ) (Cert.FfnStepRefIdeal.main (F := Ideal))) ⟨m', fun _ => 0, g'⟩ (fun r => ∀ c : Dev Cert.FfnStepRefIdeal.nD,
          r.2.mem ((c.tc : Thread Cert.FfnStepRefIdeal.nD Cert.FfnStepRefIdeal.τ).loc Cert.FfnStepRefIdeal.main_v33) = v0 c
          ∧ r.2.mem ((c.tc : Thread Cert.FfnStepRefIdeal.nD Cert.FfnStepRefIdeal.τ).loc Cert.FfnStepRefIdeal.main_v34) = v1 c
          ∧ r.2.mem ((c.tc : Thread Cert.FfnStepRefIdeal.nD Cert.FfnStepRefIdeal.τ).loc Cert.FfnStepRefIdeal.main_arg0) = m' ((c.tc : Thread Cert.FfnStepRefIdeal.nD Cert.FfnStepRefIdeal.τ).loc Cert.FfnStepRefIdeal.main_arg0)
          ∧ r.2.mem ((c.tc : Thread Cert.FfnStepRefIdeal.nD Cert.FfnStepRefIdeal.τ).loc Cert.FfnStepRefIdeal.main_arg1) = m' ((c.tc : Thread Cert.FfnStepRefIdeal.nD Cert.FfnStepRefIdeal.τ).loc Cert.FfnStepRefIdeal.main_arg1)
          ∧ r.2.mem ((c.tc : Thread Cert.FfnStepRefIdeal.nD Cert.FfnStepRefIdeal.τ).loc Cert.FfnStepRefIdeal.main_arg2) = m' ((c.tc : Thread Cert.FfnStepRefIdeal.nD Cert.FfnStepRefIdeal.τ).loc Cert.FfnStepRefIdeal.main_arg2)
          ∧ r.2.mem ((c.tc : Thread Cert.FfnStepRefIdeal.nD Cert.FfnStepRefIdeal.τ).loc Cert.FfnStepRefIdeal.main_arg3) = m' ((c.tc : Thread Cert.FfnStepRefIdeal.nD Cert.FfnStepRefIdeal.τ).loc Cert.FfnStepRefIdeal.main_arg3)
          ∧ r.2.mem ((c.tc : Thread Cert.FfnStepRefIdeal.nD Cert.FfnStepRefIdeal.τ).loc Cert.FfnStepRefIdeal.main_arg4) = m' ((c.tc : Thread Cert.FfnStepRefIdeal.nD Cert.FfnStepRefIdeal.τ).loc Cert.FfnStepRefIdeal.main_arg4)
          ∧ r.2.mem ((c.tc : Thread Cert.FfnStepRefIdeal.nD Cert.FfnStepRefIdeal.τ).loc Cert.FfnStepRefIdeal.main_arg5) = m' ((c.tc : Thread Cert.FfnStepRefIdeal.nD Cert.FfnStepRefIdeal.τ).loc Cert.FfnStepRefIdeal.main_arg5)
          ∧ r.2.mem ((c.tc : Thread Cert.FfnStepRefIdeal.nD Cert.FfnStepRefIdeal.τ).loc Cert.FfnStepRefIdeal.main_arg6) = m' ((c.tc : Thread Cert.FfnStepRefIdeal.nD Cert.FfnStepRefIdeal.τ).loc Cert.FfnStepRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v27_0)) (v1 : (c : Dev Cert.InProjIdeal.nD) → Buf (Elt Ideal) ((c.tc : Thread Cert.InProjIdeal.nD Cert.InProjIdeal.τ).loc Cert.InProjIdeal.main_v27_1)) (v2 : (c : Dev Cert.InProjIdeal.nD) → Buf (Elt Ideal) ((c.tc : Thread Cert.InProjIdeal.nD Cert.InProjIdeal.τ).loc Cert.InProjIdeal.main_v27_2)) (v3 : (c : Dev Cert.InProjIdeal.nD) → Buf (Elt Ideal) ((c.tc : Thread Cert.InProjIdeal.nD Cert.InProjIdeal.τ).loc Cert.InProjIdeal.main_v29)) (v4 : (c : Dev Cert.InProjIdeal.nD) → Buf (Elt Ideal) ((c.tc : Thread Cert.InProjIdeal.nD Cert.InProjIdeal.τ).loc Cert.InProjIdeal.main_v32)) (v5 : (c : Dev Cert.InProjIdeal.nD) → Buf (Elt Ideal) ((c.tc : Thread Cert.InProjIdeal.nD Cert.InProjIdeal.τ).loc Cert.InProjIdeal.main_v27_5)) (v6 : (c : Dev Cert.InProjIdeal.nD) → Buf (Elt Ideal) ((c.tc : Thread Cert.InProjIdeal.nD Cert.InProjIdeal.τ).loc Cert.InProjIdeal.main_v27_6)) (v7 : (c : Dev Cert.InProjIdeal.nD) → Buf (Elt Ideal) ((c.tc : Thread Cert.InProjIdeal.nD Cert.InProjIdeal.τ).loc Cert.InProjIdeal.main_v27_7)) (v8 : (c : Dev Cert.InProjIdeal.nD) → Buf (Elt Ideal) ((c.tc : Thread Cert.InProjIdeal.nD Cert.InProjIdeal.τ).loc Cert.InProjIdeal.main_v27_8)) (v9 : (c : Dev Cert.InProjIdeal.nD) → Buf (Elt Ideal) ((c.tc : Thread Cert.InProjIdeal.nD Cert.InProjIdeal.τ).loc Cert.InProjIdeal.main_v27_9)) (v10 : (c : Dev Cert.InProjIdeal.nD) → Buf (Elt Ideal) ((c.tc : Thread Cert.InProjIdeal.nD Cert.InProjIdeal.τ).loc Cert.InProjIdeal.main_v27_10)) (v11 : (c : Dev Cert.InProjIdeal.nD) → Buf (Elt Ideal) ((c.tc : Thread Cert.InProjIdeal.nD Cert.InProjIdeal.τ).loc Cert.InProjIdeal.main_v31)) (v12 : (c : Dev Cert.InProjIdeal.nD) → Buf (Elt Ideal) ((c.tc : Thread Cert.InProjIdeal.nD Cert.InProjIdeal.τ).loc Cert.InProjIdeal.main_v27_11)) (v13 : (c : Dev Cert.InProjIdeal.nD) → Buf (Elt Ideal) ((c.tc : Thread Cert.InProjIdeal.nD Cert.InProjIdeal.τ).loc Cert.InProjIdeal.main_v27_12)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v27_0) = v0 c
          ∧ r.2.mem ((c.tc : Thread Cert.InProjIdeal.nD Cert.InProjIdeal.τ).loc Cert.InProjIdeal.main_v27_1) = v1 c
          ∧ r.2.mem ((c.tc : Thread Cert.InProjIdeal.nD Cert.InProjIdeal.τ).loc Cert.InProjIdeal.main_v27_2) = v2 c
          ∧ r.2.mem ((c.tc : Thread Cert.InProjIdeal.nD Cert.InProjIdeal.τ).loc Cert.InProjIdeal.main_v29) = v3 c
          ∧ r.2.mem ((c.tc : Thread Cert.InProjIdeal.nD Cert.InProjIdeal.τ).loc Cert.InProjIdeal.main_v32) = v4 c
          ∧ r.2.mem ((c.tc : Thread Cert.InProjIdeal.nD Cert.InProjIdeal.τ).loc Cert.InProjIdeal.main_v27_5) = v5 c
          ∧ r.2.mem ((c.tc : Thread Cert.InProjIdeal.nD Cert.InProjIdeal.τ).loc Cert.InProjIdeal.main_v27_6) = v6 c
          ∧ r.2.mem ((c.tc : Thread Cert.InProjIdeal.nD Cert.InProjIdeal.τ).loc Cert.InProjIdeal.main_v27_7) = v7 c
          ∧ r.2.mem ((c.tc : Thread Cert.InProjIdeal.nD Cert.InProjIdeal.τ).loc Cert.InProjIdeal.main_v27_8) = v8 c
          ∧ r.2.mem ((c.tc : Thread Cert.InProjIdeal.nD Cert.InProjIdeal.τ).loc Cert.InProjIdeal.main_v27_9) = v9 c
          ∧ r.2.mem ((c.tc : Thread Cert.InProjIdeal.nD Cert.InProjIdeal.τ).loc Cert.InProjIdeal.main_v27_10) = v10 c
          ∧ r.2.mem ((c.tc : Thread Cert.InProjIdeal.nD Cert.InProjIdeal.τ).loc Cert.InProjIdeal.main_v31) = v11 c
          ∧ r.2.mem ((c.tc : Thread Cert.InProjIdeal.nD Cert.InProjIdeal.τ).loc Cert.InProjIdeal.main_v27_11) = v12 c
          ∧ r.2.mem ((c.tc : Thread Cert.InProjIdeal.nD Cert.InProjIdeal.τ).loc Cert.InProjIdeal.main_v27_12) = v13 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v100) = v0 c
          ∧ r.2.mem ((c.tc : Thread Cert.InProjRefIdeal.nD Cert.InProjRefIdeal.τ).loc Cert.InProjRefIdeal.main_v101) = v1 c
          ∧ r.2.mem ((c.tc : Thread Cert.InProjRefIdeal.nD Cert.InProjRefIdeal.τ).loc Cert.InProjRefIdeal.main_v102) = v2 c
          ∧ r.2.mem ((c.tc : Thread Cert.InProjRefIdeal.nD Cert.InProjRefIdeal.τ).loc Cert.InProjRefIdeal.main_v104) = v3 c
          ∧ r.2.mem ((c.tc : Thread Cert.InProjRefIdeal.nD Cert.InProjRefIdeal.τ).loc Cert.InProjRefIdeal.main_v105) = v4 c
          ∧ r.2.mem ((c.tc : Thread Cert.InProjRefIdeal.nD Cert.InProjRefIdeal.τ).loc Cert.InProjRefIdeal.main_v106) = v5 c
          ∧ r.2.mem ((c.tc : Thread Cert.InProjRefIdeal.nD Cert.InProjRefIdeal.τ).loc Cert.InProjRefIdeal.main_v107) = v6 c
          ∧ r.2.mem ((c.tc : Thread Cert.InProjRefIdeal.nD Cert.InProjRefIdeal.τ).loc Cert.InProjRefIdeal.main_v108) = v7 c
          ∧ r.2.mem ((c.tc : Thread Cert.InProjRefIdeal.nD Cert.InProjRefIdeal.τ).loc Cert.InProjRefIdeal.main_v109) = v8 c
          ∧ r.2.mem ((c.tc : Thread Cert.InProjRefIdeal.nD Cert.InProjRefIdeal.τ).loc Cert.InProjRefIdeal.main_v110) = v9 c
          ∧ r.2.mem ((c.tc : Thread Cert.InProjRefIdeal.nD Cert.InProjRefIdeal.τ).loc Cert.InProjRefIdeal.main_v111) = v10 c
          ∧ r.2.mem ((c.tc : Thread Cert.InProjRefIdeal.nD Cert.InProjRefIdeal.τ).loc Cert.InProjRefIdeal.main_v112) = v11 c
          ∧ r.2.mem ((c.tc : Thread Cert.InProjRefIdeal.nD Cert.InProjRefIdeal.τ).loc Cert.InProjRefIdeal.main_v114) = v12 c
          ∧ r.2.mem ((c.tc : Thread Cert.InProjRefIdeal.nD Cert.InProjRefIdeal.τ).loc Cert.InProjRefIdeal.main_v116) = v13 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_InStep_InStepIdeal : Prop :=
  True

def algebraic_InStepIdeal_InStepRefIdeal [hInStepIdeal : Cert.InStepIdeal.Facts] [hInStepRefIdeal : Cert.InStepRefIdeal.Facts] : Prop :=
  ∀ (m : (ℓ : Loc Cert.InStepIdeal.nD Cert.InStepIdeal.τ Cert.InStepIdeal.sig) → Buf (Elt Ideal) ℓ) (g : Dev Cert.InStepIdeal.nD → PrngReg)
    (m' : (ℓ : Loc Cert.InStepRefIdeal.nD Cert.InStepRefIdeal.τ Cert.InStepRefIdeal.sig) → Buf (Elt Ideal) ℓ) (g' : Dev Cert.InStepRefIdeal.nD → PrngReg), Pre_InStepIdeal m →
    (∀ c : Dev Cert.InStepIdeal.nD,
      m' ((c.tc : Thread Cert.InStepRefIdeal.nD Cert.InStepRefIdeal.τ).loc Cert.InStepRefIdeal.main_arg0) = m ((c.tc : Thread Cert.InStepIdeal.nD Cert.InStepIdeal.τ).loc Cert.InStepIdeal.main_arg0)
      ∧ m' ((c.tc : Thread Cert.InStepRefIdeal.nD Cert.InStepRefIdeal.τ).loc Cert.InStepRefIdeal.main_arg1) = m ((c.tc : Thread Cert.InStepIdeal.nD Cert.InStepIdeal.τ).loc Cert.InStepIdeal.main_arg1)
      ∧ m' ((c.tc : Thread Cert.InStepRefIdeal.nD Cert.InStepRefIdeal.τ).loc Cert.InStepRefIdeal.main_arg2) = m ((c.tc : Thread Cert.InStepIdeal.nD Cert.InStepIdeal.τ).loc Cert.InStepIdeal.main_arg2)
      ∧ m' ((c.tc : Thread Cert.InStepRefIdeal.nD Cert.InStepRefIdeal.τ).loc Cert.InStepRefIdeal.main_arg3) = m ((c.tc : Thread Cert.InStepIdeal.nD Cert.InStepIdeal.τ).loc Cert.InStepIdeal.main_arg3)
      ∧ m' ((c.tc : Thread Cert.InStepRefIdeal.nD Cert.InStepRefIdeal.τ).loc Cert.InStepRefIdeal.main_arg4) = m ((c.tc : Thread Cert.InStepIdeal.nD Cert.InStepIdeal.τ).loc Cert.InStepIdeal.main_arg4)
      ∧ m' ((c.tc : Thread Cert.InStepRefIdeal.nD Cert.InStepRefIdeal.τ).loc Cert.InStepRefIdeal.main_arg5) = m ((c.tc : Thread Cert.InStepIdeal.nD Cert.InStepIdeal.τ).loc Cert.InStepIdeal.main_arg5)
      ∧ m' ((c.tc : Thread Cert.InStepRefIdeal.nD Cert.InStepRefIdeal.τ).loc Cert.InStepRefIdeal.main_arg6) = m ((c.tc : Thread Cert.InStepIdeal.nD Cert.InStepIdeal.τ).loc Cert.InStepIdeal.main_arg6)
      ∧ m' ((c.tc : Thread Cert.InStepRefIdeal.nD Cert.InStepRefIdeal.τ).loc Cert.InStepRefIdeal.main_arg7) = m ((c.tc : Thread Cert.InStepIdeal.nD Cert.InStepIdeal.τ).loc Cert.InStepIdeal.main_arg7)) →
    ∃ (v0 : (c : Dev Cert.InStepIdeal.nD) → Buf (Elt Ideal) ((c.tc : Thread Cert.InStepIdeal.nD Cert.InStepIdeal.τ).loc Cert.InStepIdeal.main_v27_0)) (v1 : (c : Dev Cert.InStepIdeal.nD) → Buf (Elt Ideal) ((c.tc : Thread Cert.InStepIdeal.nD Cert.InStepIdeal.τ).loc Cert.InStepIdeal.main_v27_1)) (v2 : (c : Dev Cert.InStepIdeal.nD) → Buf (Elt Ideal) ((c.tc : Thread Cert.InStepIdeal.nD Cert.InStepIdeal.τ).loc Cert.InStepIdeal.main_v27_2)) (v3 : (c : Dev Cert.InStepIdeal.nD) → Buf (Elt Ideal) ((c.tc : Thread Cert.InStepIdeal.nD Cert.InStepIdeal.τ).loc Cert.InStepIdeal.main_v27_3)) (v4 : (c : Dev Cert.InStepIdeal.nD) → Buf (Elt Ideal) ((c.tc : Thread Cert.InStepIdeal.nD Cert.InStepIdeal.τ).loc Cert.InStepIdeal.main_v31)) (v5 : (c : Dev Cert.InStepIdeal.nD) → Buf (Elt Ideal) ((c.tc : Thread Cert.InStepIdeal.nD Cert.InStepIdeal.τ).loc Cert.InStepIdeal.main_v27_5)) (v6 : (c : Dev Cert.InStepIdeal.nD) → Buf (Elt Ideal) ((c.tc : Thread Cert.InStepIdeal.nD Cert.InStepIdeal.τ).loc Cert.InStepIdeal.main_v27_6)) (v7 : (c : Dev Cert.InStepIdeal.nD) → Buf (Elt Ideal) ((c.tc : Thread Cert.InStepIdeal.nD Cert.InStepIdeal.τ).loc Cert.InStepIdeal.main_v27_7)) (v8 : (c : Dev Cert.InStepIdeal.nD) → Buf (Elt Ideal) ((c.tc : Thread Cert.InStepIdeal.nD Cert.InStepIdeal.τ).loc Cert.InStepIdeal.main_v27_8)) (v9 : (c : Dev Cert.InStepIdeal.nD) → Buf (Elt Ideal) ((c.tc : Thread Cert.InStepIdeal.nD Cert.InStepIdeal.τ).loc Cert.InStepIdeal.main_v27_9)) (v10 : (c : Dev Cert.InStepIdeal.nD) → Buf (Elt Ideal) ((c.tc : Thread Cert.InStepIdeal.nD Cert.InStepIdeal.τ).loc Cert.InStepIdeal.main_v27_10)) (v11 : (c : Dev Cert.InStepIdeal.nD) → Buf (Elt Ideal) ((c.tc : Thread Cert.InStepIdeal.nD Cert.InStepIdeal.τ).loc Cert.InStepIdeal.main_v30)),
      θ_run (Cert.InStepIdeal.defs (F := Ideal)) (onTc (τ := Cert.InStepIdeal.τ) (Cert.InStepIdeal.main (F := Ideal))) ⟨m, fun _ => 0, g⟩ (fun r => ∀ c : Dev Cert.InStepIdeal.nD,
          r.2.mem ((c.tc : Thread Cert.InStepIdeal.nD Cert.InStepIdeal.τ).loc Cert.InStepIdeal.main_v27_0) = v0 c
          ∧ r.2.mem ((c.tc : Thread Cert.InStepIdeal.nD Cert.InStepIdeal.τ).loc Cert.InStepIdeal.main_v27_1) = v1 c
          ∧ r.2.mem ((c.tc : Thread Cert.InStepIdeal.nD Cert.InStepIdeal.τ).loc Cert.InStepIdeal.main_v27_2) = v2 c
          ∧ r.2.mem ((c.tc : Thread Cert.InStepIdeal.nD Cert.InStepIdeal.τ).loc Cert.InStepIdeal.main_v27_3) = v3 c
          ∧ r.2.mem ((c.tc : Thread Cert.InStepIdeal.nD Cert.InStepIdeal.τ).loc Cert.InStepIdeal.main_v31) = v4 c
          ∧ r.2.mem ((c.tc : Thread Cert.InStepIdeal.nD Cert.InStepIdeal.τ).loc Cert.InStepIdeal.main_v27_5) = v5 c
          ∧ r.2.mem ((c.tc : Thread Cert.InStepIdeal.nD Cert.InStepIdeal.τ).loc Cert.InStepIdeal.main_v27_6) = v6 c
          ∧ r.2.mem ((c.tc : Thread Cert.InStepIdeal.nD Cert.InStepIdeal.τ).loc Cert.InStepIdeal.main_v27_7) = v7 c
          ∧ r.2.mem ((c.tc : Thread Cert.InStepIdeal.nD Cert.InStepIdeal.τ).loc Cert.InStepIdeal.main_v27_8) = v8 c
          ∧ r.2.mem ((c.tc : Thread Cert.InStepIdeal.nD Cert.InStepIdeal.τ).loc Cert.InStepIdeal.main_v27_9) = v9 c
          ∧ r.2.mem ((c.tc : Thread Cert.InStepIdeal.nD Cert.InStepIdeal.τ).loc Cert.InStepIdeal.main_v27_10) = v10 c
          ∧ r.2.mem ((c.tc : Thread Cert.InStepIdeal.nD Cert.InStepIdeal.τ).loc Cert.InStepIdeal.main_v30) = v11 c
          ∧ r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
          ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
          ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
          ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3)
          ∧ r.2.mem ((c.tc : Thread Cert.InStepIdeal.nD Cert.InStepIdeal.τ).loc Cert.InStepIdeal.main_arg4) = m ((c.tc : Thread Cert.InStepIdeal.nD Cert.InStepIdeal.τ).loc Cert.InStepIdeal.main_arg4)
          ∧ r.2.mem ((c.tc : Thread Cert.InStepIdeal.nD Cert.InStepIdeal.τ).loc Cert.InStepIdeal.main_arg5) = m ((c.tc : Thread Cert.InStepIdeal.nD Cert.InStepIdeal.τ).loc Cert.InStepIdeal.main_arg5)
          ∧ r.2.mem ((c.tc : Thread Cert.InStepIdeal.nD Cert.InStepIdeal.τ).loc Cert.InStepIdeal.main_arg6) = m ((c.tc : Thread Cert.InStepIdeal.nD Cert.InStepIdeal.τ).loc Cert.InStepIdeal.main_arg6)
          ∧ r.2.mem ((c.tc : Thread Cert.InStepIdeal.nD Cert.InStepIdeal.τ).loc Cert.InStepIdeal.main_arg7) = m ((c.tc : Thread Cert.InStepIdeal.nD Cert.InStepIdeal.τ).loc Cert.InStepIdeal.main_arg7))
      ∧ θ_run (Cert.InStepRefIdeal.defs (F := Ideal)) (onTc (τ := Cert.InStepRefIdeal.τ) (Cert.InStepRefIdeal.main (F := Ideal))) ⟨m', fun _ => 0, g'⟩ (fun r => ∀ c : Dev Cert.InStepRefIdeal.nD,
          r.2.mem ((c.tc : Thread Cert.InStepRefIdeal.nD Cert.InStepRefIdeal.τ).loc Cert.InStepRefIdeal.main_v102) = v0 c
          ∧ r.2.mem ((c.tc : Thread Cert.InStepRefIdeal.nD Cert.InStepRefIdeal.τ).loc Cert.InStepRefIdeal.main_v103) = v1 c
          ∧ r.2.mem ((c.tc : Thread Cert.InStepRefIdeal.nD Cert.InStepRefIdeal.τ).loc Cert.InStepRefIdeal.main_v104) = v2 c
          ∧ r.2.mem ((c.tc : Thread Cert.InStepRefIdeal.nD Cert.InStepRefIdeal.τ).loc Cert.InStepRefIdeal.main_v105) = v3 c
          ∧ r.2.mem ((c.tc : Thread Cert.InStepRefIdeal.nD Cert.InStepRefIdeal.τ).loc Cert.InStepRefIdeal.main_v106) = v4 c
          ∧ r.2.mem ((c.tc : Thread Cert.InStepRefIdeal.nD Cert.InStepRefIdeal.τ).loc Cert.InStepRefIdeal.main_v107) = v5 c
          ∧ r.2.mem ((c.tc : Thread Cert.InStepRefIdeal.nD Cert.InStepRefIdeal.τ).loc Cert.InStepRefIdeal.main_v108) = v6 c
          ∧ r.2.mem ((c.tc : Thread Cert.InStepRefIdeal.nD Cert.InStepRefIdeal.τ).loc Cert.InStepRefIdeal.main_v109) = v7 c
          ∧ r.2.mem ((c.tc : Thread Cert.InStepRefIdeal.nD Cert.InStepRefIdeal.τ).loc Cert.InStepRefIdeal.main_v110) = v8 c
          ∧ r.2.mem ((c.tc : Thread Cert.InStepRefIdeal.nD Cert.InStepRefIdeal.τ).loc Cert.InStepRefIdeal.main_v111) = v9 c
          ∧ r.2.mem ((c.tc : Thread Cert.InStepRefIdeal.nD Cert.InStepRefIdeal.τ).loc Cert.InStepRefIdeal.main_v112) = v10 c
          ∧ r.2.mem ((c.tc : Thread Cert.InStepRefIdeal.nD Cert.InStepRefIdeal.τ).loc Cert.InStepRefIdeal.main_v99) = v11 c
          ∧ r.2.mem ((c.tc : Thread Cert.InStepRefIdeal.nD Cert.InStepRefIdeal.τ).loc Cert.InStepRefIdeal.main_arg0) = m' ((c.tc : Thread Cert.InStepRefIdeal.nD Cert.InStepRefIdeal.τ).loc Cert.InStepRefIdeal.main_arg0)
          ∧ r.2.mem ((c.tc : Thread Cert.InStepRefIdeal.nD Cert.InStepRefIdeal.τ).loc Cert.InStepRefIdeal.main_arg1) = m' ((c.tc : Thread Cert.InStepRefIdeal.nD Cert.InStepRefIdeal.τ).loc Cert.InStepRefIdeal.main_arg1)
          ∧ r.2.mem ((c.tc : Thread Cert.InStepRefIdeal.nD Cert.InStepRefIdeal.τ).loc Cert.InStepRefIdeal.main_arg2) = m' ((c.tc : Thread Cert.InStepRefIdeal.nD Cert.InStepRefIdeal.τ).loc Cert.InStepRefIdeal.main_arg2)
          ∧ r.2.mem ((c.tc : Thread Cert.InStepRefIdeal.nD Cert.InStepRefIdeal.τ).loc Cert.InStepRefIdeal.main_arg3) = m' ((c.tc : Thread Cert.InStepRefIdeal.nD Cert.InStepRefIdeal.τ).loc Cert.InStepRefIdeal.main_arg3)
          ∧ r.2.mem ((c.tc : Thread Cert.InStepRefIdeal.nD Cert.InStepRefIdeal.τ).loc Cert.InStepRefIdeal.main_arg4) = m' ((c.tc : Thread Cert.InStepRefIdeal.nD Cert.InStepRefIdeal.τ).loc Cert.InStepRefIdeal.main_arg4)
          ∧ r.2.mem ((c.tc : Thread Cert.InStepRefIdeal.nD Cert.InStepRefIdeal.τ).loc Cert.InStepRefIdeal.main_arg5) = m' ((c.tc : Thread Cert.InStepRefIdeal.nD Cert.InStepRefIdeal.τ).loc Cert.InStepRefIdeal.main_arg5)
          ∧ r.2.mem ((c.tc : Thread Cert.InStepRefIdeal.nD Cert.InStepRefIdeal.τ).loc Cert.InStepRefIdeal.main_arg6) = m' ((c.tc : Thread Cert.InStepRefIdeal.nD Cert.InStepRefIdeal.τ).loc Cert.InStepRefIdeal.main_arg6)
          ∧ r.2.mem ((c.tc : Thread Cert.InStepRefIdeal.nD Cert.InStepRefIdeal.τ).loc Cert.InStepRefIdeal.main_arg7) = m' ((c.tc : Thread Cert.InStepRefIdeal.nD Cert.InStepRefIdeal.τ).loc Cert.InStepRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_v22) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Pool_PoolIdeal : Prop :=
  True

def algebraic_PoolIdeal_PoolRefIdeal_pre_finite_rows [hPoolIdeal : Cert.PoolIdeal.Facts] [hPoolRefIdeal : Cert.PoolRefIdeal.Facts] [hPre_finite_rows : Cert.Pre_finite_rows.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_rows m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v14)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v14) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v60) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def Claim : Prop :=
  ∃ (hFfn : Cert.Ffn.Facts) (hFfnIdeal : Cert.FfnIdeal.Facts) (hFfnRefIdeal : Cert.FfnRefIdeal.Facts) (hGlaStep : Cert.GlaStep.Facts) (hGlaStepIdeal : Cert.GlaStepIdeal.Facts) (hGlaStepRefIdeal : Cert.GlaStepRefIdeal.Facts) (hFfnStep : Cert.FfnStep.Facts) (hFfnStepIdeal : Cert.FfnStepIdeal.Facts) (hFfnStepRefIdeal : Cert.FfnStepRefIdeal.Facts) (hInProj : Cert.InProj.Facts) (hInProjIdeal : Cert.InProjIdeal.Facts) (hInProjRefIdeal : Cert.InProjRefIdeal.Facts) (hInStep : Cert.InStep.Facts) (hInStepIdeal : Cert.InStepIdeal.Facts) (hInStepRefIdeal : Cert.InStepRefIdeal.Facts) (hOutProj : Cert.OutProj.Facts) (hOutProjIdeal : Cert.OutProjIdeal.Facts) (hOutProjRefIdeal : Cert.OutProjRefIdeal.Facts) (hPool : Cert.Pool.Facts) (hPoolIdeal : Cert.PoolIdeal.Facts) (hPoolRefIdeal : Cert.PoolRefIdeal.Facts) (hPre_finite_gates : Cert.Pre_finite_gates.Facts) (hPre_finite_rows : Cert.Pre_finite_rows.Facts),
    quiescent_Ffn (hFfn := hFfn)
    ∧ quiescent_FfnIdeal (hFfnIdeal := hFfnIdeal)
    ∧ quiescent_FfnRefIdeal (hFfnRefIdeal := hFfnRefIdeal)
    ∧ quiescent_GlaStep (hGlaStep := hGlaStep)
    ∧ quiescent_GlaStepIdeal (hGlaStepIdeal := hGlaStepIdeal)
    ∧ quiescent_GlaStepIdeal_pre_finite_gates (hGlaStepIdeal := hGlaStepIdeal) (hPre_finite_gates := hPre_finite_gates)
    ∧ quiescent_GlaStepRefIdeal (hGlaStepRefIdeal := hGlaStepRefIdeal)
    ∧ quiescent_GlaStepRefIdeal_pre_finite_gates (hGlaStepRefIdeal := hGlaStepRefIdeal) (hPre_finite_gates := hPre_finite_gates)
    ∧ quiescent_FfnStep (hFfnStep := hFfnStep)
    ∧ quiescent_FfnStepIdeal (hFfnStepIdeal := hFfnStepIdeal)
    ∧ quiescent_FfnStepRefIdeal (hFfnStepRefIdeal := hFfnStepRefIdeal)
    ∧ quiescent_InProj (hInProj := hInProj)
    ∧ quiescent_InProjIdeal (hInProjIdeal := hInProjIdeal)
    ∧ quiescent_InProjRefIdeal (hInProjRefIdeal := hInProjRefIdeal)
    ∧ quiescent_InStep (hInStep := hInStep)
    ∧ quiescent_InStepIdeal (hInStepIdeal := hInStepIdeal)
    ∧ quiescent_InStepRefIdeal (hInStepRefIdeal := hInStepRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Pool (hPool := hPool)
    ∧ quiescent_PoolIdeal (hPoolIdeal := hPoolIdeal)
    ∧ quiescent_PoolIdeal_pre_finite_rows (hPoolIdeal := hPoolIdeal) (hPre_finite_rows := hPre_finite_rows)
    ∧ quiescent_PoolRefIdeal (hPoolRefIdeal := hPoolRefIdeal)
    ∧ quiescent_PoolRefIdeal_pre_finite_rows (hPoolRefIdeal := hPoolRefIdeal) (hPre_finite_rows := hPre_finite_rows)
    ∧ preserves_Ffn_FfnIdeal
    ∧ algebraic_FfnIdeal_FfnRefIdeal (hFfnIdeal := hFfnIdeal) (hFfnRefIdeal := hFfnRefIdeal)
    ∧ preserves_GlaStep_GlaStepIdeal
    ∧ algebraic_GlaStepIdeal_GlaStepRefIdeal_pre_finite_gates (hGlaStepIdeal := hGlaStepIdeal) (hGlaStepRefIdeal := hGlaStepRefIdeal) (hPre_finite_gates := hPre_finite_gates)
    ∧ preserves_FfnStep_FfnStepIdeal
    ∧ algebraic_FfnStepIdeal_FfnStepRefIdeal (hFfnStepIdeal := hFfnStepIdeal) (hFfnStepRefIdeal := hFfnStepRefIdeal)
    ∧ preserves_InProj_InProjIdeal
    ∧ algebraic_InProjIdeal_InProjRefIdeal (hInProjIdeal := hInProjIdeal) (hInProjRefIdeal := hInProjRefIdeal)
    ∧ preserves_InStep_InStepIdeal
    ∧ algebraic_InStepIdeal_InStepRefIdeal (hInStepIdeal := hInStepIdeal) (hInStepRefIdeal := hInStepRefIdeal)
    ∧ preserves_OutProj_OutProjIdeal
    ∧ algebraic_OutProjIdeal_OutProjRefIdeal (hOutProjIdeal := hOutProjIdeal) (hOutProjRefIdeal := hOutProjRefIdeal)
    ∧ preserves_Pool_PoolIdeal
    ∧ algebraic_PoolIdeal_PoolRefIdeal_pre_finite_rows (hPoolIdeal := hPoolIdeal) (hPoolRefIdeal := hPoolRefIdeal) (hPre_finite_rows := hPre_finite_rows)
-- ==== Pre_finite_gates.lean ====
abbrev S128x128 : Shape := ⟨2, ![128, 128]⟩
abbrev S128x256 : Shape := ⟨2, ![128, 256]⟩
abbrev S128x4x32x64 : Shape := ⟨4, ![128, 4, 32, 64]⟩
abbrev S256 : Shape := ⟨1, ![256]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel

variable [Facts]

def fn {F : FTy → Type} [FloatOps F] (main_arg0 : FVec F S128x128 .f32) (main_arg1 : FVec F S128x128 .f32) (main_arg2 : FVec F S128x128 .f32) (main_arg3 : FVec F S128x256 .f32) (main_arg4 : FVec F S128x256 .f32) (main_arg5 : FVec F S128x4x32x64 .f32) (main_arg6 : FVec F S256 .f32) : IVec S_ 1 :=
  let main_v0 : FVec F S128x128 .f32 := Host.absf main_arg2
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  main_v3
-- ==== Pre_finite_rows.lean ====
abbrev S16384x256 : Shape := ⟨2, ![16384, 256]⟩
abbrev S4x64x64 : Shape := ⟨3, ![4, 64, 64]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) (main_arg1 : FVec F S4x64x64 .f32) (main_arg2 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Ffn.lean ====
abbrev S16384x1024 : Shape := ⟨2, ![16384, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S5x2816 : Shape := ⟨2, ![5, 2816]⟩
abbrev S8x2816 : Shape := ⟨2, ![8, 2816]⟩
abbrev S1024x2816 : Shape := ⟨2, ![1024, 2816]⟩
abbrev S1x2816 : Shape := ⟨2, ![1, 2816]⟩
abbrev S32x8x2816 : Shape := ⟨3, ![32, 8, 2816]⟩
abbrev S512x1024 : Shape := ⟨2, ![512, 1024]⟩
abbrev S16x1024 : Shape := ⟨2, ![16, 1024]⟩
abbrev S1x8x2816 : Shape := ⟨3, ![1, 8, 2816]⟩
abbrev S528x1024 : Shape := ⟨2, ![528, 1024]⟩
abbrev S528x2816 : Shape := ⟨2, ![528, 2816]⟩
abbrev S512x2816 : Shape := ⟨2, ![512, 2816]⟩
abbrev S16x2816 : Shape := ⟨2, ![16, 2816]⟩
abbrev S128x1024 : Shape := ⟨2, ![128, 1024]⟩
abbrev S128x2816 : Shape := ⟨2, ![128, 2816]⟩
abbrev S8x4x8x2816 : Shape := ⟨4, ![8, 4, 8, 2816]⟩
abbrev S8x1x2x2816 : Shape := ⟨4, ![8, 1, 2, 2816]⟩
abbrev S8x2x2816 : Shape := ⟨3, ![8, 2, 2816]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024x5632, .bf16⟩
  | .hbm, ⟨7, _⟩ => ⟨S_, .f32⟩
  | .hbm, ⟨8, _⟩ => ⟨S5x2816, .f32⟩
  | .hbm, ⟨9, _⟩ => ⟨S8x2816, .f32⟩
  | .hbm, ⟨10, _⟩ => ⟨S1024x2816, .bf16⟩
  | .hbm, ⟨11, _⟩ => ⟨S1024x2816, .bf16⟩
  | .hbm, ⟨12, _⟩ => ⟨S1x2816, .f32⟩
  | .hbm, ⟨13, _⟩ => ⟨S2816x1024, .bf16⟩
  | .hbm, ⟨14, _⟩ => ⟨S16384x1024, .f32⟩
  | .hbm, ⟨15, _⟩ => ⟨S32x8x2816, .f32⟩
  | .hbm, ⟨16, _⟩ => ⟨S8x4x8x2816, .f32⟩
  | .hbm, ⟨17, _⟩ => ⟨S8x1x2x2816, .f32⟩
  | .hbm, ⟨18, _⟩ => ⟨S8x2x2816, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S1024x2816, .bf16⟩
  | .local _ .vmem, ⟨7, _⟩ => ⟨S1024x2816, .bf16⟩
  | .local _ .vmem, ⟨8, _⟩ => ⟨S8x2816, .f32⟩
  | .local _ .vmem, ⟨9, _⟩ => ⟨S1x2816, .f32⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x8x2816, .f32⟩
  | .local _ .vmem, ⟨14, _⟩ => ⟨S1x8x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16384x1024 : Shape := ⟨2, ![16384, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x2048x1024 : Shape := ⟨3, ![8, 2048, 1024]⟩
abbrev S8x2048x5632 : Shape := ⟨3, ![8, 2048, 5632]⟩
abbrev S8x2048x2816 : Shape := ⟨3, ![8, 2048, 2816]⟩
abbrev S_ : Shape := ⟨0, ![]⟩
abbrev S8x2x2816 : Shape := ⟨3, ![8, 2, 2816]⟩
abbrev S8x2050x2816 : Shape := ⟨3, ![8, 2050, 2816]⟩
abbrev S1x2816 : Shape := ⟨2, ![1, 2816]⟩
abbrev S1x1x2816 : Shape := ⟨3, ![1, 1, 2816]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S16384x1024, .f32⟩
  | .hbm, ⟨7, _⟩ => ⟨S8x2048x1024, .f32⟩
  | .hbm, ⟨8, _⟩ => ⟨S8x2048x5632, .f32⟩
  | .hbm, ⟨9, _⟩ => ⟨S8x2048x2816, .f32⟩
  | .hbm, ⟨10, _⟩ => ⟨S8x2048x2816, .f32⟩
  | .hbm, ⟨11, _⟩ => ⟨S_, .f32⟩
  | .hbm, ⟨12, _⟩ => ⟨S8x2x2816, .f32⟩
  | .hbm, ⟨13, _⟩ => ⟨S8x2050x2816, .f32⟩
  | .hbm, ⟨14, _⟩ => ⟨S8x2048x2816, .f32⟩
  | .hbm, ⟨15, _⟩ => ⟨S1x2816, .f32⟩
  | .hbm, ⟨16, _⟩ => ⟨S2816, .f32⟩
  | .hbm, ⟨17, _⟩ => ⟨S1x1x2816, .f32⟩
  | .hbm, ⟨18, _⟩ => ⟨S8x2048x2816, .f32⟩
  | .hbm, ⟨19, _⟩ => ⟨S8x2048x2816, .f32⟩
  | .hbm, ⟨20, _⟩ => ⟨S1x1x2816, .f32⟩
  | .hbm, ⟨21, _⟩ => ⟨S8x2048x2816, .f32⟩
  | .hbm, ⟨22, _⟩ => ⟨S8x2048x2816, .f32⟩
  | .hbm, ⟨23, _⟩ => ⟨S8x2048x2816, .f32⟩
  | .hbm, ⟨24, _⟩ => ⟨S1x2816, .f32⟩
  | .hbm, ⟨25, _⟩ => ⟨S2816, .f32⟩
  | .hbm, ⟨26, _⟩ => ⟨S1x1x2816, .f32⟩
  | .hbm, ⟨27, _⟩ => ⟨S8x2048x2816, .f32⟩
  | .hbm, ⟨28, _⟩ => ⟨S8x2048x2816, .f32⟩
  | .hbm, ⟨29, _⟩ => ⟨S8x2048x2816, .f32⟩
  | .hbm, ⟨30, _⟩ => ⟨S8x2048x2816, .f32⟩
  | .hbm, ⟨31, _⟩ => ⟨S1x2816, .f32⟩
  | .hbm, ⟨32, _⟩ => ⟨S2816, .f32⟩
  | .hbm, ⟨33, _⟩ => ⟨S1x1x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S_, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S8x2048x1024, .f32⟩
  | .hbm, ⟨48, _⟩ => ⟨S16384x1024, .f32⟩
  | .hbm, ⟨49, _⟩ => ⟨S16384x1024, .f32⟩
  | .hbm, ⟨50, _⟩ => ⟨S8x2x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== GlaStep.lean ====
abbrev S128x128 : Shape := ⟨2, ![128, 128]⟩
abbrev S128x256 : Shape := ⟨2, ![128, 256]⟩
abbrev S128x4x32x64 : Shape := ⟨4, ![128, 4, 32, 64]⟩
abbrev S256 : Shape := ⟨1, ![256]⟩
abbrev S128x128x1 : Shape := ⟨3, ![128, 128, 1]⟩
abbrev S128x128x3 : Shape := ⟨3, ![128, 128, 3]⟩
abbrev S128x4x64 : Shape := ⟨3, ![128, 4, 64]⟩
abbrev S128x128x64 : Shape := ⟨3, ![128, 128, 64]⟩
abbrev S4x64 : Shape := ⟨2, ![4, 64]⟩
abbrev S8x128x3 : Shape := ⟨3, ![8, 128, 3]⟩
abbrev S8x4x64 : Shape := ⟨3, ![8, 4, 64]⟩
abbrev S8x128x64 : Shape := ⟨3, ![8, 128, 64]⟩
abbrev S8x128x1 : Shape := ⟨3, ![8, 128, 1]⟩
abbrev S8x4x32x1 : Shape := ⟨4, ![8, 4, 32, 1]⟩
abbrev S8x4x1 : Shape := ⟨3, ![8, 4, 1]⟩
abbrev S8x4x32x64 : Shape := ⟨4, ![8, 4, 32, 64]⟩
abbrev S8x4x1x64 : Shape := ⟨4, ![8, 4, 1, 64]⟩
abbrev S8x4 : Shape := ⟨2, ![8, 4]⟩
abbrev S1x4x64 : Shape := ⟨3, ![1, 4, 64]⟩

abbrev nBuf : Space → Nat
  | .hbm => 20
  | .vmem => 13
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x256, .f32⟩
  | .hbm, ⟨4, _⟩ => ⟨S128x256, .f32⟩
  | .hbm, ⟨5, _⟩ => ⟨S128x4x32x64, .f32⟩
  | .hbm, ⟨6, _⟩ => ⟨S256, .f32⟩
  | .hbm, ⟨7, _⟩ => ⟨S128x128x1, .f32⟩
  | .hbm, ⟨8, _⟩ => ⟨S128x128x1, .f32⟩
  | .hbm, ⟨9, _⟩ => ⟨S128x128x1, .f32⟩
  | .hbm, ⟨10, _⟩ => ⟨S128x128x3, .f32⟩
  | .hbm, ⟨11, _⟩ => ⟨S128x4x64, .f32⟩
  | .hbm, ⟨12, _⟩ => ⟨S128x128x64, .f32⟩
  | .hbm, ⟨13, _⟩ => ⟨S128x4x64, .f32⟩
  | .hbm, ⟨14, _⟩ => ⟨S4x64, .f32⟩
  | .hbm, ⟨15, _⟩ => ⟨S128x4x64, .f32⟩
  | .hbm, ⟨16, _⟩ => ⟨S128x128x64, .f32⟩
  | .hbm, ⟨17, _⟩ => ⟨S128x256, .f32⟩
  | .hbm, ⟨18, _⟩ => ⟨S128x256, .bf16⟩
  | .hbm, ⟨19, _⟩ => ⟨S128x4x32x64, .f32⟩
  | .local _ .vmem, ⟨0, _⟩ => ⟨S8x128x3, .f32⟩
  | .local _ .vmem, ⟨1, _⟩ => ⟨S8x128x3, .f32⟩
  | .local _ .vmem, ⟨2, _⟩ => ⟨S8x4x64, .f32⟩
  | .local _ .vmem, ⟨3, _⟩ => ⟨S8x4x64, .f32⟩
  | .local _ .vmem, ⟨4, _⟩ => ⟨S8x128x64, .f32⟩
  | .local _ .vmem, ⟨5, _⟩ => ⟨S8x128x64, .f32⟩
  | .local _ .vmem, ⟨6, _⟩ => ⟨S8x4x64, .f32⟩
  | .local _ .vmem, ⟨7, _⟩ => ⟨S8x4x64, .f32⟩
  | .local _ .vmem, ⟨8, _⟩ => ⟨S4x64, .f32⟩
  | .local _ .vmem, ⟨9, _⟩ => ⟨S8x4x64, .f32⟩
  | .local _ .vmem, ⟨10, _⟩ => ⟨S8x4x64, .f32⟩
  | .local _ .vmem, ⟨11, _⟩ => ⟨S8x128x64, .f32⟩
  | .local _ .vmem, ⟨12, _⟩ => ⟨S8x128x64, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaStepRefIdeal.lean ====
abbrev S128x128 : Shape := ⟨2, ![128, 128]⟩
abbrev S128x256 : Shape := ⟨2, ![128, 256]⟩
abbrev S128x4x32x64 : Shape := ⟨4, ![128, 4, 32, 64]⟩
abbrev S256 : Shape := ⟨1, ![256]⟩
abbrev S_ : Shape := ⟨0, ![]⟩
abbrev S128x1x4x32 : Shape := ⟨4, ![128, 1, 4, 32]⟩
abbrev S128x4x1x32 : Shape := ⟨4, ![128, 4, 1, 32]⟩
abbrev S128x1x4x64 : Shape := ⟨4, ![128, 1, 4, 64]⟩
abbrev S128x4x1x64 : Shape := ⟨4, ![128, 4, 1, 64]⟩
abbrev S1x1 : Shape := ⟨2, ![1, 1]⟩
abbrev S128x4x1x1 : Shape := ⟨4, ![128, 4, 1, 1]⟩
abbrev S128x4x32 : Shape := ⟨3, ![128, 4, 32]⟩
abbrev S128x4x32x1 : Shape := ⟨4, ![128, 4, 32, 1]⟩
abbrev S4x64 : Shape := ⟨2, ![4, 64]⟩
abbrev S128x1x4 : Shape := ⟨3, ![128, 1, 4]⟩
abbrev S128x1x4x1 : Shape := ⟨4, ![128, 1, 4, 1]⟩
abbrev S1x1x4x64 : Shape := ⟨4, ![1, 1, 4, 64]⟩
abbrev S128x1x256 : Shape := ⟨3, ![128, 1, 256]⟩

abbrev nBuf : Space → Nat
  | .hbm => 88
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S128x128, .f32⟩
  | .hbm, ⟨3, _⟩ => ⟨S128x256, .f32⟩
  | .hbm, ⟨4, _⟩ => ⟨S128x256, .f32⟩
  | .hbm, ⟨5, _⟩ => ⟨S128x4x32x64, .f32⟩
  | .hbm, ⟨6, _⟩ => ⟨S256, .f32⟩
  | .hbm, ⟨7, _⟩ => ⟨S_, .f32⟩
  | .hbm, ⟨8, _⟩ => ⟨S128x128, .f32⟩
  | .hbm, ⟨9, _⟩ => ⟨S128x128, .f32⟩
  | .hbm, ⟨10, _⟩ => ⟨S128x1x4x32, .f32⟩
  | .hbm, ⟨11, _⟩ => ⟨S128x4x1x32, .f32⟩
  | .hbm, ⟨12, _⟩ => ⟨S128x1x4x32, .f32⟩
  | .hbm, ⟨13, _⟩ => ⟨S128x4x1x32, .f32⟩
  | .hbm, ⟨14, _⟩ => ⟨S128x1x4x64, .f32⟩
  | .hbm, ⟨15, _⟩ => ⟨S128x4x1x64, .f32⟩
  | .hbm, ⟨16, _⟩ => ⟨S128x1x4x32, .f32⟩
  | .hbm, ⟨17, _⟩ => ⟨S128x4x1x32, .f32⟩
  | .hbm, ⟨18, _⟩ => ⟨S_, .i1⟩
  | .hbm, ⟨19, _⟩ => ⟨S1x1, .i1⟩
  | .hbm, ⟨20, _⟩ => ⟨S1x1, .i32⟩
  | .hbm, ⟨21, _⟩ => ⟨S_, .i32⟩
  | .hbm, ⟨22, _⟩ => ⟨S1x1, .i32⟩
  | .hbm, ⟨23, _⟩ => ⟨S1x1, .i32⟩
  | .hbm, ⟨24, _⟩ => ⟨S1x1, .i32⟩
  | .hbm, ⟨25, _⟩ => ⟨S1x1, .i1⟩
  | .hbm, ⟨26, _⟩ => ⟨S_, .i1⟩
  | .hbm, ⟨27, _⟩ => ⟨S1x1, .i1⟩
  | .hbm, ⟨28, _⟩ => ⟨S1x1, .i1⟩
  | .hbm, ⟨29, _⟩ => ⟨S_, .f32⟩
  | .hbm, ⟨30, _⟩ => ⟨S_, .f32⟩
  | .hbm, ⟨31, _⟩ => ⟨S128x4x1x32, .f32⟩
  | .hbm, ⟨32, _⟩ => ⟨S128x4x1x32, .f32⟩
  | .hbm, ⟨33, _⟩ => ⟨S128x4x1x32, .f32⟩
  | .hbm, ⟨34, _⟩ => ⟨S128x4x1x32, .f32⟩
  | .hbm, ⟨35, _⟩ => ⟨S128x4x1x32, .f32⟩
  | .hbm, ⟨36, _⟩ => ⟨S128x4x1x32, .f32⟩
  | .hbm, ⟨37, _⟩ => ⟨S128x4x1x1, .f32⟩
  | .hbm, ⟨38, _⟩ => ⟨S_, .f32⟩
  | .hbm, ⟨39, _⟩ => ⟨S_, .f32⟩
  | .hbm, ⟨40, _⟩ => ⟨S128x4x1x1, .i1⟩
  | .hbm, ⟨41, _⟩ => ⟨S128x4x1x1, .f32⟩
  | .hbm, ⟨42, _⟩ => ⟨S128x4x1x1, .f32⟩
  | .hbm, ⟨43, _⟩ => ⟨S128x4x1x64, .f32⟩
  | .hbm, ⟨44, _⟩ => ⟨S128x4x1x64, .f32⟩
  | .hbm, ⟨45, _⟩ => ⟨S128x4x1x64, .f32⟩
  | .hbm, ⟨46, _⟩ => ⟨S128x4x32, .f32⟩
  | .hbm, ⟨47, _⟩ => ⟨S128x4x32x1, .f32⟩
  | .hbm, ⟨48, _⟩ => ⟨S128x4x32x1, .f32⟩
  | .hbm, ⟨49, _⟩ => ⟨S128x4x32x64, .f32⟩
  | .hbm, ⟨50, _⟩ => ⟨S128x4x32x64, .f32⟩
  | .hbm, ⟨51, _⟩ => ⟨S128x4x1x32, .f32⟩
  | .hbm, ⟨52, _⟩ => ⟨S128x4x1x32, .f32⟩
  | .hbm, ⟨53, _⟩ => ⟨S128x4x1x32, .f32⟩
  | .hbm, ⟨54, _⟩ => ⟨S128x4x32x64, .f32⟩
  | .hbm, ⟨55, _⟩ => ⟨S128x4x32x64, .f32⟩
  | .hbm, ⟨56, _⟩ => ⟨S128x1x4x64, .f32⟩
  | .hbm, ⟨57, _⟩ => ⟨S4x64, .f32⟩
  | .hbm, ⟨58, _⟩ => ⟨S128x1x4x64, .f32⟩
  | .hbm, ⟨59, _⟩ => ⟨S_, .f32⟩
  | .hbm, ⟨60, _⟩ => ⟨S128x1x4, .f32⟩
  | .hbm, ⟨61, _⟩ => ⟨S128x1x4x1, .f32⟩
  | .hbm, ⟨62, _⟩ => ⟨S_, .f32⟩
  | .hbm, ⟨63, _⟩ => ⟨S128x1x4x1, .f32⟩
  | .hbm, ⟨64, _⟩ => ⟨S128x1x4x1, .f32⟩
  | .hbm, ⟨65, _⟩ => ⟨S_, .f32⟩
  | .hbm, ⟨66, _⟩ => ⟨S128x1x4x1, .f32⟩
  | .hbm, ⟨67, _⟩ => ⟨S128x1x4x1, .f32⟩
  | .hbm, ⟨68, _⟩ => ⟨S128x1x4x1, .f32⟩
  | .hbm, ⟨69, _⟩ => ⟨S128x1x4x64, .f32⟩
  | .hbm, ⟨70, _⟩ => ⟨S128x1x4x64, .f32⟩
  | .hbm, ⟨71, _⟩ => ⟨S1x1x4x64, .f32⟩
  | .hbm, ⟨72, _⟩ => ⟨S128x1x4x64, .f32⟩
  | .hbm, ⟨73, _⟩ => ⟨S128x1x4x64, .f32⟩
  | .hbm, ⟨74, _⟩ => ⟨S128x1x256, .f32⟩
  | .hbm, ⟨75, _⟩ => ⟨S128x1x256, .f32⟩
  | .hbm, ⟨76, _⟩ => ⟨S128x1x256, .f32⟩
  | .hbm, ⟨77, _⟩ => ⟨S128x1x256, .f32⟩
  | .hbm, ⟨78, _⟩ => ⟨S_, .f32⟩
  | .hbm, ⟨79, _⟩ => ⟨S128x1x256, .f32⟩
  | .hbm, ⟨80, _⟩ => ⟨S128x1x256, .f32⟩
  | .hbm, ⟨81, _⟩ => ⟨S_, .f32⟩
  | .hbm, ⟨82, _⟩ => ⟨S128x1x256, .f32⟩
  | .hbm, ⟨83, _⟩ => ⟨S128x1x256, .f32⟩
  | .hbm, ⟨84, _⟩ => ⟨S128x1x256, .f32⟩
  | .hbm, ⟨85, _⟩ => ⟨S128x1x256, .f32⟩
  | .hbm, ⟨86, _⟩ => ⟨S128x256, .f32⟩
  | .hbm, ⟨87, _⟩ => ⟨S128x256, .bf16⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v11 : Ref sig .tc := ⟨.hbm, 28, rfl⟩
abbrev main_call1_call0_cst : Ref sig .tc := ⟨.hbm, 29, rfl⟩
abbrev main_call1_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩

abbrev nD : Nat := 1
abbrev τ : Topo := Topo.v7x

variable {F : FTy → Type} [FloatOps F]
-- ==== FfnStep.lean ====
abbrev S128x1024 : Shape := ⟨2, ![128, 1024]⟩
abbrev S128x2x2816 : Shape := ⟨3, ![128, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S5x2816 : Shape := ⟨2, ![5, 2816]⟩
abbrev S8x2816 : Shape := ⟨2, ![8, 2816]⟩
abbrev S1024x2816 : Shape := ⟨2, ![1024, 2816]⟩
abbrev S1x2816 : Shape := ⟨2, ![1, 2816]⟩
abbrev S2x128x2816 : Shape := ⟨3, ![2, 128, 2816]⟩
abbrev S128x2816 : Shape := ⟨2, ![128, 2816]⟩
abbrev S1x128x2816 : Shape := ⟨3, ![1, 128, 2816]⟩
abbrev S128x1x2816 : Shape := ⟨3, ![128, 1, 2816]⟩

abbrev nBuf : Space → Nat
  | .hbm => 21
  | .vmem => 10
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S128x2x2816, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024x5632, .bf16⟩
  | .hbm, ⟨8, _⟩ => ⟨S_, .f32⟩
  | .hbm, ⟨9, _⟩ => ⟨S5x2816, .f32⟩
  | .hbm, ⟨10, _⟩ => ⟨S8x2816, .f32⟩
  | .hbm, ⟨11, _⟩ => ⟨S1024x2816, .bf16⟩
  | .hbm, ⟨12, _⟩ => ⟨S1024x2816, .bf16⟩
  | .hbm, ⟨13, _⟩ => ⟨S1x2816, .f32⟩
  | .hbm, ⟨14, _⟩ => ⟨S2816x1024, .bf16⟩
  | .hbm, ⟨15, _⟩ => ⟨S2x128x2816, .f32⟩
  | .hbm, ⟨16, _⟩ => ⟨S128x1024, .f32⟩
  | .hbm, ⟨17, _⟩ => ⟨S128x2816, .f32⟩
  | .hbm, ⟨18, _⟩ => ⟨S128x1x2816, .f32⟩
  | .hbm, ⟨19, _⟩ => ⟨S128x1x2816, .f32⟩
  | .hbm, ⟨20, _⟩ => ⟨S128x2x2816, .f32⟩
  | .local _ .vmem, ⟨0, _⟩ => ⟨S128x1024, .bf16⟩
  | .local _ .vmem, ⟨1, _⟩ => ⟨S2x128x2816, .f32⟩
  | .local _ .vmem, ⟨2, _⟩ => ⟨S128x1024, .f32⟩
  | .local _ .vmem, ⟨3, _⟩ => ⟨S1024x2816, .bf16⟩
  | .local _ .vmem, ⟨4, _⟩ => ⟨S1024x2816, .bf16⟩
  | .local _ .vmem, ⟨5, _⟩ => ⟨S8x2816, .f32⟩
  | .local _ .vmem, ⟨6, _⟩ => ⟨S1x2816, .f32⟩
  | .local _ .vmem, ⟨7, _⟩ => ⟨S2816x1024, .bf16⟩
  | .local _ .vmem, ⟨8, _⟩ => ⟨S128x1024, .f32⟩
  | .local _ .vmem, ⟨9, _⟩ => ⟨S128x2816, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnStepRefIdeal.lean ====
abbrev S128x1024 : Shape := ⟨2, ![128, 1024]⟩
abbrev S128x2x2816 : Shape := ⟨3, ![128, 2, 2816]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S128x1x1024 : Shape := ⟨3, ![128, 1, 1024]⟩
abbrev S128x1x5632 : Shape := ⟨3, ![128, 1, 5632]⟩
abbrev S128x1x2816 : Shape := ⟨3, ![128, 1, 2816]⟩
abbrev S128x3x2816 : Shape := ⟨3, ![128, 3, 2816]⟩
abbrev S1x2816 : Shape := ⟨2, ![1, 2816]⟩
abbrev S1x1x2816 : Shape := ⟨3, ![1, 1, 2816]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S128x2x2816, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S128x1024, .f32⟩
  | .hbm, ⟨8, _⟩ => ⟨S128x1x1024, .f32⟩
  | .hbm, ⟨9, _⟩ => ⟨S128x1x5632, .f32⟩
  | .hbm, ⟨10, _⟩ => ⟨S128x1x2816, .f32⟩
  | .hbm, ⟨11, _⟩ => ⟨S128x1x2816, .f32⟩
  | .hbm, ⟨12, _⟩ => ⟨S128x3x2816, .f32⟩
  | .hbm, ⟨13, _⟩ => ⟨S128x1x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S128x1x2816, .f32⟩
  | .hbm, ⟨18, _⟩ => ⟨S128x1x2816, .f32⟩
  | .hbm, ⟨19, _⟩ => ⟨S1x1x2816, .f32⟩
  | .hbm, ⟨20, _⟩ => ⟨S128x1x2816, .f32⟩
  | .hbm, ⟨21, _⟩ => ⟨S128x1x2816, .f32⟩
  | .hbm, ⟨22, _⟩ => ⟨S128x1x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S128x1x2816, .f32⟩
  | .hbm, ⟨27, _⟩ => ⟨S128x1x2816, .f32⟩
  | .hbm, ⟨28, _⟩ => ⟨S128x1x2816, .f32⟩
  | .hbm, ⟨29, _⟩ => ⟨S128x1x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S128x1x2816, .f32⟩
  | .hbm, ⟨34, _⟩ => ⟨S128x1x2816, .f32⟩
  | .hbm, ⟨35, _⟩ => ⟨S128x1x2816, .f32⟩
  | .hbm, ⟨36, _⟩ => ⟨S128x1x2816, .f32⟩
  | .hbm, ⟨37, _⟩ => ⟨S128x1x2816, .f32⟩
  | .hbm, ⟨38, _⟩ => ⟨S_, .f32⟩
  | .hbm, ⟨39, _⟩ => ⟨S128x1x2816, .f32⟩
  | .hbm, ⟨40, _⟩ => ⟨S128x1x2816, .f32⟩
  | .hbm, ⟨41, _⟩ => ⟨S_, .f32⟩
  | .hbm, ⟨42, _⟩ => ⟨S128x1x2816, .f32⟩
  | .hbm, ⟨43, _⟩ => ⟨S128x1x2816, .f32⟩
  | .hbm, ⟨44, _⟩ => ⟨S128x1x2816, .f32⟩
  | .hbm, ⟨45, _⟩ => ⟨S128x1x2816, .f32⟩
  | .hbm, ⟨46, _⟩ => ⟨S128x1x1024, .f32⟩
  | .hbm, ⟨47, _⟩ => ⟨S128x1024, .f32⟩
  | .hbm, ⟨48, _⟩ => ⟨S128x1024, .f32⟩
  | .hbm, ⟨49, _⟩ => ⟨S128x2x2816, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x2344 : Shape := ⟨2, ![1024, 2344]⟩
abbrev S64 : Shape := ⟨1, ![64]⟩
abbrev S3x64 : Shape := ⟨2, ![3, 64]⟩
abbrev S16x128 : Shape := ⟨2, ![16, 128]⟩
abbrev S128 : Shape := ⟨1, ![128]⟩
abbrev S1x1024 : Shape := ⟨2, ![1, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x768 : Shape := ⟨2, ![1024, 768]⟩
abbrev S1024x24 : Shape := ⟨2, ![1024, 24]⟩
abbrev S_ : Shape := ⟨0, ![]⟩
abbrev S1024x104 : Shape := ⟨2, ![1024, 104]⟩
abbrev S1024x16 : Shape := ⟨2, ![1024, 16]⟩
abbrev S1024x112 : Shape := ⟨2, ![1024, 112]⟩
abbrev S1024x256 : Shape := ⟨2, ![1024, 256]⟩
abbrev S1024x2560 : Shape := ⟨2, ![1024, 2560]⟩
abbrev S1x64 : Shape := ⟨2, ![1, 64]⟩
abbrev S2x64 : Shape := ⟨2, ![2, 64]⟩
abbrev S1x128 : Shape := ⟨2, ![1, 128]⟩
abbrev S1x3x1x64 : Shape := ⟨4, ![1, 3, 1, 64]⟩
abbrev S1x3x2x64 : Shape := ⟨4, ![1, 3, 2, 64]⟩
abbrev S3x128 : Shape := ⟨2, ![3, 128]⟩
abbrev S5x128 : Shape := ⟨2, ![5, 128]⟩
abbrev S8x128 : Shape := ⟨2, ![8, 128]⟩
abbrev S112x128 : Shape := ⟨2, ![112, 128]⟩
abbrev S128x128 : Shape := ⟨2, ![128, 128]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S8x2048x256 : Shape := ⟨3, ![8, 2048, 256]⟩
abbrev S8x512x256 : Shape := ⟨3, ![8, 512, 256]⟩
abbrev S8x15x256 : Shape := ⟨3, ![8, 15, 256]⟩
abbrev S16384x24 : Shape := ⟨2, ![16384, 24]⟩

abbrev nBuf : Space → Nat
  | .hbm => 56
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2344, .f32⟩
  | .hbm, ⟨3, _⟩ => ⟨S64, .f32⟩
  | .hbm, ⟨4, _⟩ => ⟨S3x64, .f32⟩
  | .hbm, ⟨5, _⟩ => ⟨S16x128, .f32⟩
  | .hbm, ⟨6, _⟩ => ⟨S128, .f32⟩
  | .hbm, ⟨7, _⟩ => ⟨S1x1024, .f32⟩
  | .hbm, ⟨8, _⟩ => ⟨S1024x512, .f32⟩
  | .hbm, ⟨9, _⟩ => ⟨S1024x2x4x64, .f32⟩
  | .hbm, ⟨10, _⟩ => ⟨S1024x4x2x64, .f32⟩
  | .hbm, ⟨11, _⟩ => ⟨S1024x512, .f32⟩
  | .hbm, ⟨12, _⟩ => ⟨S1024x768, .f32⟩
  | .hbm, ⟨13, _⟩ => ⟨S1024x24, .f32⟩
  | .hbm, ⟨14, _⟩ => ⟨S_, .f32⟩
  | .hbm, ⟨15, _⟩ => ⟨S1024x104, .f32⟩
  | .hbm, ⟨16, _⟩ => ⟨S1024x768, .f32⟩
  | .hbm, ⟨17, _⟩ => ⟨S1024x16, .f32⟩
  | .hbm, ⟨18, _⟩ => ⟨S_, .f32⟩
  | .hbm, ⟨19, _⟩ => ⟨S1024x112, .f32⟩
  | .hbm, ⟨20, _⟩ => ⟨S1024x256, .f32⟩
  | .hbm, ⟨21, _⟩ => ⟨S1024x2560, .f32⟩
  | .hbm, ⟨22, _⟩ => ⟨S1024x2560, .bf16⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x128, .f32⟩
  | .hbm, ⟨27, _⟩ => ⟨S1x3x1x64, .f32⟩
  | .hbm, ⟨28, _⟩ => ⟨S1x3x2x64, .f32⟩
  | .hbm, ⟨29, _⟩ => ⟨S3x128, .f32⟩
  | .hbm, ⟨30, _⟩ => ⟨S_, .f32⟩
  | .hbm, ⟨31, _⟩ => ⟨S5x128, .f32⟩
  | .hbm, ⟨32, _⟩ => ⟨S8x128, .f32⟩
  | .hbm, ⟨33, _⟩ => ⟨S_, .f32⟩
  | .hbm, ⟨34, _⟩ => ⟨S112x128, .f32⟩
  | .hbm, ⟨35, _⟩ => ⟨S128x128, .f32⟩
  | .hbm, ⟨36, _⟩ => ⟨S128x128, .bf16⟩
  | .hbm, ⟨37, _⟩ => ⟨S1x128, .f32⟩
  | .hbm, ⟨38, _⟩ => ⟨S16384x512, .bf16⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x256, .f32⟩
  | .hbm, ⟨46, _⟩ => ⟨S16384x256, .f32⟩
  | .hbm, ⟨47, _⟩ => ⟨S16384x128, .f32⟩
  | .hbm, ⟨48, _⟩ => ⟨S16384x256, .f32⟩
  | .hbm, ⟨49, _⟩ => ⟨S16384x256, .bf16⟩
  | .hbm, ⟨50, _⟩ => ⟨S16384x256, .bf16⟩
  | .hbm, ⟨51, _⟩ => ⟨S8x2048x256, .f32⟩
  | .hbm, ⟨52, _⟩ => ⟨S8x512x256, .f32⟩
  | .hbm, ⟨53, _⟩ => ⟨S8x2048x256, .f32⟩
  | .hbm, ⟨54, _⟩ => ⟨S8x15x256, .f32⟩
  | .hbm, ⟨55, _⟩ => ⟨S16384x24, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x128, .f32⟩
  | .local _ .vmem, ⟨5, _⟩ => ⟨S8x128, .f32⟩
  | .local _ .vmem, ⟨6, _⟩ => ⟨S128x128, .bf16⟩
  | .local _ .vmem, ⟨7, _⟩ => ⟨S1x128, .f32⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x128, .f32⟩
  | .local _ .vmem, ⟨27, _⟩ => ⟨S512x128, .f32⟩
  | .local _ .vmem, ⟨28, _⟩ => ⟨S512x256, .f32⟩
  | .local _ .vmem, ⟨29, _⟩ => ⟨S512x256, .f32⟩
  | .local _ .vmem, ⟨30, _⟩ => ⟨S512x256, .bf16⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev main_v27_4 : Ref sig .tc := ⟨.hbm, 42, rfl⟩
abbrev main_v27_5 : Ref sig .tc := ⟨.hbm, 43, rfl⟩
abbrev main_v27_6 : Ref sig .tc := ⟨.hbm, 44, rfl⟩
abbrev main_v27_7 : Ref sig .tc := ⟨.hbm, 45, rfl⟩
abbrev main_v27_8 : Ref sig .tc := ⟨.hbm, 46, rfl⟩
abbrev main_v27_9 : Ref sig .tc := ⟨.hbm, 47, rfl⟩
abbrev main_v27_10 : Ref sig .tc := ⟨.hbm, 48, rfl⟩
abbrev main_v27_11 : Ref sig .tc := ⟨.hbm, 49, rfl⟩
abbrev main_v27_12 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InProjRefIdeal.lean ====
abbrev S16384x1024 : Shape := ⟨2, ![16384, 1024]⟩
abbrev S1024 : Shape := ⟨1, ![1024]⟩
abbrev S1024x2344 : Shape := ⟨2, ![1024, 2344]⟩
abbrev S64 : Shape := ⟨1, ![64]⟩
abbrev S3x64 : Shape := ⟨2, ![3, 64]⟩
abbrev S16x128 : Shape := ⟨2, ![16, 128]⟩
abbrev S128 : Shape := ⟨1, ![128]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2344 : Shape := ⟨3, ![8, 2048, 2344]⟩
abbrev S8x2048x512 : Shape := ⟨3, ![8, 2048, 512]⟩
abbrev S8x2048x768 : Shape := ⟨3, ![8, 2048, 768]⟩
abbrev S8x2048x24 : Shape := ⟨3, ![8, 2048, 24]⟩
abbrev S8x2048x128 : Shape := ⟨3, ![8, 2048, 128]⟩
abbrev S8x2048x256 : Shape := ⟨3, ![8, 2048, 256]⟩
abbrev S8x2048x16 : Shape := ⟨3, ![8, 2048, 16]⟩
abbrev S8x2048x2x4x64 : Shape := ⟨5, ![8, 2048, 2, 4, 64]⟩
abbrev S8x2048x2x4 : Shape := ⟨4, ![8, 2048, 2, 4]⟩
abbrev S8x2048x2x4x1 : Shape := ⟨5, ![8, 2048, 2, 4, 1]⟩
abbrev S1x1x1x1x64 : Shape := ⟨5, ![1, 1, 1, 1, 64]⟩
abbrev S8x2048x3x2x2x64 : Shape := ⟨6, ![8, 2048, 3, 2, 2, 64]⟩
abbrev S8x2048x1x2x2x64 : Shape := ⟨6, ![8, 2048, 1, 2, 2, 64]⟩
abbrev S8x2048x2x2x64 : Shape := ⟨5, ![8, 2048, 2, 2, 64]⟩
abbrev S8x2048x1x1x2x64 : Shape := ⟨6, ![8, 2048, 1, 1, 2, 64]⟩
abbrev S8x2048x2x64 : Shape := ⟨4, ![8, 2048, 2, 64]⟩
abbrev S1x64 : Shape := ⟨2, ![1, 64]⟩
abbrev S8x2048x2 : Shape := ⟨3, ![8, 2048, 2]⟩
abbrev S8x2048x2x1 : Shape := ⟨4, ![8, 2048, 2, 1]⟩
abbrev S1x1x1x64 : Shape := ⟨4, ![1, 1, 1, 64]⟩
abbrev S8x2048x1x2x64 : Shape := ⟨5, ![8, 2048, 1, 2, 64]⟩
abbrev S1x1x128 : Shape := ⟨3, ![1, 1, 128]⟩
abbrev S8x2048x4x2x64 : Shape := ⟨5, ![8, 2048, 4, 2, 64]⟩
abbrev S16384x512 : Shape := ⟨2, ![16384, 512]⟩
abbrev S16384x256 : Shape := ⟨2, ![16384, 256]⟩
abbrev S8x512x2x2x64 : Shape := ⟨5, ![8, 512, 2, 2, 64]⟩
abbrev S8x512x256 : Shape := ⟨3, ![8, 512, 256]⟩
abbrev S16384x24 : Shape := ⟨2, ![16384, 24]⟩
abbrev S16384x128 : Shape := ⟨2, ![16384, 128]⟩
abbrev S8x15x256 : Shape := ⟨3, ![8, 15, 256]⟩

abbrev nBuf : Space → Nat
  | .hbm => 154
  | .vmem => 0
  | .smem => 0
  | _ => 0

abbrev hbmTy0_0 (i : Nat) : BufTy := match i % 128 with
  | 0 => ⟨S16384x1024, .f32⟩
  | 1 => ⟨S1024, .f32⟩
  | 2 => ⟨S1024x2344, .f32⟩
  | 3 => ⟨S64, .f32⟩
  | 4 => ⟨S3x64, .f32⟩
  | 5 => ⟨S16x128, .f32⟩
  | 6 => ⟨S128, .f32⟩
  | 7 => ⟨S8x2048x1024, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x2048x2344, .f32⟩
  | 25 => ⟨S8x2048x512, .f32⟩
  | 26 => ⟨S8x2048x768, .f32⟩
  | 27 => ⟨S8x2048x24, .f32⟩
  | 28 => ⟨S8x2048x128, .f32⟩
  | 29 => ⟨S8x2048x128, .f32⟩
  | 30 => ⟨S8x2048x256, .f32⟩
  | 31 => ⟨S8x2048x256, .f32⟩
  | 32 => ⟨S8x2048x16, .f32⟩
  | 33 => ⟨S8x2048x256, .f32⟩
  | 34 => ⟨S8x2048x2x4x64, .f32⟩
  | 35 => ⟨S8x2048x2x4x64, .f32⟩
  | 36 => ⟨S_, .f32⟩
  | 37 => ⟨S8x2048x2x4, .f32⟩
  | 38 => ⟨S8x2048x2x4x1, .f32⟩
  | 39 => ⟨S_, .f32⟩
  | 40 => ⟨S8x2048x2x4x1, .f32⟩
  | 41 => ⟨S8x2048x2x4x1, .f32⟩
  | 42 => ⟨S_, .f32⟩
  | 43 => ⟨S8x2048x2x4x1, .f32⟩
  | 44 => ⟨S8x2048x2x4x1, .f32⟩
  | 45 => ⟨S8x2048x2x4x1, .f32⟩
  | 46 => ⟨S8x2048x2x4x64, .f32⟩
  | 47 => ⟨S8x2048x2x4x64, .f32⟩
  | 48 => ⟨S1x1x1x1x64, .f32⟩
  | 49 => ⟨S8x2048x2x4x64, .f32⟩
  | 50 => ⟨S8x2048x2x4x64, .f32⟩
  | 51 => ⟨S8x2048x3x2x2x64, .f32⟩
  | 52 => ⟨S8x2048x1x2x2x64, .f32⟩
  | 53 => ⟨S8x2048x2x2x64, .f32⟩
  | 54 => ⟨S8x2048x1x1x2x64, .f32⟩
  | 55 => ⟨S8x2048x2x64, .f32⟩
  | 56 => ⟨S1x64, .f32⟩
  | 57 => ⟨S64, .f32⟩
  | 58 => ⟨S8x2048x2x64, .f32⟩
  | 59 => ⟨S_, .f32⟩
  | 60 => ⟨S8x2048x2, .f32⟩
  | 61 => ⟨S8x2048x2x1, .f32⟩
  | 62 => ⟨S_, .f32⟩
  | 63 => ⟨S8x2048x2x1, .f32⟩
  | 64 => ⟨S8x2048x2x1, .f32⟩
  | 65 => ⟨S_, .f32⟩
  | 66 => ⟨S8x2048x2x1, .f32⟩
  | 67 => ⟨S8x2048x2x1, .f32⟩
  | 68 => ⟨S8x2048x2x1, .f32⟩
  | 69 => ⟨S8x2048x2x64, .f32⟩
  | 70 => ⟨S8x2048x2x64, .f32⟩
  | 71 => ⟨S1x1x1x64, .f32⟩
  | 72 => ⟨S8x2048x2x64, .f32⟩
  | 73 => ⟨S8x2048x2x64, .f32⟩
  | 74 => ⟨S8x2048x1x1x2x64, .f32⟩
  | 75 => ⟨S8x2048x2x64, .f32⟩
  | 76 => ⟨S8x2048x1x2x64, .f32⟩
  | 77 => ⟨S8x2048x1x2x64, .f32⟩
  | 78 => ⟨S8x2048x2x2x64, .f32⟩
  | 79 => ⟨S8x2048x1x1x2x64, .f32⟩
  | 80 => ⟨S8x2048x2x64, .f32⟩
  | 81 => ⟨S1x64, .f32⟩
  | 82 => ⟨S64, .f32⟩
  | 83 => ⟨S8x2048x2x64, .f32⟩
  | 84 => ⟨S_, .f32⟩
  | 85 => ⟨S8x2048x2, .f32⟩
  | 86 => ⟨S8x2048x2x1, .f32⟩
  | 87 => ⟨S_, .f32⟩
  | 88 => ⟨S8x2048x2x1, .f32⟩
  | 89 => ⟨S8x2048x2x1, .f32⟩
  | 90 => ⟨S_, .f32⟩
  | 91 => ⟨S8x2048x2x1, .f32⟩
  | 92 => ⟨S8x2048x2x1, .f32⟩
  | 93 => ⟨S8x2048x2x1, .f32⟩
  | 94 => ⟨S8x2048x2x64, .f32⟩
  | 95 => ⟨S8x2048x2x64, .f32⟩
  | 96 => ⟨S1x1x1x64, .f32⟩
  | 97 => ⟨S8x2048x2x64, .f32⟩
  | 98 => ⟨S8x2048x2x64, .f32⟩
  | 99 => ⟨S8x2048x1x1x2x64, .f32⟩
  | 100 => ⟨S8x2048x2x64, .f32⟩
  | 101 => ⟨S8x2048x1x2x64, .f32⟩
  | 102 => ⟨S8x2048x1x2x64, .f32⟩
  | 103 => ⟨S8x2048x2x2x64, .f32⟩
  | 104 => ⟨S8x2048x24, .f32⟩
  | 105 => ⟨S8x2048x24, .f32⟩
  | 106 => ⟨S_, .f32⟩
  | 107 => ⟨S8x2048x24, .f32⟩
  | 108 => ⟨S8x2048x24, .f32⟩
  | 109 => ⟨S_, .f32⟩
  | 110 => ⟨S8x2048x24, .f32⟩
  | 111 => ⟨S8x2048x24, .f32⟩
  | 112 => ⟨S8x2048x128, .f32⟩
  | 113 => ⟨S1x1x128, .f32⟩
  | 114 => ⟨S8x2048x128, .f32⟩
  | 115 => ⟨S8x2048x128, .f32⟩
  | 116 => ⟨S8x2048x128, .f32⟩
  | 117 => ⟨S_, .f32⟩
  | 118 => ⟨S8x2048x128, .f32⟩
  | 119 => ⟨S8x2048x128, .f32⟩
  | 120 => ⟨S8x2048x128, .f32⟩
  | 121 => ⟨S8x2048x128, .f32⟩
  | 122 => ⟨S8x2048x128, .i1⟩
  | 123 => ⟨S8x2048x128, .f32⟩
  | 124 => ⟨S8x2048x128, .f32⟩
  | 125 => ⟨S8x2048x128, .f32⟩
  | 126 => ⟨S8x2048x128, .f32⟩
  | 127 => ⟨S8x2048x128, .f32⟩
  | _ => ⟨S16384x1024, .f32⟩

abbrev hbmTy0_1 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S_, .f32⟩
  | 5 => ⟨S8x2048x128, .f32⟩
  | 6 => ⟨S8x2048x128, .f32⟩
  | 7 => ⟨S8x2048x4x2x64, .f32⟩
  | 8 => ⟨S16384x512, .f32⟩
  | 9 => ⟨S16384x512, .bf16⟩
  | 10 => ⟨S16384x256, .f32⟩
  | 11 => ⟨S16384x256, .f32⟩
  | 12 => ⟨S8x512x2x2x64, .f32⟩
  | 13 => ⟨S8x512x256, .f32⟩
  | 14 => ⟨S16384x24, .f32⟩
  | 15 => ⟨S16384x128, .f32⟩
  | 16 => ⟨S16384x128, .f32⟩
  | 17 => ⟨S16384x256, .f32⟩
  | 18 => ⟨S16384x256, .f32⟩
  | 19 => ⟨S16384x128, .f32⟩
  | 20 => ⟨S16384x256, .f32⟩
  | 21 => ⟨S8x15x256, .f32⟩
  | 22 => ⟨S16384x256, .f32⟩
  | 23 => ⟨S16384x256, .bf16⟩
  | 24 => ⟨S16384x256, .f32⟩
  | 25 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩
abbrev main_cst_10 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_11 : Ref sig .tc := ⟨.hbm, 106, rfl⟩
abbrev main_v87 : Ref sig .tc := ⟨.hbm, 107, rfl⟩
abbrev main_v88 : Ref sig .tc := ⟨.hbm, 108, rfl⟩
abbrev main_cst_12 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_call0_v0 : Ref sig .tc := ⟨.hbm, 116, rfl⟩
abbrev main_call0_call0_cst : Ref sig .tc := ⟨.hbm, 117, rfl⟩
abbrev main_call0_call0_v0 : Ref sig .tc := ⟨.hbm, 118, rfl⟩
abbrev main_call0_call0_v1 : Ref sig .tc := ⟨.hbm, 119, rfl⟩
abbrev main_call0_call0_v2 : Ref sig .tc := ⟨.hbm, 120, rfl⟩
abbrev main_call0_call0_v3 : Ref sig .tc := ⟨.hbm, 121, rfl⟩
abbrev main_call0_call0_v4 : Ref sig .tc := ⟨.hbm, 122, rfl⟩
abbrev main_call0_call0_v5 : Ref sig .tc := ⟨.hbm, 123, rfl⟩
abbrev main_call0_call0_v6 : Ref sig .tc := ⟨.hbm, 124, rfl⟩
abbrev main_call0_call0_v7 : Ref sig .tc := ⟨.hbm, 125, rfl⟩
abbrev main_call0_call0_v8 : Ref sig .tc := ⟨.hbm, 126, rfl⟩
abbrev main_call0_call0_v9 : Ref sig .tc := ⟨.hbm, 127, rfl⟩
abbrev main_call0_call0_v10 : Ref sig .tc := ⟨.hbm, 128, rfl⟩
abbrev main_call0_call0_v11 : Ref sig .tc := ⟨.hbm, 129, rfl⟩
abbrev main_call0_v1 : Ref sig .tc := ⟨.hbm, 130, rfl⟩
abbrev main_v95 : Ref sig .tc := ⟨.hbm, 131, rfl⟩
abbrev main_cst_13 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]
-- ==== InStep.lean ====
abbrev S128x1024 : Shape := ⟨2, ![128, 1024]⟩
abbrev S1024 : Shape := ⟨1, ![1024]⟩
abbrev S1024x2344 : Shape := ⟨2, ![1024, 2344]⟩
abbrev S64 : Shape := ⟨1, ![64]⟩
abbrev S3x64 : Shape := ⟨2, ![3, 64]⟩
abbrev S16x128 : Shape := ⟨2, ![16, 128]⟩
abbrev S128 : Shape := ⟨1, ![128]⟩
abbrev S128x15x256 : Shape := ⟨3, ![128, 15, 256]⟩
abbrev S1x1024 : Shape := ⟨2, ![1, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x768 : Shape := ⟨2, ![1024, 768]⟩
abbrev S1024x24 : Shape := ⟨2, ![1024, 24]⟩
abbrev S_ : Shape := ⟨0, ![]⟩
abbrev S1024x104 : Shape := ⟨2, ![1024, 104]⟩
abbrev S1024x16 : Shape := ⟨2, ![1024, 16]⟩
abbrev S1024x112 : Shape := ⟨2, ![1024, 112]⟩
abbrev S1024x256 : Shape := ⟨2, ![1024, 256]⟩
abbrev S1024x2560 : Shape := ⟨2, ![1024, 2560]⟩
abbrev S1x64 : Shape := ⟨2, ![1, 64]⟩
abbrev S2x64 : Shape := ⟨2, ![2, 64]⟩
abbrev S1x128 : Shape := ⟨2, ![1, 128]⟩
abbrev S1x3x1x64 : Shape := ⟨4, ![1, 3, 1, 64]⟩
abbrev S1x3x2x64 : Shape := ⟨4, ![1, 3, 2, 64]⟩
abbrev S3x128 : Shape := ⟨2, ![3, 128]⟩
abbrev S5x128 : Shape := ⟨2, ![5, 128]⟩
abbrev S8x128 : Shape := ⟨2, ![8, 128]⟩
abbrev S112x128 : Shape := ⟨2, ![112, 128]⟩
abbrev S128x128 : Shape := ⟨2, ![128, 128]⟩
abbrev S128x512 : Shape := ⟨2, ![128, 512]⟩
abbrev S128x256 : Shape := ⟨2, ![128, 256]⟩
abbrev S128x1 : Shape := ⟨2, ![128, 1]⟩
abbrev S128x14x256 : Shape := ⟨3, ![128, 14, 256]⟩
abbrev S128x1x256 : Shape := ⟨3, ![128, 1, 256]⟩
abbrev S128x24 : Shape := ⟨2, ![128, 24]⟩

abbrev nBuf : Space → Nat
  | .hbm => 56
  | .vmem => 20
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2344, .f32⟩
  | .hbm, ⟨3, _⟩ => ⟨S64, .f32⟩
  | .hbm, ⟨4, _⟩ => ⟨S3x64, .f32⟩
  | .hbm, ⟨5, _⟩ => ⟨S16x128, .f32⟩
  | .hbm, ⟨6, _⟩ => ⟨S128, .f32⟩
  | .hbm, ⟨7, _⟩ => ⟨S128x15x256, .f32⟩
  | .hbm, ⟨8, _⟩ => ⟨S1x1024, .f32⟩
  | .hbm, ⟨9, _⟩ => ⟨S1024x512, .f32⟩
  | .hbm, ⟨10, _⟩ => ⟨S1024x2x4x64, .f32⟩
  | .hbm, ⟨11, _⟩ => ⟨S1024x4x2x64, .f32⟩
  | .hbm, ⟨12, _⟩ => ⟨S1024x512, .f32⟩
  | .hbm, ⟨13, _⟩ => ⟨S1024x768, .f32⟩
  | .hbm, ⟨14, _⟩ => ⟨S1024x24, .f32⟩
  | .hbm, ⟨15, _⟩ => ⟨S_, .f32⟩
  | .hbm, ⟨16, _⟩ => ⟨S1024x104, .f32⟩
  | .hbm, ⟨17, _⟩ => ⟨S1024x768, .f32⟩
  | .hbm, ⟨18, _⟩ => ⟨S1024x16, .f32⟩
  | .hbm, ⟨19, _⟩ => ⟨S_, .f32⟩
  | .hbm, ⟨20, _⟩ => ⟨S1024x112, .f32⟩
  | .hbm, ⟨21, _⟩ => ⟨S1024x256, .f32⟩
  | .hbm, ⟨22, _⟩ => ⟨S1024x2560, .f32⟩
  | .hbm, ⟨23, _⟩ => ⟨S1024x2560, .bf16⟩
  | .hbm, ⟨24, _⟩ => ⟨S1x64, .f32⟩
  | .hbm, ⟨25, _⟩ => ⟨S2x64, .f32⟩
  | .hbm, ⟨26, _⟩ => ⟨S128, .f32⟩
  | .hbm, ⟨27, _⟩ => ⟨S1x128, .f32⟩
  | .hbm, ⟨28, _⟩ => ⟨S1x3x1x64, .f32⟩
  | .hbm, ⟨29, _⟩ => ⟨S1x3x2x64, .f32⟩
  | .hbm, ⟨30, _⟩ => ⟨S3x128, .f32⟩
  | .hbm, ⟨31, _⟩ => ⟨S_, .f32⟩
  | .hbm, ⟨32, _⟩ => ⟨S5x128, .f32⟩
  | .hbm, ⟨33, _⟩ => ⟨S8x128, .f32⟩
  | .hbm, ⟨34, _⟩ => ⟨S_, .f32⟩
  | .hbm, ⟨35, _⟩ => ⟨S112x128, .f32⟩
  | .hbm, ⟨36, _⟩ => ⟨S128x128, .f32⟩
  | .hbm, ⟨37, _⟩ => ⟨S128x128, .bf16⟩
  | .hbm, ⟨38, _⟩ => ⟨S1x128, .f32⟩
  | .hbm, ⟨39, _⟩ => ⟨S128x512, .bf16⟩
  | .hbm, ⟨40, _⟩ => ⟨S128x256, .f32⟩
  | .hbm, ⟨41, _⟩ => ⟨S128x256, .f32⟩
  | .hbm, ⟨42, _⟩ => ⟨S128x256, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x256, .f32⟩
  | .hbm, ⟨47, _⟩ => ⟨S128x256, .f32⟩
  | .hbm, ⟨48, _⟩ => ⟨S128x128, .f32⟩
  | .hbm, ⟨49, _⟩ => ⟨S128x256, .f32⟩
  | .hbm, ⟨50, _⟩ => ⟨S128x256, .bf16⟩
  | .hbm, ⟨51, _⟩ => ⟨S128x256, .bf16⟩
  | .hbm, ⟨52, _⟩ => ⟨S128x14x256, .f32⟩
  | .hbm, ⟨53, _⟩ => ⟨S128x1x256, .f32⟩
  | .hbm, ⟨54, _⟩ => ⟨S128x15x256, .f32⟩
  | .hbm, ⟨55, _⟩ => ⟨S128x24, .f32⟩
  | .local _ .vmem, ⟨0, _⟩ => ⟨S128x1024, .f32⟩
  | .local _ .vmem, ⟨1, _⟩ => ⟨S1x1024, .f32⟩
  | .local _ .vmem, ⟨2, _⟩ => ⟨S1024x2560, .bf16⟩
  | .local _ .vmem, ⟨3, _⟩ => ⟨S1x128, .f32⟩
  | .local _ .vmem, ⟨4, _⟩ => ⟨S8x128, .f32⟩
  | .local _ .vmem, ⟨5, _⟩ => ⟨S128x128, .bf16⟩
  | .local _ .vmem, ⟨6, _⟩ => ⟨S1x128, .f32⟩
  | .local _ .vmem, ⟨7, _⟩ => ⟨S128x512, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x256, .f32⟩
  | .local _ .vmem, ⟨15, _⟩ => ⟨S128x256, .f32⟩
  | .local _ .vmem, ⟨16, _⟩ => ⟨S128x128, .f32⟩
  | .local _ .vmem, ⟨17, _⟩ => ⟨S128x256, .f32⟩
  | .local _ .vmem, ⟨18, _⟩ => ⟨S128x256, .bf16⟩
  | .local _ .vmem, ⟨19, _⟩ => ⟨S128x256, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev main_v27_5 : Ref sig .tc := ⟨.hbm, 44, rfl⟩
abbrev main_v27_6 : Ref sig .tc := ⟨.hbm, 45, rfl⟩
abbrev main_v27_7 : Ref sig .tc := ⟨.hbm, 46, rfl⟩
abbrev main_v27_8 : Ref sig .tc := ⟨.hbm, 47, rfl⟩
abbrev main_v27_9 : Ref sig .tc := ⟨.hbm, 48, rfl⟩
abbrev main_v27_10 : Ref sig .tc := ⟨.hbm, 49, rfl⟩
abbrev main_v27_11 : Ref sig .tc := ⟨.hbm, 50, rfl⟩
abbrev main_v27_12 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]
-- ==== InStepRefIdeal.lean ====
abbrev S128x1024 : Shape := ⟨2, ![128, 1024]⟩
abbrev S1024 : Shape := ⟨1, ![1024]⟩
abbrev S1024x2344 : Shape := ⟨2, ![1024, 2344]⟩
abbrev S64 : Shape := ⟨1, ![64]⟩
abbrev S3x64 : Shape := ⟨2, ![3, 64]⟩
abbrev S16x128 : Shape := ⟨2, ![16, 128]⟩
abbrev S128 : Shape := ⟨1, ![128]⟩
abbrev S128x15x256 : Shape := ⟨3, ![128, 15, 256]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2344 : Shape := ⟨3, ![128, 1, 2344]⟩
abbrev S128x1x512 : Shape := ⟨3, ![128, 1, 512]⟩
abbrev S128x1x768 : Shape := ⟨3, ![128, 1, 768]⟩
abbrev S128x1x24 : Shape := ⟨3, ![128, 1, 24]⟩
abbrev S128x1x128 : Shape := ⟨3, ![128, 1, 128]⟩
abbrev S128x1x256 : Shape := ⟨3, ![128, 1, 256]⟩
abbrev S128x1x16 : Shape := ⟨3, ![128, 1, 16]⟩
abbrev S128x1x2x4x64 : Shape := ⟨5, ![128, 1, 2, 4, 64]⟩
abbrev S128x1x2x4 : Shape := ⟨4, ![128, 1, 2, 4]⟩
abbrev S128x1x2x4x1 : Shape := ⟨5, ![128, 1, 2, 4, 1]⟩
abbrev S1x1x1x1x64 : Shape := ⟨5, ![1, 1, 1, 1, 64]⟩
abbrev S128x1x3x2x2x64 : Shape := ⟨6, ![128, 1, 3, 2, 2, 64]⟩
abbrev S128x1x1x2x2x64 : Shape := ⟨6, ![128, 1, 1, 2, 2, 64]⟩
abbrev S128x1x2x2x64 : Shape := ⟨5, ![128, 1, 2, 2, 64]⟩
abbrev S128x1x1x1x2x64 : Shape := ⟨6, ![128, 1, 1, 1, 2, 64]⟩
abbrev S128x1x2x64 : Shape := ⟨4, ![128, 1, 2, 64]⟩
abbrev S1x64 : Shape := ⟨2, ![1, 64]⟩
abbrev S128x1x2 : Shape := ⟨3, ![128, 1, 2]⟩
abbrev S128x1x2x1 : Shape := ⟨4, ![128, 1, 2, 1]⟩
abbrev S1x1x1x64 : Shape := ⟨4, ![1, 1, 1, 64]⟩
abbrev S128x1x1x2x64 : Shape := ⟨5, ![128, 1, 1, 2, 64]⟩
abbrev S1x1x128 : Shape := ⟨3, ![1, 1, 128]⟩
abbrev S128x16x256 : Shape := ⟨3, ![128, 16, 256]⟩
abbrev S128x1x4x2x64 : Shape := ⟨5, ![128, 1, 4, 2, 64]⟩
abbrev S128x512 : Shape := ⟨2, ![128, 512]⟩
abbrev S128x256 : Shape := ⟨2, ![128, 256]⟩
abbrev S128x24 : Shape := ⟨2, ![128, 24]⟩
abbrev S128x128 : Shape := ⟨2, ![128, 128]⟩

abbrev nBuf : Space → Nat
  | .hbm => 151
  | .vmem => 0
  | .smem => 0
  | _ => 0

abbrev hbmTy0_0 (i : Nat) : BufTy := match i % 128 with
  | 0 => ⟨S128x1024, .f32⟩
  | 1 => ⟨S1024, .f32⟩
  | 2 => ⟨S1024x2344, .f32⟩
  | 3 => ⟨S64, .f32⟩
  | 4 => ⟨S3x64, .f32⟩
  | 5 => ⟨S16x128, .f32⟩
  | 6 => ⟨S128, .f32⟩
  | 7 => ⟨S128x15x256, .f32⟩
  | 8 => ⟨S128x1x1024, .f32⟩
  | 9 => ⟨S128x1x1024, .f32⟩
  | 10 => ⟨S_, .f32⟩
  | 11 => ⟨S128x1, .f32⟩
  | 12 => ⟨S128x1x1, .f32⟩
  | 13 => ⟨S_, .f32⟩
  | 14 => ⟨S128x1x1, .f32⟩
  | 15 => ⟨S128x1x1, .f32⟩
  | 16 => ⟨S_, .f32⟩
  | 17 => ⟨S128x1x1, .f32⟩
  | 18 => ⟨S128x1x1, .f32⟩
  | 19 => ⟨S128x1x1, .f32⟩
  | 20 => ⟨S128x1x1024, .f32⟩
  | 21 => ⟨S128x1x1024, .f32⟩
  | 22 => ⟨S1x1x1024, .f32⟩
  | 23 => ⟨S128x1x1024, .f32⟩
  | 24 => ⟨S128x1x1024, .f32⟩
  | 25 => ⟨S128x1x2344, .f32⟩
  | 26 => ⟨S128x1x512, .f32⟩
  | 27 => ⟨S128x1x768, .f32⟩
  | 28 => ⟨S128x1x24, .f32⟩
  | 29 => ⟨S128x1x128, .f32⟩
  | 30 => ⟨S128x1x128, .f32⟩
  | 31 => ⟨S128x1x256, .f32⟩
  | 32 => ⟨S128x1x256, .f32⟩
  | 33 => ⟨S128x1x16, .f32⟩
  | 34 => ⟨S128x1x256, .f32⟩
  | 35 => ⟨S128x1x2x4x64, .f32⟩
  | 36 => ⟨S128x1x2x4x64, .f32⟩
  | 37 => ⟨S_, .f32⟩
  | 38 => ⟨S128x1x2x4, .f32⟩
  | 39 => ⟨S128x1x2x4x1, .f32⟩
  | 40 => ⟨S_, .f32⟩
  | 41 => ⟨S128x1x2x4x1, .f32⟩
  | 42 => ⟨S128x1x2x4x1, .f32⟩
  | 43 => ⟨S_, .f32⟩
  | 44 => ⟨S128x1x2x4x1, .f32⟩
  | 45 => ⟨S128x1x2x4x1, .f32⟩
  | 46 => ⟨S128x1x2x4x1, .f32⟩
  | 47 => ⟨S128x1x2x4x64, .f32⟩
  | 48 => ⟨S128x1x2x4x64, .f32⟩
  | 49 => ⟨S1x1x1x1x64, .f32⟩
  | 50 => ⟨S128x1x2x4x64, .f32⟩
  | 51 => ⟨S128x1x2x4x64, .f32⟩
  | 52 => ⟨S128x1x3x2x2x64, .f32⟩
  | 53 => ⟨S128x1x1x2x2x64, .f32⟩
  | 54 => ⟨S128x1x2x2x64, .f32⟩
  | 55 => ⟨S128x1x1x1x2x64, .f32⟩
  | 56 => ⟨S128x1x2x64, .f32⟩
  | 57 => ⟨S1x64, .f32⟩
  | 58 => ⟨S64, .f32⟩
  | 59 => ⟨S128x1x2x64, .f32⟩
  | 60 => ⟨S_, .f32⟩
  | 61 => ⟨S128x1x2, .f32⟩
  | 62 => ⟨S128x1x2x1, .f32⟩
  | 63 => ⟨S_, .f32⟩
  | 64 => ⟨S128x1x2x1, .f32⟩
  | 65 => ⟨S128x1x2x1, .f32⟩
  | 66 => ⟨S_, .f32⟩
  | 67 => ⟨S128x1x2x1, .f32⟩
  | 68 => ⟨S128x1x2x1, .f32⟩
  | 69 => ⟨S128x1x2x1, .f32⟩
  | 70 => ⟨S128x1x2x64, .f32⟩
  | 71 => ⟨S128x1x2x64, .f32⟩
  | 72 => ⟨S1x1x1x64, .f32⟩
  | 73 => ⟨S128x1x2x64, .f32⟩
  | 74 => ⟨S128x1x2x64, .f32⟩
  | 75 => ⟨S128x1x1x1x2x64, .f32⟩
  | 76 => ⟨S128x1x2x64, .f32⟩
  | 77 => ⟨S128x1x1x2x64, .f32⟩
  | 78 => ⟨S128x1x1x2x64, .f32⟩
  | 79 => ⟨S128x1x2x2x64, .f32⟩
  | 80 => ⟨S128x1x1x1x2x64, .f32⟩
  | 81 => ⟨S128x1x2x64, .f32⟩
  | 82 => ⟨S1x64, .f32⟩
  | 83 => ⟨S64, .f32⟩
  | 84 => ⟨S128x1x2x64, .f32⟩
  | 85 => ⟨S_, .f32⟩
  | 86 => ⟨S128x1x2, .f32⟩
  | 87 => ⟨S128x1x2x1, .f32⟩
  | 88 => ⟨S_, .f32⟩
  | 89 => ⟨S128x1x2x1, .f32⟩
  | 90 => ⟨S128x1x2x1, .f32⟩
  | 91 => ⟨S_, .f32⟩
  | 92 => ⟨S128x1x2x1, .f32⟩
  | 93 => ⟨S128x1x2x1, .f32⟩
  | 94 => ⟨S128x1x2x1, .f32⟩
  | 95 => ⟨S128x1x2x64, .f32⟩
  | 96 => ⟨S128x1x2x64, .f32⟩
  | 97 => ⟨S1x1x1x64, .f32⟩
  | 98 => ⟨S128x1x2x64, .f32⟩
  | 99 => ⟨S128x1x2x64, .f32⟩
  | 100 => ⟨S128x1x1x1x2x64, .f32⟩
  | 101 => ⟨S128x1x2x64, .f32⟩
  | 102 => ⟨S128x1x1x2x64, .f32⟩
  | 103 => ⟨S128x1x1x2x64, .f32⟩
  | 104 => ⟨S128x1x2x2x64, .f32⟩
  | 105 => ⟨S128x1x24, .f32⟩
  | 106 => ⟨S128x1x24, .f32⟩
  | 107 => ⟨S_, .f32⟩
  | 108 => ⟨S128x1x24, .f32⟩
  | 109 => ⟨S128x1x24, .f32⟩
  | 110 => ⟨S_, .f32⟩
  | 111 => ⟨S128x1x24, .f32⟩
  | 112 => ⟨S128x1x24, .f32⟩
  | 113 => ⟨S128x1x128, .f32⟩
  | 114 => ⟨S1x1x128, .f32⟩
  | 115 => ⟨S128x1x128, .f32⟩
  | 116 => ⟨S128x1x128, .f32⟩
  | 117 => ⟨S128x1x128, .f32⟩
  | 118 => ⟨S_, .f32⟩
  | 119 => ⟨S128x1x128, .f32⟩
  | 120 => ⟨S128x1x128, .f32⟩
  | 121 => ⟨S128x1x128, .f32⟩
  | 122 => ⟨S128x1x128, .f32⟩
  | 123 => ⟨S128x1x128, .i1⟩
  | 124 => ⟨S128x1x128, .f32⟩
  | 125 => ⟨S128x1x128, .f32⟩
  | 126 => ⟨S128x1x128, .f32⟩
  | 127 => ⟨S128x1x128, .f32⟩
  | _ => ⟨S128x1024, .f32⟩

abbrev hbmTy0_1 (i : Nat) : BufTy := match i % 128 with
  | 0 => ⟨S128x1x128, .f32⟩
  | 1 => ⟨S128x1x128, .f32⟩
  | 2 => ⟨S128x1x128, .f32⟩
  | 3 => ⟨S128x1x128, .f32⟩
  | 4 => ⟨S128x1x128, .f32⟩
  | 5 => ⟨S_, .f32⟩
  | 6 => ⟨S128x1x128, .f32⟩
  | 7 => ⟨S128x1x128, .f32⟩
  | 8 => ⟨S128x16x256, .f32⟩
  | 9 => ⟨S128x15x256, .f32⟩
  | 10 => ⟨S128x1x4x2x64, .f32⟩
  | 11 => ⟨S128x512, .f32⟩
  | 12 => ⟨S128x512, .bf16⟩
  | 13 => ⟨S128x256, .f32⟩
  | 14 => ⟨S128x256, .f32⟩
  | 15 => ⟨S128x256, .f32⟩
  | 16 => ⟨S128x24, .f32⟩
  | 17 => ⟨S128x128, .f32⟩
  | 18 => ⟨S128x128, .f32⟩
  | 19 => ⟨S128x256, .f32⟩
  | 20 => ⟨S128x256, .f32⟩
  | 21 => ⟨S128x128, .f32⟩
  | 22 => ⟨S128x256, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_cst_9 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_cst_12 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_call0_v0 : Ref sig .tc := ⟨.hbm, 117, rfl⟩
abbrev main_call0_call0_cst : Ref sig .tc := ⟨.hbm, 118, rfl⟩
abbrev main_call0_call0_v0 : Ref sig .tc := ⟨.hbm, 119, rfl⟩
abbrev main_call0_call0_v1 : Ref sig .tc := ⟨.hbm, 120, rfl⟩
abbrev main_call0_call0_v2 : Ref sig .tc := ⟨.hbm, 121, rfl⟩
abbrev main_call0_call0_v3 : Ref sig .tc := ⟨.hbm, 122, rfl⟩
abbrev main_call0_call0_v4 : Ref sig .tc := ⟨.hbm, 123, rfl⟩
abbrev main_call0_call0_v5 : Ref sig .tc := ⟨.hbm, 124, rfl⟩
abbrev main_call0_call0_v6 : Ref sig .tc := ⟨.hbm, 125, rfl⟩
abbrev main_call0_call0_v7 : Ref sig .tc := ⟨.hbm, 126, rfl⟩
abbrev main_call0_call0_v8 : Ref sig .tc := ⟨.hbm, 127, rfl⟩
abbrev main_call0_call0_v9 : Ref sig .tc := ⟨.hbm, 128, rfl⟩
abbrev main_call0_call0_v10 : Ref sig .tc := ⟨.hbm, 129, rfl⟩
abbrev main_call0_call0_v11 : Ref sig .tc := ⟨.hbm, 130, rfl⟩
abbrev main_call0_v1 : Ref sig .tc := ⟨.hbm, 131, rfl⟩
abbrev main_v95 : Ref sig .tc := ⟨.hbm, 132, rfl⟩
abbrev main_cst_13 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]
-- ==== OutProj.lean ====
abbrev S16384x512 : Shape := ⟨2, ![16384, 512]⟩
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S16384x256, .bf16⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S512x1024, .f32⟩
  | .hbm, ⟨7, _⟩ => ⟨S2x4x64x1024, .f32⟩
  | .hbm, ⟨8, _⟩ => ⟨S4x2x64x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S16384x1024, .f32⟩
  | .hbm, ⟨15, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S16384x512 : Shape := ⟨2, ![16384, 512]⟩
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S16384x4x2x64 : Shape := ⟨4, ![16384, 4, 2, 64]⟩
abbrev S16384x2x4x64 : Shape := ⟨4, ![16384, 2, 4, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x256, .bf16⟩
  | .hbm, ⟨2, _⟩ => ⟨S16384x256, .bf16⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S16384x512, .f32⟩
  | .hbm, ⟨7, _⟩ => ⟨S16384x4x2x64, .f32⟩
  | .hbm, ⟨8, _⟩ => ⟨S16384x2x4x64, .f32⟩
  | .hbm, ⟨9, _⟩ => ⟨S16384x512, .f32⟩
  | .hbm, ⟨10, _⟩ => ⟨S16384x256, .f32⟩
  | .hbm, ⟨11, _⟩ => ⟨S16384x256, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Pool.lean ====
abbrev S16384x256 : Shape := ⟨2, ![16384, 256]⟩
abbrev S4x64x64 : Shape := ⟨3, ![4, 64, 64]⟩
abbrev S256 : Shape := ⟨1, ![256]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S2048x256 : Shape := ⟨2, ![2048, 256]⟩

abbrev nBuf : Space → Nat
  | .hbm => 19
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S4x64x64, .f32⟩
  | .hbm, ⟨2, _⟩ => ⟨S256, .f32⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .f32⟩
  | .hbm, ⟨10, _⟩ => ⟨S4x1x4x1, .f32⟩
  | .hbm, ⟨11, _⟩ => ⟨S4x64x1x64, .f32⟩
  | .hbm, ⟨12, _⟩ => ⟨S4x64x4x64, .f32⟩
  | .hbm, ⟨13, _⟩ => ⟨S4x64x4x64, .f32⟩
  | .hbm, ⟨14, _⟩ => ⟨S4x64x4x64, .f32⟩
  | .hbm, ⟨15, _⟩ => ⟨S256x256, .f32⟩
  | .hbm, ⟨16, _⟩ => ⟨S256x256, .bf16⟩
  | .hbm, ⟨17, _⟩ => ⟨S1x256, .f32⟩
  | .hbm, ⟨18, _⟩ => ⟨S16384x256, .bf16⟩
  | .local _ .vmem, ⟨0, _⟩ => ⟨S2048x256, .f32⟩
  | .local _ .vmem, ⟨1, _⟩ => ⟨S2048x256, .f32⟩
  | .local _ .vmem, ⟨2, _⟩ => ⟨S256x256, .bf16⟩
  | .local _ .vmem, ⟨3, _⟩ => ⟨S1x256, .f32⟩
  | .local _ .vmem, ⟨4, _⟩ => ⟨S2048x256, .bf16⟩
  | .local _ .vmem, ⟨5, _⟩ => ⟨S2048x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolRefIdeal.lean ====
abbrev S16384x256 : Shape := ⟨2, ![16384, 256]⟩
abbrev S4x64x64 : Shape := ⟨3, ![4, 64, 64]⟩
abbrev S256 : Shape := ⟨1, ![256]⟩
abbrev S8x2048x256 : Shape := ⟨3, ![8, 2048, 256]⟩
abbrev S_ : Shape := ⟨0, ![]⟩
abbrev S8x15x256 : Shape := ⟨3, ![8, 15, 256]⟩
abbrev S8x2063x256 : Shape := ⟨3, ![8, 2063, 256]⟩
abbrev S8x2064x256 : Shape := ⟨3, ![8, 2064, 256]⟩
abbrev S2048 : Shape := ⟨1, ![2048]⟩
abbrev S8x2048x64 : Shape := ⟨3, ![8, 2048, 64]⟩
abbrev S1x2048x1 : Shape := ⟨3, ![1, 2048, 1]⟩
abbrev S8x2048x4x64 : Shape := ⟨4, ![8, 2048, 4, 64]⟩
abbrev S4x64x8x2048 : Shape := ⟨4, ![4, 64, 8, 2048]⟩
abbrev S1x1x256 : Shape := ⟨3, ![1, 1, 256]⟩

abbrev nBuf : Space → Nat
  | .hbm => 77
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4x64x64, .f32⟩
  | .hbm, ⟨2, _⟩ => ⟨S256, .f32⟩
  | .hbm, ⟨3, _⟩ => ⟨S8x2048x256, .f32⟩
  | .hbm, ⟨4, _⟩ => ⟨S_, .f32⟩
  | .hbm, ⟨5, _⟩ => ⟨S8x15x256, .f32⟩
  | .hbm, ⟨6, _⟩ => ⟨S8x2063x256, .f32⟩
  | .hbm, ⟨7, _⟩ => ⟨S_, .f32⟩
  | .hbm, ⟨8, _⟩ => ⟨S_, .f32⟩
  | .hbm, ⟨9, _⟩ => ⟨S8x2063x256, .f32⟩
  | .hbm, ⟨10, _⟩ => ⟨S_, .i32⟩
  | .hbm, ⟨11, _⟩ => ⟨S_, .f32⟩
  | .hbm, ⟨12, _⟩ => ⟨S8x2064x256, .f32⟩
  | .hbm, ⟨13, _⟩ => ⟨S2048, .i32⟩
  | .hbm, ⟨14, _⟩ => ⟨S8x2048x64, .f32⟩
  | .hbm, ⟨15, _⟩ => ⟨S8x2048x64, .f32⟩
  | .hbm, ⟨16, _⟩ => ⟨S8x2048x64, .f32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S1x2048x1, .f32⟩
  | .hbm, ⟨25, _⟩ => ⟨S8x2048x64, .f32⟩
  | .hbm, ⟨26, _⟩ => ⟨S8x2048x64, .f32⟩
  | .hbm, ⟨27, _⟩ => ⟨S8x2048x64, .f32⟩
  | .hbm, ⟨28, _⟩ => ⟨S8x2048x64, .f32⟩
  | .hbm, ⟨29, _⟩ => ⟨S8x2048x64, .f32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .f32⟩
  | .hbm, ⟨37, _⟩ => ⟨S1x2048x1, .f32⟩
  | .hbm, ⟨38, _⟩ => ⟨S8x2048x64, .f32⟩
  | .hbm, ⟨39, _⟩ => ⟨S8x2048x64, .f32⟩
  | .hbm, ⟨40, _⟩ => ⟨S8x2048x64, .f32⟩
  | .hbm, ⟨41, _⟩ => ⟨S8x2048x64, .f32⟩
  | .hbm, ⟨42, _⟩ => ⟨S8x2048x64, .f32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i32⟩
  | .hbm, ⟨49, _⟩ => ⟨S2048, .f32⟩
  | .hbm, ⟨50, _⟩ => ⟨S1x2048x1, .f32⟩
  | .hbm, ⟨51, _⟩ => ⟨S8x2048x64, .f32⟩
  | .hbm, ⟨52, _⟩ => ⟨S8x2048x64, .f32⟩
  | .hbm, ⟨53, _⟩ => ⟨S8x2048x64, .f32⟩
  | .hbm, ⟨54, _⟩ => ⟨S8x2048x64, .f32⟩
  | .hbm, ⟨55, _⟩ => ⟨S8x2048x64, .f32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S2048, .f32⟩
  | .hbm, ⟨63, _⟩ => ⟨S1x2048x1, .f32⟩
  | .hbm, ⟨64, _⟩ => ⟨S8x2048x64, .f32⟩
  | .hbm, ⟨65, _⟩ => ⟨S8x2048x64, .f32⟩
  | .hbm, ⟨66, _⟩ => ⟨S8x2048x256, .f32⟩
  | .hbm, ⟨67, _⟩ => ⟨S8x2048x256, .f32⟩
  | .hbm, ⟨68, _⟩ => ⟨S8x2048x4x64, .f32⟩
  | .hbm, ⟨69, _⟩ => ⟨S4x64x8x2048, .f32⟩
  | .hbm, ⟨70, _⟩ => ⟨S8x2048x4x64, .f32⟩
  | .hbm, ⟨71, _⟩ => ⟨S8x2048x256, .f32⟩
  | .hbm, ⟨72, _⟩ => ⟨S1x1x256, .f32⟩
  | .hbm, ⟨73, _⟩ => ⟨S8x2048x256, .f32⟩
  | .hbm, ⟨74, _⟩ => ⟨S8x2048x256, .f32⟩
  | .hbm, ⟨75, _⟩ => ⟨S16384x256, .f32⟩
  | .hbm, ⟨76, _⟩ => ⟨S16384x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_c : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.FfnTile.lean ====
module

public import proofs.«01_k».proof.Proof.Gen.FfnIdeal.Frame
public import Idealize.ShloMosaic.Lib.Pointwise
public import Idealize.ShloMosaic.Lib.Pipeline.ValueKit

@[expose] public section

set_option maxRecDepth 16384

noncomputable section

namespace Cert.FfnIdeal.Tile

open Idealize.ShloMosaic Idealize.ShloMosaic.TcCoe Cert.FfnIdeal Cert.FfnIdeal.Gen

/-- One output of a row: the residual `x` plus the down projection of the gated row whose taps are `p2`, `p1`, `p0`. -/
def cell (p2 p1 p0 u b w2 w1 w0 wd : Fin 2816 → EReal) (x : EReal) : EReal :=
  x + ∑ f : Fin 2816,
    (b f + p2 f * w2 f + p1 f * w1 f + p0 f * w0 f)
      * Ideal.logistic (b f + p2 f * w2 f + p1 f * w1 f + p0 f * w0 f) * u f * wd f

/-! ## The layer's function of its arrays -/

section Spec

variable (hn : S16384x1024.Idx → EReal) (x : S16384x1024.Idx → EReal) (wu : S1024x5632.Idx → EReal)
  (cw : S3x2816.Idx → EReal) (cb : S2816.Idx → EReal) (wd : S2816x1024.Idx → EReal)

/-- The gate's half of the up projection at row `R`, column `f`. -/
def gate (R : Fin 16384) (f : Fin 2816) : EReal := ∑ k : Fin 1024, hn (ix2 R k) * wu (ix2 k ⟨f.val, by omega⟩)

/-- The value half. -/
def val (R : Fin 16384) (f : Fin 2816) : EReal := ∑ k : Fin 1024, hn (ix2 R k) * wu (ix2 k ⟨2816 + f.val, by omega⟩)

/-- The gate `s` positions back in its sequence of 2048, zero before the first. -/
def back (s : Nat) (R : Fin 16384) (f : Fin 2816) : EReal :=
  if R.val % 2048 < s then 0 else gate hn wu ⟨R.val - s, by omega⟩ f

/-- The residual plus the down projection of the gated convolution. -/
def out (j : S16384x1024.Idx) : EReal :=
  cell (back hn wu 2 (j 0)) (back hn wu 1 (j 0)) (gate hn wu (j 0)) (val hn wu (j 0)) (fun f => cb (ix1 f))
    (fun f => cw (ix2 0 f)) (fun f => cw (ix2 1 f)) (fun f => cw (ix2 2 f)) (fun f => wd (ix2 f (j 1))) (x j)

/-- The gate at the last eight positions of each row tile. -/
def tail (j : S32x8x2816.Idx) : EReal :=
  gate hn wu ⟨512 * (j 0).val + 504 + (j 1).val, by have := (j 0).isLt; have := (j 1).isLt; simp at *; omega⟩ (j 2)

end Spec

section Payloads

variable (v0 : Vec Ideal S512x1024 .bf16) (v17 v29 v40 : FVec Ideal S512x2816 .f32) (wu : Vec Ideal S1024x2816 .bf16)
  (b w2 w1 w0 : Vec Ideal S1x2816 .f32) (xr : Vec Ideal S128x1024 .f32) (wd : Vec Ideal S2816x1024 .bf16)
  (x : S128x1024.Idx) (r : Fin 512)

/-- `cell` read off the vectors the payloads take, at row `r` of the block and the payload's index `x`. -/
abbrev cellAt : EReal :=
  cell (fun f => v40 (ix2 r f)) (fun f => v29 (ix2 r f)) (fun f => v17 (ix2 r f))
    (fun f => ∑ k : Fin 1024, v0 (ix2 r k) * wu (ix2 k f)) (fun f => b (ix2 0 f)) (fun f => w2 (ix2 0 f))
    (fun f => w1 (ix2 0 f)) (fun f => w0 (ix2 0 f)) (fun f => wd (ix2 f (x 1))) (xr x)

theorem pay12_cell (v31 : IVec S512x2816 1) (v37 : FVec Ideal S512x2816 .f32) (v38 : FVec Ideal S1x2816 .f32)
    (hr : r.val = (x 0).val) :
    k0_pay12 v0 v17 v29 v31 v37 v38 wu b w2 w1 w0 xr wd x
      = cellAt v0 v17 v29 (k0_pay10 v31 v37 v38) wu b w2 w1 w0 xr wd x r := by
  obtain ⟨r, hr'⟩ := r; subst hr
  unfold cellAt cell k0_pay12; generalize k0_pay10 v31 v37 v38 = v40
  pointwise

theorem pay13_cell (hr : r.val = 128 + (x 0).val) :
    k0_pay13 v0 v17 v29 v40 wu b w2 w1 w0 xr wd x = cellAt v0 v17 v29 v40 wu b w2 w1 w0 xr wd x r := by
  obtain ⟨r, hr'⟩ := r; subst hr
  unfold cellAt cell
  pointwise [k0_pay13]

theorem pay15_cell (hr : r.val = 256 + (x 0).val) :
    k0_pay15 v17 v29 v40 (k0_pay14 v0) wu b w2 w1 w0 xr wd x = cellAt v0 v17 v29 v40 wu b w2 w1 w0 xr wd x r := by
  obtain ⟨r, hr'⟩ := r; subst hr
  unfold cellAt cell
  pointwise [k0_pay15, k0_pay14]

theorem pay1_cell (hr : r.val = 384 + (x 0).val) :
    k0_pay1 v17 v29 v40 (k0_pay16 v0 wu) b w2 w1 w0 xr wd x = cellAt v0 v17 v29 v40 wu b w2 w1 w0 xr wd x r := by
  obtain ⟨r, hr'⟩ := r; subst hr
  unfold cellAt cell
  pointwise [k0_pay1, k0_pay16]

end Payloads

/-- The printed test `program_id mod 4 = 0`, read as the row tile being its sequence's first. -/
theorem first_eq : ∀ n : Fin 32,
    Scalar.cmpi CmpIPredicate.eq
          (Scalar.select
            (Scalar.andi
              (Scalar.xori
                (Scalar.cmpi CmpIPredicate.slt
                  (Scalar.remsi (BitVec.ofNat 32 n.val)
                    (Scalar.select (Scalar.cmpi CmpIPredicate.eq 4#32 0#32) 1#32 4#32))
                  0#32)
                (Scalar.cmpi CmpIPredicate.slt (Scalar.select (Scalar.cmpi CmpIPredicate.eq 4#32 0#32) 1#32 4#32) 0#32))
              (Scalar.cmpi CmpIPredicate.ne
                (Scalar.remsi (BitVec.ofNat 32 n.val)
                  (Scalar.select (Scalar.cmpi CmpIPredicate.eq 4#32 0#32) 1#32 4#32))
                0#32))
            (Scalar.addi
              (Scalar.remsi (BitVec.ofNat 32 n.val) (Scalar.select (Scalar.cmpi CmpIPredicate.eq 4#32 0#32) 1#32 4#32))
              (Scalar.select (Scalar.cmpi CmpIPredicate.eq 4#32 0#32) 1#32 4#32))
            (Scalar.remsi (BitVec.ofNat 32 n.val) (Scalar.select (Scalar.cmpi CmpIPredicate.eq 4#32 0#32) 1#32 4#32)))
          0#32 = if n.val % 4 = 0 then 1#1 else 0#1 := by decide +kernel

theorem row_eq_0 : ∀ r : Fin 512, IntOp.cmpi CmpIPredicate.eq (BitVec.ofNat 32 r.val) 0#32 = if r.val = 0 then 1#1 else 0#1 := by
  decide +kernel
theorem row_eq_1 : ∀ r : Fin 512, IntOp.cmpi CmpIPredicate.eq (BitVec.ofNat 32 r.val) 1#32 = if r.val = 1 then 1#1 else 0#1 := by
  decide +kernel

theorem select_ite {α : Type} (p : Prop) [Decidable p] (a b : α) :
    Scalar.select (if p then 1#1 else 0#1) a b = if p then a else b := by
  by_cases h : p <;> simp [h, Scalar.select]

section Taps

variable (i : grid0.Coords) (v0 : Vec Ideal S512x1024 .bf16) (v12 : Vec Ideal S16x1024 .bf16) (v14 : Vec Ideal S1024x2816 .bf16)
  (r : Fin 512) (f : Fin 2816)

theorem tap0 : k0_pay3 v0 v12 v14 (ix2 r f) = ∑ k : Fin 1024, v0 (ix2 r k) * v14 (ix2 k f) := by
  pointwise [k0_pay3, k0_pay2]

theorem tap1 : k0_pay6 i v0 v12 v14 (ix2 r f)
      = if r.val = 0 then (if (i 0).val % 4 = 0 then 0 else ∑ k : Fin 1024, v12 (ix2 15 k) * v14 (ix2 k f))
        else ∑ k : Fin 1024, v0 (ix2 ⟨r.val - 1, by omega⟩ k) * v14 (ix2 k f) := by
  pointwise [k0_pay6, k0_pay5, k0_pay4, k0_pay3, k0_pay2]
  erw [first_eq (i 0), row_eq_0 r]
  rw [select_ite, select_ite]
  by_cases h : r.val = 0
  · rw [if_pos h, if_pos h]
  · rw [if_neg h, if_neg h]
    refine Finset.sum_congr rfl fun k _ => congrArg (· * v14 (ix2 k f)) ?_
    refine (dif_pos (Nat.mod_lt _ (by omega))).trans (congrArg (fun n => v0 (ix2 n k)) (Fin.ext ?_))
    show (r.val + 512 - 1) % 512 = r.val - 1
    omega

theorem tap2 : k0_pay10 k0_pay7 (k0_pay8 i v0 v12 v14) (k0_pay9 i v0 v12 v14) (ix2 r f)
      = if r.val = 0 then (if (i 0).val % 4 = 0 then 0 else ∑ k : Fin 1024, v12 (ix2 14 k) * v14 (ix2 k f))
        else if r.val = 1 then (if (i 0).val % 4 = 0 then 0 else ∑ k : Fin 1024, v12 (ix2 15 k) * v14 (ix2 k f))
        else ∑ k : Fin 1024, v0 (ix2 ⟨r.val - 2, by omega⟩ k) * v14 (ix2 k f) := by
  pointwise [k0_pay10, k0_pay7, k0_pay9, k0_pay8, k0_pay5, k0_pay4, k0_pay3, k0_pay2]
  erw [first_eq (i 0), row_eq_0 r, row_eq_1 r]
  rw [select_ite, select_ite, select_ite, select_ite]
  by_cases h : r.val = 0
  · rw [if_pos h, if_pos h]
  rw [if_neg h, if_neg h]
  by_cases h1 : r.val = 1
  · rw [if_pos h1, if_pos h1]
  rw [if_neg h1, if_neg h1]
  refine Finset.sum_congr rfl fun k _ => congrArg (· * v14 (ix2 k f)) ?_
  refine (dif_pos (Nat.mod_lt _ (by omega))).trans (congrArg (fun n => v0 (ix2 n k)) (Fin.ext ?_))
  show (r.val + 512 - 2) % 512 = r.val - 2
  omega

end Taps

end Cert.FfnIdeal.Tile
end
-- ==== Proof.FfnValue.lean ====
module

public import proofs.«01_k».proof.Proof.FfnTile
public import Idealize.ShloMosaic.Lib.Claim

@[expose] public section

set_option maxRecDepth 16384

noncomputable section

namespace Cert.FfnIdeal.Tile

open Idealize.ShloMosaic Idealize.ShloMosaic.TcCoe Cert.FfnIdeal Cert.FfnIdeal.Gen

/-! ## The blocks at coordinates -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![32 * t.val - 1, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0, 0] := (by decide +kernel : ∀ t : Fin grid0.N, _)

theorem coords_val : ∀ t : Fin cfg0.N, (grid0.coords t 0).val = t.val := (by decide +kernel : ∀ t : Fin grid0.N, _)
theorem t_lt (t : Fin cfg0.N) : t.val < 32 := t.isLt

theorem blk0 (t : Fin cfg0.N) (r : Fin 512) (k : Fin 1024) :
    iblk m c 0 t (ix2 r k) = m ((c : Thread nD τ).loc main_arg0) (ix2 ⟨512 * t.val + r.val, by have := t_lt t; omega⟩ k) := by
  blk_ext! [iblk, V_main_arg0, idx0 t]
theorem blk1 (t : Fin cfg0.N) (r : Fin 16) (k : Fin 1024) :
    iblk m c 1 t (ix2 r k) = m ((c : Thread nD τ).loc main_arg0) (ix2 ⟨16 * (32 * t.val - 1) + r.val, by have := t_lt t; omega⟩ k) := by
  blk_ext! [iblk, V_main_arg0, idx1 t]
theorem blk2 (t : Fin cfg0.N) (r : Fin 512) (k : Fin 1024) :
    iblk m c 2 t (ix2 r k) = m ((c : Thread nD τ).loc main_arg1) (ix2 ⟨512 * t.val + r.val, by have := t_lt t; omega⟩ k) := by
  blk_ext! [iblk, V_main_arg1, idx2 t]
theorem V_v2 : V m c main_v2 = concatenate S8x2816 0 [⟨S3x2816, (show FVec Ideal S3x2816 .f32 from m ((c : Thread nD τ).loc main_arg3))⟩,
      ⟨S5x2816, (broadcastInDim S5x2816 ![] bcast_S_S5x2816 (constant (F := Ideal) S_ .f32 0x00000000#32) : FVec Ideal S5x2816 .f32)⟩] concatenates_S3x2816_S5x2816_S8x2816_d0 := by
  show StableHlo.after hostOps0 (fun b => m (c, b)) (Proc.tc.devRef main_v2) = _
  after_results
theorem V_v3 : V m c main_v3 = extractStridedSlice S1024x2816 ![0, 0]
      (truncf (F := Ideal) .bf16 (m ((c : Thread nD τ).loc main_arg2)) bitsLt_bf16_f32) slices_S1024x5632_S1024x2816_0_0 := by
  show StableHlo.after hostOps0 (fun b => m (c, b)) (Proc.tc.devRef main_v3) = _
  after_results
theorem V_v4 : V m c main_v4 = extractStridedSlice S1024x2816 ![0, 2816]
      (truncf (F := Ideal) .bf16 (m ((c : Thread nD τ).loc main_arg2)) bitsLt_bf16_f32) slices_S1024x5632_S1024x2816_0_2816 := by
  show StableHlo.after hostOps0 (fun b => m (c, b)) (Proc.tc.devRef main_v4) = _
  after_results
theorem V_v5 : V m c main_v5 = broadcastInDim S1x2816 ![1] bcast_S2816_S1x2816_1 (m ((c : Thread nD τ).loc main_arg4)) := by
  show StableHlo.after hostOps0 (fun b => m (c, b)) (Proc.tc.devRef main_v5) = _
  after_results
theorem V_v6 : V m c main_v6 = truncf (F := Ideal) .bf16 (m ((c : Thread nD τ).loc main_arg5)) bitsLt_bf16_f32 := by
  show StableHlo.after hostOps0 (fun b => m (c, b)) (Proc.tc.devRef main_v6) = _
  after_results

theorem blk3 (t : Fin cfg0.N) (k : Fin 1024) (f : Fin 2816) :
    iblk m c 3 t (ix2 k f) = m ((c : Thread nD τ).loc main_arg2) (ix2 k ⟨f.val, by omega⟩) := by
  have e : iblk m c 3 t (ix2 k f) = V m c main_v3 (ix2 k f) := by blk_ext! [iblk, idx3 t]
  rw [e, V_v3]; pointwise
theorem blk4 (t : Fin cfg0.N) (k : Fin 1024) (f : Fin 2816) :
    iblk m c 4 t (ix2 k f) = m ((c : Thread nD τ).loc main_arg2) (ix2 k ⟨2816 + f.val, by omega⟩) := by
  have e : iblk m c 4 t (ix2 k f) = V m c main_v4 (ix2 k f) := by blk_ext! [iblk, idx4 t]
  rw [e, V_v4]; pointwise
theorem blk5 (t : Fin cfg0.N) (a : Fin 8) (ha : a.val < 3) (f : Fin 2816) :
    iblk m c 5 t (ix2 a f) = m ((c : Thread nD τ).loc main_arg3) (ix2 ⟨a.val, ha⟩ f) := by
  have e : iblk m c 5 t (ix2 a f) = V m c main_v2 (ix2 a f) := by blk_ext! [iblk, idx5 t]
  rw [e, V_v2]; pointwise
  rw [dif_pos ha]
theorem blk6 (t : Fin cfg0.N) (f : Fin 2816) :
    iblk m c 6 t (ix2 0 f) = m ((c : Thread nD τ).loc main_arg4) (ix1 f) := by
  have e : iblk m c 6 t (ix2 0 f) = V m c main_v5 (ix2 0 f) := by blk_ext! [iblk, idx6 t]
  rw [e, V_v5]; pointwise
theorem blk7 (t : Fin cfg0.N) (f : Fin 2816) (k : Fin 1024) :
    iblk m c 7 t (ix2 f k) = m ((c : Thread nD τ).loc main_arg5) (ix2 f k) := by
  have e : iblk m c 7 t (ix2 f k) = V m c main_v6 (ix2 f k) := by blk_ext! [iblk, idx7 t]
  rw [e, V_v6]; pointwise

/-! ## What the body leaves -/

section Point

variable (t : Fin cfg0.N)

theorem ld0 (X : Vec Ideal S512x1024 .bf16) : View.ld X r0_0 = X := View.ld_unit_lit _ X (by decide)
theorem ld1 (X : Vec Ideal S16x1024 .bf16) : View.ld X r0_1 = X := View.ld_unit_lit _ X (by decide)
theorem ld2 (X : Vec Ideal S1024x2816 .bf16) : View.ld X r0_2 = X := View.ld_unit_lit _ X (by decide)
theorem ld4 (X : Vec Ideal S1x2816 .f32) : View.ld X r0_4 = X := View.ld_unit_lit _ X (by decide)
theorem ld9 (X : Vec Ideal S2816x1024 .bf16) : View.ld X r0_9 = X := View.ld_unit_lit _ X (by decide)

/-- Row `r` of row tile `t`. -/
def row (r : Fin 512) : Fin 16384 := ⟨512 * t.val + r.val, by have := t_lt t; omega⟩

/-- The gate's half at a row of the tile. -/
theorem gate_row (r : Fin 512) (f : Fin 2816) :
    k0_pay17 (grid0.coords t) (iblk m c 0 t) (iblk m c 1 t) (iblk m c 2 t) (iblk m c 3 t) (iblk m c 4 t) (iblk m c 5 t)
        (iblk m c 6 t) (iblk m c 7 t) (ix2 r f)
      = gate (m ((c : Thread nD τ).loc main_arg0)) (m ((c : Thread nD τ).loc main_arg2)) (row t r) f := by
  unfold k0_pay17 gate
  rw [tap0, ld0, ld2]
  exact Finset.sum_congr rfl fun k _ => congrArg₂ (· * ·) (blk0 m c t r k) (blk3 m c t k f)

/-- The gate one position back. -/
theorem back1_row (r : Fin 512) (f : Fin 2816) :
    k0_pay18 (grid0.coords t) (iblk m c 0 t) (iblk m c 1 t) (iblk m c 2 t) (iblk m c 3 t) (iblk m c 4 t) (iblk m c 5 t)
        (iblk m c 6 t) (iblk m c 7 t) (ix2 r f)
      = back (m ((c : Thread nD τ).loc main_arg0)) (m ((c : Thread nD τ).loc main_arg2)) 1 (row t r) f := by
  unfold k0_pay18 back gate
  rw [tap1, ld0, ld1, ld2, coords_val]
  have ht := t_lt t
  by_cases h : r.val = 0
  · rw [if_pos h]
    by_cases h4 : t.val % 4 = 0
    · rw [if_pos h4, if_pos (show (row t r).val % 2048 < 1 by simp only [row]; omega)]
    · rw [if_neg h4, if_neg (show ¬ (row t r).val % 2048 < 1 by simp only [row]; omega)]
      refine Finset.sum_congr rfl fun k _ => congrArg₂ (· * ·) ((blk1 m c t 15 k).trans ?_) (blk3 m c t k f)
      exact congrArg (fun n => m ((c : Thread nD τ).loc main_arg0) (ix2 n k)) (Fin.ext (by simp only [row]; simp; omega))
  · rw [if_neg h, if_neg (show ¬ (row t r).val % 2048 < 1 by simp only [row]; omega)]
    refine Finset.sum_congr rfl fun k _ => congrArg₂ (· * ·) ((blk0 m c t _ k).trans ?_) (blk3 m c t k f)
    exact congrArg (fun n => m ((c : Thread nD τ).loc main_arg0) (ix2 n k)) (Fin.ext (by simp only [row]; omega))

/-- The gate two positions back. -/
theorem back2_row (r : Fin 512) (f : Fin 2816) :
    k0_pay22 (grid0.coords t) (iblk m c 0 t) (iblk m c 1 t) (iblk m c 2 t) (iblk m c 3 t) (iblk m c 4 t) (iblk m c 5 t)
        (iblk m c 6 t) (iblk m c 7 t) (ix2 r f)
      = back (m ((c : Thread nD τ).loc main_arg0)) (m ((c : Thread nD τ).loc main_arg2)) 2 (row t r) f := by
  unfold k0_pay22 k0_pay21 k0_pay20 k0_pay19 back gate
  rw [tap2, ld0, ld1, ld2, coords_val]
  have ht := t_lt t
  by_cases h : r.val = 0
  · rw [if_pos h]
    by_cases h4 : t.val % 4 = 0
    · rw [if_pos h4, if_pos (show (row t r).val % 2048 < 2 by simp only [row]; omega)]
    · rw [if_neg h4, if_neg (show ¬ (row t r).val % 2048 < 2 by simp only [row]; omega)]
      refine Finset.sum_congr rfl fun k _ => congrArg₂ (· * ·) ((blk1 m c t 14 k).trans ?_) (blk3 m c t k f)
      exact congrArg (fun n => m ((c : Thread nD τ).loc main_arg0) (ix2 n k)) (Fin.ext (by simp only [row]; simp; omega))
  rw [if_neg h]
  by_cases h1 : r.val = 1
  · rw [if_pos h1]
    by_cases h4 : t.val % 4 = 0
    · rw [if_pos h4, if_pos (show (row t r).val % 2048 < 2 by simp only [row]; omega)]
    · rw [if_neg h4, if_neg (show ¬ (row t r).val % 2048 < 2 by simp only [row]; omega)]
      refine Finset.sum_congr rfl fun k _ => congrArg₂ (· * ·) ((blk1 m c t 15 k).trans ?_) (blk3 m c t k f)
      exact congrArg (fun n => m ((c : Thread nD τ).loc main_arg0) (ix2 n k)) (Fin.ext (by simp only [row]; simp; omega))
  rw [if_neg h1, if_neg (show ¬ (row t r).val % 2048 < 2 by simp only [row]; omega)]
  refine Finset.sum_congr rfl fun k _ => congrArg₂ (· * ·) ((blk0 m c t _ k).trans ?_) (blk3 m c t k f)
  exact congrArg (fun n => m ((c : Thread nD τ).loc main_arg0) (ix2 n k)) (Fin.ext (by simp only [row]; omega))

/-- One output cell of the tile from the blocks. -/
theorem cell_row (r : Fin 512) (x : S128x1024.Idx) (q : Fin 1024) (hq : q.val = (x 1).val) (xr : Vec Ideal S128x1024 .f32)
    (hx : xr x = iblk m c 2 t (ix2 r q)) :
    cellAt (View.ld (iblk m c 0 t) r0_0)
        (k0_pay17 (grid0.coords t) (iblk m c 0 t) (iblk m c 1 t) (iblk m c 2 t) (iblk m c 3 t) (iblk m c 4 t) (iblk m c 5 t)
          (iblk m c 6 t) (iblk m c 7 t))
        (k0_pay18 (grid0.coords t) (iblk m c 0 t) (iblk m c 1 t) (iblk m c 2 t) (iblk m c 3 t) (iblk m c 4 t) (iblk m c 5 t)
          (iblk m c 6 t) (iblk m c 7 t))
        (k0_pay22 (grid0.coords t) (iblk m c 0 t) (iblk m c 1 t) (iblk m c 2 t) (iblk m c 3 t) (iblk m c 4 t) (iblk m c 5 t)
          (iblk m c 6 t) (iblk m c 7 t))
        (View.ld (iblk m c 4 t) r0_2) (View.ld (iblk m c 6 t) r0_4) (View.ld (iblk m c 5 t) r0_5) (View.ld (iblk m c 5 t) r0_6)
        (View.ld (iblk m c 5 t) r0_7) xr (View.ld (iblk m c 7 t) r0_9) x r
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 (row t r) q) := by
  have e1 : x 1 = q := Fin.ext hq.symm
  unfold cellAt
  rw [hx, blk2, e1, ld0, ld2, ld4, ld9]
  have a5 : ∀ f, View.ld (iblk m c 5 t) r0_5 (ix2 0 f) = m ((c : Thread nD τ).loc main_arg3) (ix2 0 f) := fun f =>
    (show _ = iblk m c 5 t (ix2 0 f) by pointwise).trans (blk5 m c t 0 (by decide) f)
  have a6 : ∀ f, View.ld (iblk m c 5 t) r0_6 (ix2 0 f) = m ((c : Thread nD τ).loc main_arg3) (ix2 1 f) := fun f =>
    (show _ = iblk m c 5 t (ix2 1 f) by pointwise).trans (blk5 m c t 1 (by decide) f)
  have a7 : ∀ f, View.ld (iblk m c 5 t) r0_7 (ix2 0 f) = m ((c : Thread nD τ).loc main_arg3) (ix2 2 f) := fun f =>
    (show _ = iblk m c 5 t (ix2 2 f) by pointwise).trans (blk5 m c t 2 (by decide) f)
  simp only [gate_row m c t, back1_row m c t, back2_row m c t, a5, a6, a7, blk6, blk7, blk0, blk4]
  rfl

theorem final8 : (dats m 0 c).arrAt 8 cfg0.N = out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 8 _ (by decide +kernel) fun t hf y => ?_
  blk_simp
  rw [after0_8]
  have e : (win0_8.blk t).view.emb y = ix2 (row t (y 0)) (y 1) := by
    blk_ext [row, idx8 t]
  rw [e]
  have ld : ∀ (r : Fin 512) (q : Fin 1024) (x : S128x1024.Idx) (o : Nat) (inb), r.val = o + (x 0).val → q.val = (x 1).val →
      View.ld (iblk m c 2 t) (Rect.unit (s := S512x1024) ![o, 0] S128x1024.size inb) x = iblk m c 2 t (ix2 r q) := by
    intro r q x o inb hr hq
    obtain ⟨r, hr'⟩ := r; obtain ⟨q, hq'⟩ := q; subst hr hq
    pointwise
  canon_tiles x h using cover0_8 ..
  · rw [pay1_cell (r := y 0) (hr := h0)]
    exact cell_row m c t (y 0) x (y 1) h1 _ (ld _ _ _ _ _ h0 h1)
  · rw [pay15_cell (r := y 0) (hr := h0)]
    exact cell_row m c t (y 0) x (y 1) h1 _ (ld _ _ _ _ _ h0 h1)
  · rw [pay13_cell (r := y 0) (hr := h0)]
    exact cell_row m c t (y 0) x (y 1) h1 _ (ld _ _ _ _ _ h0 h1)
  · rw [pay12_cell (r := y 0) (hr := h0)]
    exact cell_row m c t (y 0) x (y 1) h1 _ (ld _ _ _ _ _ (h0.trans (Nat.zero_add _).symm) h1)

theorem final9 : (dats m 0 c).arrAt 9 cfg0.N = tail (m ((c : Thread nD τ).loc main_arg0)) (m ((c : Thread nD τ).loc main_arg2)) := by
  refine (dats m 0 c).arrAt_eq_of_covers 9 _ (by decide +kernel) fun t hf y => ?_
  blk_simp
  rw [after0_9]
  canon_tiles x h using cover0_9 ..
  pointwise [k0_pay11]
  refine (gate_row m c t _ _).trans ?_
  have e : (win0_9.blk t).view.emb y = ix3 (⟨t.val, t_lt t⟩ : Fin 32) (x 1) (x 2) := by
    blk_ext [idx9 t]
  refine Eq.trans ?_ (congrArg (tail _ _) e.symm)
  exact congrArg (fun n => gate _ _ n _) (Fin.ext (show 512 * t.val + (504 + (x 1).val) = 512 * t.val + 504 + (x 1).val by omega))

end Point

end Cert.FfnIdeal.Tile
end
-- ==== Proof.FfnRef.lean ====
module

public import proofs.«01_k».proof.Proof.FfnTile
public import proofs.«01_k».proof.Proof.Gen.FfnRefIdeal.Read

@[expose] public section

set_option maxRecDepth 16384

noncomputable section

namespace Cert.FfnRefIdeal.Tile

open Idealize.ShloMosaic Idealize.ShloMosaic.TcCoe Cert.FfnRefIdeal Cert.FfnRefIdeal.Read
open Cert.FfnIdeal.Tile (gate val back out cell)

variable (x0 : (⟨S16384x1024, .bf16⟩ : BufTy).Contents (Elt Ideal)) (x1 : (⟨S16384x1024, .f32⟩ : BufTy).Contents (Elt Ideal))
  (x2 : (⟨S1024x5632, .f32⟩ : BufTy).Contents (Elt Ideal)) (x3 : (⟨S3x2816, .f32⟩ : BufTy).Contents (Elt Ideal))
  (x4 : (⟨S2816, .f32⟩ : BufTy).Contents (Elt Ideal)) (x5 : (⟨S2816x1024, .f32⟩ : BufTy).Contents (Elt Ideal))

/-- Position `l` of sequence `b` as a row. -/
def pos (b : Fin 8) (l : Fin 2048) : Fin 16384 := ⟨2048 * b.val + l.val, by omega⟩

theorem v3_gate (b : Fin 8) (l : Fin 2048) (f : Fin 2816) : val_main_v3 x0 x2 (ix3 b l f) = gate x0 x2 (pos b l) f := by
  pointwise [val_main_v3, val_main_v2, val_main_v1, val_main_v0]
  refine Finset.sum_congr rfl fun k _ => congrArg (· * _) (congrArg (fun n => x0 (ix2 n k)) (Fin.ext ?_))
  show b.val * 2048 + l.val = 2048 * b.val + l.val
  omega

theorem v4_val (b : Fin 8) (l : Fin 2048) (f : Fin 2816) : val_main_v4 x0 x2 (ix3 b l f) = val x0 x2 (pos b l) f := by
  pointwise [val_main_v4, val_main_v2, val_main_v1, val_main_v0]
  refine Finset.sum_congr rfl fun k _ => congrArg (· * _) (congrArg (fun n => x0 (ix2 n k)) (Fin.ext ?_))
  show b.val * 2048 + l.val = 2048 * b.val + l.val
  omega

/-- The gate after two zero rows: row `n` is the gate at position `n - 2`. -/
theorem v6_ext (b : Fin 8) (n : Fin 2050) (f : Fin 2816) : val_main_v6 x0 x2 (ix3 b n f)
      = if h : n.val < 2 then 0 else gate x0 x2 (pos b ⟨n.val - 2, by omega⟩) f := by
  pointwise [val_main_v6, val_main_v5, val_main_cst]
  simp only [v3_gate]
  try rfl

/-- `s` positions back in the extended array. -/
theorem v6_back (s : Nat) (hs : s ≤ 2) (R : Fin 16384) (n : Fin 2050) (hn : n.val = 2 - s + R.val % 2048) (f : Fin 2816) :
    val_main_v6 x0 x2 (ix3 ⟨R.val / 2048, by omega⟩ n f) = back x0 x2 s R f := by
  rw [v6_ext, back]
  by_cases h : R.val % 2048 < s
  · rw [dif_pos (show n.val < 2 by omega), if_pos h]
  · rw [dif_neg (show ¬ n.val < 2 by omega), if_neg h]
    refine congrArg (fun n => gate x0 x2 n f) (Fin.ext ?_)
    show 2048 * (R.val / 2048) + (n.val - 2) = R.val - s
    omega

theorem back0 (R : Fin 16384) (f : Fin 2816) : back x0 x2 0 R f = gate x0 x2 R f := by
  rw [back, if_neg (Nat.not_lt_zero _)]; rfl

theorem v34_cell : val_main_v34 x0 x1 x2 x3 x4 x5 = out x0 x1 x2 x3 x4 x5 := by
  funext i
  pointwise [val_main_v34, val_main_v33, val_main_v32, val_main_v31, val_main_v30, val_main_v29, val_main_v28, val_main_v27,
   val_main_v26, val_main_v25, val_main_v24, val_main_v23, val_main_v22, val_main_v21, val_main_v20, val_main_v19, val_main_v18,
   val_main_v17, val_main_v16, val_main_v15, val_main_v14, val_main_v13, val_main_v12, val_main_v11, val_main_v10, val_main_v9,
   val_main_v8, val_main_v7, val_main_call0_v5, val_main_call0_v4, val_main_call0_v3, val_main_call0_v2, val_main_call0_v1,
   val_main_call0_v0]
  have hi : (i 0).val < 16384 := (i 0).isLt
  unfold out cell
  refine congrArg (x1 i + ·) (Finset.sum_congr rfl fun f _ => ?_)
  rw [v6_back x0 x2 2 (by omega) (i 0) ⟨(i 0).val % 2048, by omega⟩ (Nat.zero_add _).symm f,
    v6_back x0 x2 1 (by omega) (i 0) ⟨1 + (i 0).val % 2048, by omega⟩ rfl f,
    v6_back x0 x2 0 (by omega) (i 0) ⟨2 + (i 0).val % 2048, by omega⟩ rfl f, v4_val]
  have e : pos ⟨(i 0).val / 2048, by omega⟩ ⟨(i 0).val % 2048, by omega⟩ = i 0 :=
    Fin.ext (show 2048 * ((i 0).val / 2048) + (i 0).val % 2048 = (i 0).val by omega)
  have one0 : val_main_call0_cst (F := Ideal) ix0 = 1 := by pointwise [val_main_call0_cst]
  have one1 : val_main_call0_cst_0 (F := Ideal) ix0 = 1 := by pointwise [val_main_call0_cst_0]
  erw [e, one0, one1, back0]
  rfl

/-- The last two positions of each sequence. -/
theorem v35_tail (b : Fin 8) (s : Fin 2) (f : Fin 2816) : val_main_v35 x0 x2 (ix3 b s f) = gate x0 x2 (pos b ⟨2046 + s.val, by omega⟩) f := by
  pointwise [val_main_v35]
  rw [v6_ext, dif_neg (show ¬ 2048 + s.val < 2 by omega)]
  refine congrArg (fun n => gate x0 x2 n f) (Fin.ext ?_)
  show 2048 * b.val + (2048 + s.val - 2) = 2048 * b.val + (2046 + s.val)
  omega

end Cert.FfnRefIdeal.Tile
end
-- ==== Proof.FfnClaim.lean ====
module

public import proofs.«01_k».proof.Defs
public import proofs.«01_k».proof.Proof.Gen.Ffn.Frame
public import proofs.«01_k».proof.Proof.FfnValue
public import proofs.«01_k».proof.Proof.FfnRef

@[expose] public section

set_option maxRecDepth 16384

noncomputable section

namespace Cert.FfnIdeal.Tile

open Idealize.ShloMosaic Idealize.ShloMosaic.TcCoe Idealize.SL.Sem Cert.FfnIdeal Cert.FfnIdeal.Gen

/-- The convolution state: the gate at each sequence's last two positions. -/
def state (hn : S16384x1024.Idx → EReal) (wu : S1024x5632.Idx → EReal) (j : S8x2x2816.Idx) : EReal :=
  gate hn wu ⟨2048 * (j 0).val + 2046 + (j 1).val, by
    have h0 : (j 0).val < 8 := (j 0).isLt; have h1 : (j 1).val < 2 := (j 1).isLt; omega⟩ (j 2)

/-- The state is the last two rows of the last tile's tail. -/
theorem state_of_tail (hn : S16384x1024.Idx → EReal) (wu : S1024x5632.Idx → EReal) :
    shapeCast S8x2x2816 (extractStridedSlice S8x1x2x2816 ![0, 3, 6, 0]
      (shapeCast S8x4x8x2816 (tail hn wu : FVec Ideal S32x8x2816 .f32) shapeCasts_S32x8x2816_S8x4x8x2816)
      slices_S8x4x8x2816_S8x1x2x2816_0_3_6_0) shapeCasts_S8x1x2x2816_S8x2x2816 = state hn wu := by
  funext j
  pointwise
  refine congrArg (fun n => gate hn wu n (j 2)) (Fin.ext ?_)
  show 512 * ((j 0).val * 4 + 3) + 504 + (6 + (j 1).val) = 2048 * (j 0).val + 2046 + (j 1).val
  omega

variable (m : (ℓ : Loc nD τ sig) → Buf (Elt Ideal) ℓ) (c : Dev nD)

/-- The tail's array after the region, two of the region's arrays being one buffer. -/
theorem arr9 : Pipeline.withArrays spec0 c (V0 m c) (fun w => (dats m 0 c).arrAt w cfg0.N) (Proc.devRef .tc (Pipeline.arrRef spec0 9))
    = (dats m 0 c).arrAt 9 cfg0.N :=
  Pipeline.withArrays_arr_shared spec0 c (V0 m c) (fun w => (dats m 0 c).arrAt w cfg0.N) (fun w w' hne e => by
    rcases (by decide : ∀ w w' : Fin 10, w ≠ w' → Pipeline.arrRef spec0 w = Pipeline.arrRef spec0 w' → w = 0 ∨ w = 1) w w' hne e
      with rfl | rfl
    · exact ((dats m 0 c).arrAt_in 0 rfl _).trans (A_eq m c 0)
    · exact ((dats m 0 c).arrAt_in 1 rfl _).trans (A_eq m c 1)) 9

theorem tail_v10 : Pipeline.afterTail₀ cfgs (dats m) 0 (V0 m) [hostOps1] c main_v10
    = state (m ((c : Thread nD τ).loc main_arg0)) (m ((c : Thread nD τ).loc main_arg2)) := by
  unfold Pipeline.afterTail₀
  rw [← state_of_tail, ← final9]
  show StableHlo.after hostOps1 _ (Proc.tc.devRef main_v10) = _
  after_results
  generalize hX : Pipeline.withArrays _ c (V0 m c) _ (Proc.tc.devRef main_v7_1) = X
  rw [show (dats m 0 c).arrAt 9 cfg0.N = X from (arr9 m c).symm.trans hX]
  rfl

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v7_0)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v10) = state (m ((c : Thread nD τ).loc main_arg0)) (m ((c : Thread nD τ).loc main_arg2))) :=
  (θ_run defs _ _).mono (fun _ h c => ⟨((h c).1 8).trans (final8 m c),
    ((h c).2 main_v10 (Pipeline.mem_restRefs_of main_v10 (by decide) (by decide))).trans (tail_v10 m c)⟩) (run_main m ρ)

end Cert.FfnIdeal.Tile

namespace Cert.FfnIdeal.Claims

open Idealize.ShloMosaic Idealize.ShloMosaic.TcCoe Idealize.SL.Sem

theorem frame_kernel : Cert.quiescent_Ffn := fun m ρ _ => Cert.Ffn.Gen.frame m ρ
theorem frame_ideal : Cert.quiescent_FfnIdeal := fun m ρ _ => Cert.FfnIdeal.Gen.frame m ρ

theorem frame_reference : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)
theorem preserves : Cert.preserves_Ffn_FfnIdeal := trivial

theorem algebraic : Cert.algebraic_FfnIdeal_FfnRefIdeal := by
  intro m g m' g' _ hargs
  refine ⟨_, _, (θ_run Cert.FfnIdeal.defs _ _).mono (fun r h c => ⟨(h.1 c).1, (h.1 c).2, h.2 c⟩)
    (θ_run_and (Cert.FfnIdeal.Tile.run_value m g) (Cert.FfnIdeal.Gen.unchanged m g)), ?_⟩
  refine (θ_run Cert.FfnRefIdeal.defs _ _).mono (fun r h c => ?_) (Cert.FfnRefIdeal.Value.run (F := Ideal) m' g')
  obtain ⟨h34, h35, hrest⟩ := h c
  obtain ⟨e0, e1, e2, e3, e4, e5⟩ := hargs c
  refine ⟨?_, ?_, hrest⟩
  · rw [h34, Cert.FfnRefIdeal.Read.val_main_v34_eq, Cert.FfnRefIdeal.Tile.v34_cell, e0, e1, e2, e3, e4, e5]
  · rw [h35, Cert.FfnRefIdeal.Read.val_main_v35_eq, e0, e2]
    funext j
    obtain ⟨a, b, f, rfl⟩ : ∃ a b f, j = ix3 a b f := ⟨j 0, j 1, j 2, by idx_ext⟩
    refine (Cert.FfnRefIdeal.Tile.v35_tail _ _ a b f).trans (congrArg (fun n => Tile.gate _ _ n f) (Fin.ext ?_))
    show 2048 * a.val + (2046 + b.val) = 2048 * a.val + 2046 + b.val
    omega

end Cert.FfnIdeal.Claims
end
-- ==== Proof.GlaStepTile.lean ====
module

public import proofs.«01_k».proof.Proof.Gen.GlaStepIdeal.Frame
public import Idealize.ShloMosaic.Lib.Pointwise
public import Idealize.ShloMosaic.Lib.Pipeline.ValueKit
public import Idealize.ShloMosaic.Lib.Claim

@[expose] public section

set_option maxRecDepth 16384

noncomputable section

namespace Cert.GlaStepIdeal.Tile

open Idealize.ShloMosaic Idealize.ShloMosaic.TcCoe Cert.GlaStepIdeal Cert.GlaStepIdeal.Gen

/-! ## One step of the gated recurrence -/

section Spec

variable (gq gk gl : S128x128.Idx → EReal) (gv gr : S128x256.Idx → EReal) (s : S128x4x32x64.Idx → EReal) (gn : S256.Idx → EReal)

/-- Column `d` of head `h` among the keys' 128. -/
def dk (h : Fin 4) (d : Fin 32) : Fin 128 := ⟨h.val * 32 + d.val, by omega⟩
/-- Column `e` of head `h` among the values' 256. -/
def dv (h : Fin 4) (e : Fin 64) : Fin 256 := ⟨h.val * 64 + e.val, by omega⟩

/-- The scaled query under its gate. -/
def query (b : Fin 128) (h : Fin 4) (d : Fin 32) : EReal :=
  gq (ix2 b (dk h d)) * Ideal.ofBits FTy.f32 0x3E3504F3#32 * Ideal.exp (gl (ix2 b (dk h d)))

/-- The head's output before its norm: the query against the old state, and against the step's own key and value. -/
def mixed (b : Fin 128) (h : Fin 4) (e : Fin 64) : EReal :=
  (∑ d : Fin 32, query gq gl b h d * s (ix4 b h d e))
    + (∑ d : Fin 32, query gq gl b h d * (gk (ix2 b (dk h d)) * Ideal.exp (-gl (ix2 b (dk h d))))) * gv (ix2 b (dv h e))

/-- The new state at key column `k`: the old one decayed by its gate plus the step's key times its value. -/
def next (b k : Fin 128) (e : Fin 64) : EReal :=
  Ideal.exp (gl (ix2 b k)) * s (ix4 b ⟨k.val / 32, by omega⟩ ⟨k.val % 32, by omega⟩ e)
    + gk (ix2 b k) * gv (ix2 b (dv ⟨k.val / 32, by omega⟩ e))

/-- The normed and gated output of a head. -/
def head (b : Fin 128) (h : Fin 4) (e : Fin 64) : EReal :=
  mixed gq gk gl gv s b h e
      * Ideal.rsqrt (Ideal.div (∑ x : Fin 64, mixed gq gk gl gv s b h x * mixed gq gk gl gv s b h x) (Ideal.ofBits FTy.f32 0x42800000#32)
          + Ideal.ofBits FTy.f32 0x358637BD#32)
      * gn (ix1 (dv h e))
    * (gr (ix2 b (dv h e)) * Ideal.logistic (gr (ix2 b (dv h e))))

end Spec

/-! ## The blocks at coordinates -/

variable (m : (ℓ : Loc nD τ sig) → Buf (Elt Ideal) ℓ) (c : Dev nD)

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)

theorem t_lt (t : Fin cfg0.N) : t.val < 16 := t.isLt

theorem V_v3 : V m c main_v3 = concatenate S128x128x3 2
      [⟨S128x128x1, (broadcastInDim S128x128x1 ![0, 1] bcast_S128x128_S128x128x1_0_1 (m ((c : Thread nD τ).loc main_arg0)) : FVec Ideal S128x128x1 .f32)⟩,
       ⟨S128x128x1, (broadcastInDim S128x128x1 ![0, 1] bcast_S128x128_S128x128x1_0_1 (m ((c : Thread nD τ).loc main_arg1)) : FVec Ideal S128x128x1 .f32)⟩,
       ⟨S128x128x1, (broadcastInDim S128x128x1 ![0, 1] bcast_S128x128_S128x128x1_0_1 (m ((c : Thread nD τ).loc main_arg2)) : FVec Ideal S128x128x1 .f32)⟩]
      concatenates_S128x128x1_S128x128x1_S128x128x1_S128x128x3_d2 := by
  show StableHlo.after hostOps0 (fun b => m (c, b)) (Proc.tc.devRef main_v3) = _
  after_results
  rfl
theorem V_v4 : V m c main_v4 = shapeCast S128x4x64 (m ((c : Thread nD τ).loc main_arg3)) shapeCasts_S128x256_S128x4x64 := by
  show StableHlo.after hostOps0 (fun b => m (c, b)) (Proc.tc.devRef main_v4) = _
  after_results
  rfl
theorem V_v5 : V m c main_v5 = shapeCast S128x128x64 (m ((c : Thread nD τ).loc main_arg5)) shapeCasts_S128x4x32x64_S128x128x64 := by
  show StableHlo.after hostOps0 (fun b => m (c, b)) (Proc.tc.devRef main_v5) = _
  after_results
  rfl
theorem V_v6 : V m c main_v6 = shapeCast S128x4x64 (m ((c : Thread nD τ).loc main_arg4)) shapeCasts_S128x256_S128x4x64 := by
  show StableHlo.after hostOps0 (fun b => m (c, b)) (Proc.tc.devRef main_v6) = _
  after_results
  rfl
theorem V_v7 : V m c main_v7 = shapeCast S4x64 (m ((c : Thread nD τ).loc main_arg6)) shapeCasts_S256_S4x64 := by
  show StableHlo.after hostOps0 (fun b => m (c, b)) (Proc.tc.devRef main_v7) = _
  after_results
  rfl

section Point

variable (t : Fin cfg0.N)

/-- Row `r` of tile `t`. -/
def row (r : Fin 8) : Fin 128 := ⟨8 * t.val + r.val, by have := t_lt t; omega⟩

theorem blk0 (r : Fin 8) (k : Fin 128) (a : Fin 3) : iblk m c 0 t (ix3 r k a) = V m c main_v3 (ix3 (row t r) k a) := by
  blk_ext! [iblk, row, idx0 t]
theorem blk0_0 (r : Fin 8) (k : Fin 128) : iblk m c 0 t (ix3 r k 0) = m ((c : Thread nD τ).loc main_arg0) (ix2 (row t r) k) := by
  rw [blk0, V_v3]; pointwise
theorem blk0_1 (r : Fin 8) (k : Fin 128) : iblk m c 0 t (ix3 r k 1) = m ((c : Thread nD τ).loc main_arg1) (ix2 (row t r) k) := by
  rw [blk0, V_v3]; pointwise
theorem blk0_2 (r : Fin 8) (k : Fin 128) : iblk m c 0 t (ix3 r k 2) = m ((c : Thread nD τ).loc main_arg2) (ix2 (row t r) k) := by
  rw [blk0, V_v3]; pointwise
theorem blk1 (r : Fin 8) (h : Fin 4) (e : Fin 64) : iblk m c 1 t (ix3 r h e) = m ((c : Thread nD τ).loc main_arg3) (ix2 (row t r) (dv h e)) := by
  have q : iblk m c 1 t (ix3 r h e) = V m c main_v4 (ix3 (row t r) h e) := by blk_ext! [iblk, row, idx1 t]
  rw [q, V_v4]; pointwise [dv]
theorem flat_state (X : FVec Ideal S128x4x32x64 .f32) (b k : Fin 128) (e : Fin 64) :
    shapeCast S128x128x64 X shapeCasts_S128x4x32x64_S128x128x64 (ix3 b k e)
      = X (ix4 b ⟨k.val / 32, by omega⟩ ⟨k.val % 32, by omega⟩ e) := by pointwise
theorem blk2 (r : Fin 8) (k : Fin 128) (e : Fin 64) :
    iblk m c 2 t (ix3 r k e) = m ((c : Thread nD τ).loc main_arg5) (ix4 (row t r) ⟨k.val / 32, by omega⟩ ⟨k.val % 32, by omega⟩ e) := by
  have q : iblk m c 2 t (ix3 r k e) = V m c main_v5 (ix3 (row t r) k e) := by blk_ext! [iblk, row, idx2 t]
  rw [q, V_v5]
  exact flat_state _ _ _ _
theorem blk3 (r : Fin 8) (h : Fin 4) (e : Fin 64) : iblk m c 3 t (ix3 r h e) = m ((c : Thread nD τ).loc main_arg4) (ix2 (row t r) (dv h e)) := by
  have q : iblk m c 3 t (ix3 r h e) = V m c main_v6 (ix3 (row t r) h e) := by blk_ext! [iblk, row, idx3 t]
  rw [q, V_v6]; pointwise [dv]
theorem blk4 (h : Fin 4) (e : Fin 64) : iblk m c 4 t (ix2 h e) = m ((c : Thread nD τ).loc main_arg6) (ix1 (dv h e)) := by
  have q : iblk m c 4 t (ix2 h e) = V m c main_v7 (ix2 h e) := by blk_ext! [iblk, idx4 t]
  rw [q, V_v7]; pointwise [dv]

theorem ld0 (X : Vec Ideal S8x128x3 .f32) : View.ld X r0_0 = X := View.ld_unit_lit _ X (by decide)
theorem ld1 (X : Vec Ideal S8x128x64 .f32) : View.ld X r0_1 = X := View.ld_unit_lit _ X (by decide)
theorem ld2 (X : Vec Ideal S8x4x64 .f32) : View.ld X r0_2 = X := View.ld_unit_lit _ X (by decide)
theorem ld3 (X : Vec Ideal S4x64 .f32) : View.ld X r0_3 = X := View.ld_unit_lit _ X (by decide)

/-! ## What the body leaves -/

theorem mixed_row (r : Fin 8) (h : Fin 4) (e : Fin 64) :
    k0_pay8 (iblk m c 0 t) (iblk m c 2 t) (iblk m c 1 t) (ix3 r h e)
      = mixed (m ((c : Thread nD τ).loc main_arg0)) (m ((c : Thread nD τ).loc main_arg1)) (m ((c : Thread nD τ).loc main_arg2))
          (m ((c : Thread nD τ).loc main_arg3)) (m ((c : Thread nD τ).loc main_arg5)) (row t r) h e := by
  pointwise [k0_pay8, k0_pay7, k0_pay6, k0_pay5, k0_pay4, k0_pay3, k0_pay2]
  have e0 : ∀ d : Fin 32, (⟨h.val * 32 + d.val, by omega⟩ : Fin 128) = dk h d := fun _ => rfl
  have e1 : ∀ d : Fin 32, (⟨(dk h d).val / 32, by have := (dk h d).isLt; omega⟩ : Fin 4) = h := fun d =>
    Fin.ext (show (h.val * 32 + d.val) / 32 = h.val by omega)
  have e2 : ∀ d : Fin 32, (⟨(dk h d).val % 32, by omega⟩ : Fin 32) = d := fun d =>
    Fin.ext (show (h.val * 32 + d.val) % 32 = d.val by omega)
  unfold mixed query
  simp only [e0, blk0_0, blk0_1, blk0_2, blk1, blk2, sub_eq_add_neg, zero_add, e1, e2]

theorem next_row (r : Fin 8) (k : Fin 128) (e : Fin 64) :
    k0_pay9 (iblk m c 0 t) (iblk m c 2 t) (iblk m c 1 t) (ix3 r k e)
      = next (m ((c : Thread nD τ).loc main_arg1)) (m ((c : Thread nD τ).loc main_arg2)) (m ((c : Thread nD τ).loc main_arg3))
          (m ((c : Thread nD τ).loc main_arg5)) (row t r) k e := by
  pointwise [k0_pay9, k0_pay7, k0_pay6, k0_pay5, k0_pay4, k0_pay3, k0_pay2]
  rw [blk0_1, blk0_2, blk1, blk2]
  rfl

theorem head_row (r : Fin 8) (h : Fin 4) (e : Fin 64) :
    k0_pay1 (k0_pay8 (iblk m c 0 t) (iblk m c 2 t) (iblk m c 1 t)) (k0_pay10 (iblk m c 0 t) (iblk m c 2 t) (iblk m c 1 t))
        (Scalar.ofBits .f32 0x42800000#32) (iblk m c 4 t) (iblk m c 3 t) (ix3 r h e)
      = head (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (row t r) h e := by
  have sq : k0_pay10 (iblk m c 0 t) (iblk m c 2 t) (iblk m c 1 t) (ix3 r h 0)
      = ∑ x : Fin 64, k0_pay8 (iblk m c 0 t) (iblk m c 2 t) (iblk m c 1 t) (ix3 r h x)
          * k0_pay8 (iblk m c 0 t) (iblk m c 2 t) (iblk m c 1 t) (ix3 r h x) := by pointwise [k0_pay10]
  simp only [mixed_row] at sq
  pointwise [k0_pay1]
  rw [sq, mixed_row, blk3, blk4]
  rfl

theorem final5 (j : S128x4x64.Idx) : (dats m 0 c).arrAt 5 cfg0.N j
    = head (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (j 0) (j 1) (j 2) := by
  revert j
  rw [← funext_iff (g := fun j : S128x4x64.Idx => head _ _ _ _ _ _ _ (j 0) (j 1) (j 2))]
  refine (dats m 0 c).arrAt_eq_of_covers 5 _ (by decide +kernel) fun t hf y => ?_
  blk_simp
  rw [after0_5]
  unfold out0_5
  rw [ld0, ld1, ld2, ld2, ld3]
  have e : (win0_5.blk t).view.emb y = ix3 (row t (y 0)) (y 1) (y 2) := by blk_ext [row, idx5 t]
  canon_tiles x h using cover0_5 ..
  obtain ⟨a, b, d, rfl⟩ : ∃ a b d, x = ix3 a b d := ⟨x 0, x 1, x 2, by idx_ext⟩
  refine (head_row m c t a b d).trans ?_
  rw [e]
  have e0 : y 0 = a := Fin.ext h0
  have e1 : y 1 = b := Fin.ext h1
  have e2 : y 2 = d := Fin.ext h2
  rw [e0, e1, e2]
  rfl

theorem final6 : (dats m 0 c).arrAt 6 cfg0.N = fun j : S128x128x64.Idx =>
    next (m ((c : Thread nD τ).loc main_arg1)) (m ((c : Thread nD τ).loc main_arg2)) (m ((c : Thread nD τ).loc main_arg3))
      (m ((c : Thread nD τ).loc main_arg5)) (j 0) (j 1) (j 2) := by
  refine (dats m 0 c).arrAt_eq_of_covers 6 _ (by decide +kernel) fun t hf y => ?_
  blk_simp
  rw [after0_6]
  unfold out0_6
  rw [ld0, ld1, ld2]
  have e : (win0_6.blk t).view.emb y = ix3 (row t (y 0)) (y 1) (y 2) := by blk_ext [row, idx6 t]
  canon_tiles x h using cover0_6 ..
  obtain ⟨a, b, d, rfl⟩ : ∃ a b d, x = ix3 a b d := ⟨x 0, x 1, x 2, by idx_ext⟩
  refine (next_row m c t a b d).trans ?_
  rw [e]
  have e0 : y 0 = a := Fin.ext h0
  have e1 : y 1 = b := Fin.ext h1
  have e2 : y 2 = d := Fin.ext h2
  rw [e0, e1, e2]
  rfl

end Point

end Cert.GlaStepIdeal.Tile
end
-- ==== Proof.GlaStepRef.lean ====
module

public import proofs.«01_k».proof.Proof.GlaStepTile
public import proofs.«01_k».proof.Proof.Gen.GlaStepRefIdeal.Read

@[expose] public section

set_option maxRecDepth 16384

noncomputable section

namespace Cert.GlaStepRefIdeal.Tile

open Idealize.ShloMosaic Idealize.ShloMosaic.TcCoe Cert.GlaStepRefIdeal Cert.GlaStepRefIdeal.Read
open Cert.GlaStepIdeal.Tile (dk dv query mixed next head)

variable (x0 x1 x2 : (⟨S128x128, .f32⟩ : BufTy).Contents (Elt Ideal)) (x3 x4 : (⟨S128x256, .f32⟩ : BufTy).Contents (Elt Ideal))
  (x5 : (⟨S128x4x32x64, .f32⟩ : BufTy).Contents (Elt Ideal)) (x6 : (⟨S256, .f32⟩ : BufTy).Contents (Elt Ideal))

/-- The running sum of the gates over the one position is the gate. -/
theorem v12_gate (b : Fin 128) (h : Fin 4) (d : Fin 32) : val_main_v12 x2 (ix4 b h 0 d) = x2 (ix2 b (dk h d)) := by
  have e9 : val_main_v9 x2 (ix4 b h 0 d) = x2 (ix2 b (dk h d)) := by pointwise [val_main_v9, val_main_v8, dk]
  rw [← e9]
  unfold val_main_v12 Host.reduceWindowAdd
  generalize val_main_v9 x2 = g
  have z : val_main_call1_call0_v0 (F := Ideal) (Shape.Idx.first Gen.h_S_) = 0 := by
    pointwise [val_main_call1_call0_v0, val_main_call1_call0_cst]
  rw [z, Ideal.hostReduceWindowAdd_def]
  unfold Ideal.hostReduceWindowAdd Host.reduceWindow
  show List.foldl _ _ (List.finRange 1) = _
  have p0 : ∀ (n : Fin 1) (a : Fin 4), ((⟨4, ![1, 1, 1, 1]⟩ : Shape).rowMajor.symm n a).val = 0 := fun n a => by
    have h1 : (⟨4, ![1, 1, 1, 1]⟩ : Shape).size a = 1 := by revert a; decide
    have := ((⟨4, ![1, 1, 1, 1]⟩ : Shape).rowMajor.symm n a).isLt
    omega
  have lo : ∀ a : Fin 4, (![0, 0, 0, 0] : Fin 4 → ℕ) a = 0 := by decide
  have st : ∀ a : Fin 4, (![1, 1, 1, 1] : Fin 4 → ℕ) a = 1 := by decide
  have at0 : ∀ a : Fin 4, (ix4 b h (0 : Fin 1) d a).val * (![1, 1, 1, 1] : Fin 4 → ℕ) a
      + ((⟨4, ![1, 1, 1, 1]⟩ : Shape).rowMajor.symm (0 : Fin 1) a).val = (ix4 b h (0 : Fin 1) d a).val := fun a => by
    rw [p0 0 a, st a, Nat.mul_one, Nat.add_zero]
  refine (zero_add _).trans ((dif_pos fun a => ?_).trans (congrArg g (funext fun a => Fin.ext ?_)))
  · show (![0, 0, 0, 0] : Fin 4 → ℕ) a ≤ (ix4 b h (0 : Fin 1) d a).val * (![1, 1, 1, 1] : Fin 4 → ℕ) a
        + ((⟨4, ![1, 1, 1, 1]⟩ : Shape).rowMajor.symm (0 : Fin 1) a).val
      ∧ (ix4 b h (0 : Fin 1) d a).val * (![1, 1, 1, 1] : Fin 4 → ℕ) a
        + ((⟨4, ![1, 1, 1, 1]⟩ : Shape).rowMajor.symm (0 : Fin 1) a).val - (![0, 0, 0, 0] : Fin 4 → ℕ) a < S128x4x1x32.size a
    rw [at0 a, lo a]
    exact ⟨Nat.zero_le _, (ix4 b h (0 : Fin 1) d a).isLt⟩
  · show (ix4 b h (0 : Fin 1) d a).val * (![1, 1, 1, 1] : Fin 4 → ℕ) a
        + ((⟨4, ![1, 1, 1, 1]⟩ : Shape).rowMajor.symm (0 : Fin 1) a).val - (![0, 0, 0, 0] : Fin 4 → ℕ) a = _
    rw [at0 a, lo a]
    rfl

/-- The one position attends to itself. -/
theorem v11_one : val_main_v11 (F := Ideal) (ix2 0 0) = 1#1 := by
  pointwise [val_main_v11, val_main_call0_v4, val_main_v10, val_main_call0_v2, val_main_call0_v3, val_main_call0_v5, val_main_c,
    val_main_call0_v0, val_main_call0_v1, val_main_call0_c, val_main_call0_c_0]
  decide

theorem v14_query (b : Fin 128) (h : Fin 4) (d : Fin 32) : val_main_v14 x0 x2 (ix4 b h 0 d) = query x0 x2 b h d := by
  pointwise [val_main_v14, val_main_v13, val_main_v3, val_main_v2, val_main_v1, val_main_v0, val_main_cst]
  rw [v12_gate]
  rfl

theorem v17_key (b : Fin 128) (h : Fin 4) (d : Fin 32) :
    val_main_v17 x1 x2 (ix4 b h 0 d) = x1 (ix2 b (dk h d)) * Ideal.exp (-x2 (ix2 b (dk h d))) := by
  pointwise [val_main_v17, val_main_v16, val_main_v15, val_main_v5, val_main_v4]
  rw [v12_gate]
  rfl

theorem v22_mixed (b : Fin 128) (h : Fin 4) (e : Fin 64) : val_main_v22 x0 x1 x2 x3 x5 (ix4 b h 0 e) = mixed x0 x1 x2 x3 x5 b h e := by
  pointwise [val_main_v22, val_main_v21, val_main_v20, val_main_v19, val_main_call2_v2, val_main_v18, val_main_v7, val_main_v6]
  have e1 : val_main_call2_v1 (F := Ideal) (ix4 b h 0 0) = 1#1 := by pointwise [val_main_call2_v1]; exact v11_one
  simp only [Fin.sum_univ_one, v14_query]
  rw [e1]
  simp only [v17_key]
  rfl

theorem v32_next (b : Fin 128) (h : Fin 4) (d : Fin 32) (e : Fin 64) (fin : ∀ i, ∃ r : ℝ, x2 i = (r : EReal)) :
    val_main_v32 x1 x2 x3 x5 (ix4 b h d e) = next x1 x2 x3 x5 b (dk h d) e := by
  obtain ⟨r, hr⟩ := fin (ix2 b (dk h d))
  have one : Ideal.exp (x2 (ix2 b (dk h d)) - x2 (ix2 b (dk h d))) = 1 := by
    rw [hr, ← EReal.coe_sub, sub_self]
    show ((Real.exp 0 : ℝ) : EReal) = 1
    rw [Real.exp_zero]; rfl
  pointwise [val_main_v32, val_main_v31, val_main_v30, val_main_v29, val_main_v28, val_main_v27, val_main_v26, val_main_v25,
    val_main_v24, val_main_v23, val_main_v5, val_main_v4, val_main_v7, val_main_v6]
  rw [Fin.sum_univ_one]
  rw [v12_gate, one, mul_one]
  unfold next
  have e1 : (⟨(dk h d).val / 32, by have := (dk h d).isLt; omega⟩ : Fin 4) = h :=
    Fin.ext (show (h.val * 32 + d.val) / 32 = h.val by omega)
  have e2 : (⟨(dk h d).val % 32, by omega⟩ : Fin 32) = d :=
    Fin.ext (show (h.val * 32 + d.val) % 32 = d.val by omega)
  rw [e1, e2]
  rfl

theorem v53_head (b : Fin 128) (h : Fin 4) (e : Fin 64) :
   val_main_v53 x0 x1 x2 x3 x4 x5 x6 (ix2 b (dv h e)) = head x0 x1 x2 x3 x4 x5 x6 b h e := by
  pointwise [val_main_v53, val_main_v52, val_main_v51, val_main_v50, val_main_call3_v5, val_main_call3_v4, val_main_call3_v3,
   val_main_call3_v2, val_main_call3_v1, val_main_call3_v0, val_main_v49, val_main_v48, val_main_v47, val_main_v46, val_main_v45,
   val_main_v44, val_main_v43, val_main_v42, val_main_v41, val_main_v40, val_main_v39, val_main_v38, val_main_v37, val_main_v36,
   val_main_v35, val_main_v34, val_main_v33, dv, val_main_cst_1, val_main_cst_2, val_main_cst_3, val_main_call3_cst, val_main_call3_cst_0]
  simp only [v22_mixed]
  rfl
end Cert.GlaStepRefIdeal.Tile
end
-- ==== Proof.GlaStepClaim.lean ====
module

public import proofs.«01_k».proof.Defs
public import proofs.«01_k».proof.Proof.Gen.GlaStep.Frame
public import proofs.«01_k».proof.Proof.Gen.Pre_finite_gates
public import proofs.«01_k».proof.Proof.GlaStepTile
public import proofs.«01_k».proof.Proof.GlaStepRef
public import Idealize.ShloMosaic.Lib.ReduceAll

@[expose] public section

set_option maxRecDepth 16384

noncomputable section

namespace Cert.GlaStepIdeal.Tile

open Idealize.ShloMosaic Idealize.ShloMosaic.TcCoe Idealize.SL.Sem Cert.GlaStepIdeal Cert.GlaStepIdeal.Gen

variable (m : (ℓ : Loc nD τ sig) → Buf (Elt Ideal) ℓ) (c : Dev nD)

theorem arr (w : Fin cfg0.W) : Pipeline.withArrays spec0 c (V0 m c) (fun w => (dats m 0 c).arrAt w cfg0.N)
    (Proc.devRef .tc (Pipeline.arrRef spec0 w)) = (dats m 0 c).arrAt w cfg0.N :=
  Pipeline.withArrays_arr_shared spec0 c (V0 m c) (fun w => (dats m 0 c).arrAt w cfg0.N) (fun w w' hne e =>
    absurd e ((by decide : ∀ w w' : Fin 7, w ≠ w' → Pipeline.arrRef spec0 w ≠ Pipeline.arrRef spec0 w') w w' hne)) w

theorem tail_v10 : Pipeline.afterTail₀ cfgs (dats m) 0 (V0 m) [hostOps1] c main_v10
    = truncf (F := Ideal) .bf16 (shapeCast S128x256 ((dats m 0 c).arrAt 5 cfg0.N : FVec Ideal S128x4x64 .f32) shapeCasts_S128x4x64_S128x256)
        bitsLt_bf16_f32 := by
  unfold Pipeline.afterTail₀
  show StableHlo.after hostOps1 _ (Proc.tc.devRef main_v10) = _
  after_results
  generalize hX : Pipeline.withArrays _ c (V0 m c) _ (Proc.tc.devRef main_v8_0) = X
  rw [show (dats m 0 c).arrAt 5 cfg0.N = X from (arr m c 5).symm.trans hX]
  rfl

theorem tail_v11 : Pipeline.afterTail₀ cfgs (dats m) 0 (V0 m) [hostOps1] c main_v11
    = shapeCast S128x4x32x64 ((dats m 0 c).arrAt 6 cfg0.N : FVec Ideal S128x128x64 .f32) shapeCasts_S128x128x64_S128x4x32x64 := by
  unfold Pipeline.afterTail₀
  show StableHlo.after hostOps1 _ (Proc.tc.devRef main_v11) = _
  after_results
  generalize hX : Pipeline.withArrays _ c (V0 m c) _ (Proc.tc.devRef main_v8_1) = X
  rw [show (dats m 0 c).arrAt 6 cfg0.N = X from (arr m c 6).symm.trans hX]
  rfl

theorem flat_heads (X : FVec Ideal S128x4x64 .f32) (b : Fin 128) (h : Fin 4) (e : Fin 64) :
    truncf (F := Ideal) .bf16 (shapeCast S128x256 X shapeCasts_S128x4x64_S128x256) bitsLt_bf16_f32 (ix2 b (dv h e)) = X (ix3 b h e) := by
  pointwise
  exact congrArg₂ (fun u v => X (ix3 b u v)) (Fin.ext (show (h.val * 64 + e.val) / 64 = h.val by omega))
    (Fin.ext (show (h.val * 64 + e.val) % 64 = e.val by omega))

theorem split_state (X : FVec Ideal S128x128x64 .f32) (b : Fin 128) (h : Fin 4) (d : Fin 32) (e : Fin 64) :
    shapeCast S128x4x32x64 X shapeCasts_S128x128x64_S128x4x32x64 (ix4 b h d e) = X (ix3 b (dk h d) e) := by
  pointwise [dk]

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v10)
        = truncf (F := Ideal) .bf16 (shapeCast S128x256 ((dats m 0 c).arrAt 5 cfg0.N : FVec Ideal S128x4x64 .f32) shapeCasts_S128x4x64_S128x256)
            bitsLt_bf16_f32
      ∧ r.2.mem ((c.tc : Thread nD τ).loc main_v11)
        = shapeCast S128x4x32x64 ((dats m 0 c).arrAt 6 cfg0.N : FVec Ideal S128x128x64 .f32) shapeCasts_S128x128x64_S128x4x32x64) :=
  (θ_run defs _ _).mono (fun _ h c =>
    ⟨((h c).2 main_v10 (Pipeline.mem_restRefs_of main_v10 (by decide) (by decide))).trans (tail_v10 m c),
     ((h c).2 main_v11 (Pipeline.mem_restRefs_of main_v11 (by decide) (by decide))).trans (tail_v11 m c)⟩) (run_main m ρ)

end Cert.GlaStepIdeal.Tile

namespace Cert.GlaStepIdeal.Claims

open Idealize.ShloMosaic Idealize.ShloMosaic.TcCoe Idealize.SL.Sem

theorem frame_kernel : Cert.quiescent_GlaStep := fun m ρ _ => Cert.GlaStep.Gen.frame m ρ
theorem frame_ideal : Cert.quiescent_GlaStepIdeal := fun m ρ _ => Cert.GlaStepIdeal.Gen.frame m ρ
theorem frame_ideal_finite : Cert.quiescent_GlaStepIdeal_pre_finite_gates := fun m ρ _ => Cert.GlaStepIdeal.Gen.frame m ρ

theorem frame_reference : Cert.quiescent_GlaStepRefIdeal := fun m ρ _ =>
  (θ_run Cert.GlaStepRefIdeal.defs _ _).mono (fun r h => ⟨fun c => (h c).2.2, sem_eq_zero_of_no_sems (by decide) r.2⟩)
    (Cert.GlaStepRefIdeal.Value.run (F := Ideal) m ρ)
theorem frame_reference_finite : Cert.quiescent_GlaStepRefIdeal_pre_finite_gates := fun m ρ _ => frame_reference m ρ trivial
theorem preserves : Cert.preserves_GlaStep_GlaStepIdeal := trivial

/-- Under the precondition every gate is a real number. -/
theorem gates_real (m : (ℓ : Loc nD τ sig) → Buf (Elt Ideal) ℓ) (h : Cert.Pre_GlaStepIdeal_finite_gates m) (c : Dev nD)
    (i : S128x128.Idx) : ∃ r : ℝ, m ((c.tc : Thread nD τ).loc main_arg2) i = (r : EReal) := by
  have hc := congrFun (h c) ix0
  unfold Cert.Pre_finite_gates.fn at hc
  have hi := Host.reduce_andi_all _ _ _ _ _ hc i
  pointwise at hi
  have top : Ideal.ofBits FTy.f32 0x7F800000#32 = ⊤ := by
    simp [Ideal.ofBits, Ideal.ieee]
  have lt : (FloatOps.absf (φ := FTy.f32) (m ((c.tc : Thread nD τ).loc main_arg2) i) : Ideal .f32) < (⊤ : EReal) := by
    rw [← top]
    by_contra h
    rw [decide_eq_false h] at hi
    exact absurd hi (by decide)
  generalize m ((c.tc : Thread nD τ).loc main_arg2) i = x at lt ⊢
  change EReal at x
  induction x with
  | bot => exact absurd lt (by rw [Ideal.absf_def]; simp)
  | coe r => exact ⟨r, rfl⟩
  | top => exact absurd lt (by rw [Ideal.absf_def]; simp)

theorem algebraic : Cert.algebraic_GlaStepIdeal_GlaStepRefIdeal_pre_finite_gates := by
  intro m g m' g' hpre hargs
  refine ⟨_, _, (θ_run Cert.GlaStepIdeal.defs _ _).mono (fun r h c => ⟨(h.1 c).1, (h.1 c).2, h.2 c⟩)
    (θ_run_and (Cert.GlaStepIdeal.Tile.run_value m g) (Cert.GlaStepIdeal.Gen.unchanged m g)), ?_⟩
  refine (θ_run Cert.GlaStepRefIdeal.defs _ _).mono (fun r h c => ?_) (Cert.GlaStepRefIdeal.Value.run (F := Ideal) m' g')
  obtain ⟨h53, h32, hrest⟩ := h c
  obtain ⟨e0, e1, e2, e3, e4, e5, e6⟩ := hargs c
  refine ⟨?_, ?_, hrest⟩
  · rw [h53, Cert.GlaStepRefIdeal.Read.val_main_v53_eq, e0, e1, e2, e3, e4, e5, e6]
    funext j
    obtain ⟨b, k, rfl⟩ : ∃ b k, j = ix2 b k := ⟨j 0, j 1, by idx_ext⟩
    obtain ⟨h, e, rfl⟩ : ∃ h e, k = Tile.dv h e :=
      ⟨⟨k.val / 64, by omega⟩, ⟨k.val % 64, by omega⟩, Fin.ext (show k.val = k.val / 64 * 64 + k.val % 64 by omega)⟩
    exact (Cert.GlaStepRefIdeal.Tile.v53_head _ _ _ _ _ _ _ b h e).trans
      ((Tile.flat_heads _ b h e).trans (Tile.final5 m c (ix3 b h e))).symm
  · rw [h32, Cert.GlaStepRefIdeal.Read.val_main_v32_eq, e1, e2, e3, e5]
    funext j
    obtain ⟨b, h, d, e, rfl⟩ : ∃ b h d e, j = ix4 b h d e := ⟨j 0, j 1, j 2, j 3, by idx_ext⟩
    exact (Cert.GlaStepRefIdeal.Tile.v32_next _ _ _ _ b h d e (gates_real m hpre c)).trans
      ((Tile.split_state _ b h d e).trans (congrFun (Tile.final6 m c) _)).symm

end Cert.GlaStepIdeal.Claims
end
-- ==== Proof.FfnStepTile.lean ====
module

public import proofs.«01_k».proof.Proof.FfnTile
public import proofs.«01_k».proof.Proof.Gen.FfnStepIdeal.Frame
public import Idealize.ShloMosaic.Lib.Pointwise
public import Idealize.ShloMosaic.Lib.Pipeline.ValueKit
public import Idealize.ShloMosaic.Lib.Claim

@[expose] public section

set_option maxRecDepth 16384

noncomputable section

namespace Cert.FfnStepIdeal.Tile

open Idealize.ShloMosaic Idealize.ShloMosaic.TcCoe Cert.FfnStepIdeal Cert.FfnStepIdeal.Gen
open Cert.FfnIdeal.Tile (cell)

/-! ## The step's function of its arrays -/

section Spec

variable (hn : S128x1024.Idx → EReal) (x : S128x1024.Idx → EReal) (st : S128x2x2816.Idx → EReal) (wu : S1024x5632.Idx → EReal)
  (cw : S3x2816.Idx → EReal) (cb : S2816.Idx → EReal) (wd : S2816x1024.Idx → EReal)

/-- The gate's half of the up projection of sequence `b`, column `f`. -/
def gate (b : Fin 128) (f : Fin 2816) : EReal := ∑ k : Fin 1024, hn (ix2 b k) * wu (ix2 k ⟨f.val, by omega⟩)

/-- The value half. -/
def val (b : Fin 128) (f : Fin 2816) : EReal := ∑ k : Fin 1024, hn (ix2 b k) * wu (ix2 k ⟨2816 + f.val, by omega⟩)

/-- The residual plus the down projection of the gated convolution over the two kept gates and the new one. -/
def out (b : Fin 128) (q : Fin 1024) : EReal :=
  cell (fun f => st (ix3 b 0 f)) (fun f => st (ix3 b 1 f)) (gate hn wu b) (val hn wu b) (fun f => cb (ix1 f))
    (fun f => cw (ix2 0 f)) (fun f => cw (ix2 1 f)) (fun f => cw (ix2 2 f)) (fun f => wd (ix2 f q)) (x (ix2 b q))

end Spec

/-! ## The blocks at coordinates -/

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

theorem V_v2 : V m c main_v2 = concatenate S8x2816 0 [⟨S3x2816, (show FVec Ideal S3x2816 .f32 from m ((c : Thread nD τ).loc main_arg4))⟩,
      ⟨S5x2816, (broadcastInDim S5x2816 ![] bcast_S_S5x2816 (constant (F := Ideal) S_ .f32 0x00000000#32) : FVec Ideal S5x2816 .f32)⟩] concatenates_S3x2816_S5x2816_S8x2816_d0 := by
  show StableHlo.after hostOps0 (fun b => m (c, b)) (Proc.tc.devRef main_v2) = _
  after_results
theorem V_v3 : V m c main_v3 = extractStridedSlice S1024x2816 ![0, 0]
      (truncf (F := Ideal) .bf16 (m ((c : Thread nD τ).loc main_arg3)) bitsLt_bf16_f32) slices_S1024x5632_S1024x2816_0_0 := by
  show StableHlo.after hostOps0 (fun b => m (c, b)) (Proc.tc.devRef main_v3) = _
  after_results
theorem V_v4 : V m c main_v4 = extractStridedSlice S1024x2816 ![0, 2816]
      (truncf (F := Ideal) .bf16 (m ((c : Thread nD τ).loc main_arg3)) bitsLt_bf16_f32) slices_S1024x5632_S1024x2816_0_2816 := by
  show StableHlo.after hostOps0 (fun b => m (c, b)) (Proc.tc.devRef main_v4) = _
  after_results
theorem V_v5 : V m c main_v5 = broadcastInDim S1x2816 ![1] bcast_S2816_S1x2816_1 (m ((c : Thread nD τ).loc main_arg5)) := by
  show StableHlo.after hostOps0 (fun b => m (c, b)) (Proc.tc.devRef main_v5) = _
  after_results
theorem V_v6 : V m c main_v6 = truncf (F := Ideal) .bf16 (m ((c : Thread nD τ).loc main_arg6)) bitsLt_bf16_f32 := by
  show StableHlo.after hostOps0 (fun b => m (c, b)) (Proc.tc.devRef main_v6) = _
  after_results
theorem V_v7 : V m c main_v7 = transpose S2x128x2816 [1, 0, 2] (m ((c : Thread nD τ).loc main_arg2)) transposes_S128x2x2816_S2x128x2816_1_0_2 := by
  show StableHlo.after hostOps0 (fun b => m (c, b)) (Proc.tc.devRef main_v7) = _
  after_results

theorem blk0 (t : Fin cfg0.N) (r : Fin 128) (k : Fin 1024) : iblk m c 0 t (ix2 r k) = m ((c : Thread nD τ).loc main_arg0) (ix2 r k) := by
  blk_ext! [iblk, V_main_arg0, idx0 t]
theorem blk1 (t : Fin cfg0.N) (s : Fin 2) (r : Fin 128) (f : Fin 2816) :
    iblk m c 1 t (ix3 s r f) = m ((c : Thread nD τ).loc main_arg2) (ix3 r s f) := by
  have e : iblk m c 1 t (ix3 s r f) = V m c main_v7 (ix3 s r f) := by blk_ext! [iblk, idx1 t]
  rw [e, V_v7]; pointwise
theorem blk2 (t : Fin cfg0.N) (r : Fin 128) (k : Fin 1024) : iblk m c 2 t (ix2 r k) = m ((c : Thread nD τ).loc main_arg1) (ix2 r k) := by
  blk_ext! [iblk, V_main_arg1, idx2 t]
theorem blk3 (t : Fin cfg0.N) (k : Fin 1024) (f : Fin 2816) :
    iblk m c 3 t (ix2 k f) = m ((c : Thread nD τ).loc main_arg3) (ix2 k ⟨f.val, by omega⟩) := by
  have e : iblk m c 3 t (ix2 k f) = V m c main_v3 (ix2 k f) := by blk_ext! [iblk, idx3 t]
  rw [e, V_v3]; pointwise
theorem blk4 (t : Fin cfg0.N) (k : Fin 1024) (f : Fin 2816) :
    iblk m c 4 t (ix2 k f) = m ((c : Thread nD τ).loc main_arg3) (ix2 k ⟨2816 + f.val, by omega⟩) := by
  have e : iblk m c 4 t (ix2 k f) = V m c main_v4 (ix2 k f) := by blk_ext! [iblk, idx4 t]
  rw [e, V_v4]; pointwise
theorem blk5 (t : Fin cfg0.N) (a : Fin 8) (ha : a.val < 3) (f : Fin 2816) :
    iblk m c 5 t (ix2 a f) = m ((c : Thread nD τ).loc main_arg4) (ix2 ⟨a.val, ha⟩ f) := by
  have e : iblk m c 5 t (ix2 a f) = V m c main_v2 (ix2 a f) := by blk_ext! [iblk, idx5 t]
  rw [e, V_v2]; pointwise
  rw [dif_pos ha]
theorem blk6 (t : Fin cfg0.N) (f : Fin 2816) : iblk m c 6 t (ix2 0 f) = m ((c : Thread nD τ).loc main_arg5) (ix1 f) := by
  have e : iblk m c 6 t (ix2 0 f) = V m c main_v5 (ix2 0 f) := by blk_ext! [iblk, idx6 t]
  rw [e, V_v5]; pointwise
theorem blk7 (t : Fin cfg0.N) (f : Fin 2816) (k : Fin 1024) : iblk m c 7 t (ix2 f k) = m ((c : Thread nD τ).loc main_arg6) (ix2 f k) := by
  have e : iblk m c 7 t (ix2 f k) = V m c main_v6 (ix2 f k) := by blk_ext! [iblk, idx7 t]
  rw [e, V_v6]; pointwise

/-! ## What the body leaves -/

theorem ld0 (X : Vec Ideal S128x1024 .bf16) : View.ld X r0_0 = X := View.ld_unit_lit _ X (by decide)
theorem ld0x (X : Vec Ideal S128x1024 .f32) : View.ld X r0_0 = X := View.ld_unit_lit _ X (by decide)
theorem ld1 (X : Vec Ideal S1024x2816 .bf16) : View.ld X r0_1 = X := View.ld_unit_lit _ X (by decide)
theorem ld5 (X : Vec Ideal S1x2816 .f32) : View.ld X r0_5 = X := View.ld_unit_lit _ X (by decide)
theorem ld9 (X : Vec Ideal S2816x1024 .bf16) : View.ld X r0_9 = X := View.ld_unit_lit _ X (by decide)

/-- The stored block at a cell, from the vectors the body reads. -/
theorem pay1_cell (v0 : Vec Ideal S128x1024 .bf16) (w : Vec Ideal S1024x2816 .bf16) (p2 p1 : Vec Ideal S1x128x2816 .f32)
    (wu : Vec Ideal S1024x2816 .bf16) (b w2 w1 w0 : Vec Ideal S1x2816 .f32) (xr : Vec Ideal S128x1024 .f32)
    (wd : Vec Ideal S2816x1024 .bf16) (r : Fin 128) (q : Fin 1024) :
    k0_pay1 (k0_pay3 v0 w p2 p1 wu b w2 w1 w0) xr wd (ix2 r q)
      = cell (fun f => p2 (ix3 0 r f)) (fun f => p1 (ix3 0 r f)) (fun f => ∑ k : Fin 1024, v0 (ix2 r k) * w (ix2 k f))
          (fun f => ∑ k : Fin 1024, v0 (ix2 r k) * wu (ix2 k f)) (fun f => b (ix2 0 f)) (fun f => w2 (ix2 0 f))
          (fun f => w1 (ix2 0 f)) (fun f => w0 (ix2 0 f)) (fun f => wd (ix2 f q)) (xr (ix2 r q)) := by
  unfold cell
  pointwise [k0_pay1, k0_pay3, k0_pay2]

theorem final8 : (dats m 0 c).arrAt 8 cfg0.N = fun j => out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (j 0) (j 1) := by
  refine (dats m 0 c).arrAt_eq_of_covers 8 _ (by decide +kernel) fun t hf y => ?_
  blk_simp
  rw [after0_8]
  unfold out0_8
  rw [ld0 (iblk m c 0 t), ld0x (iblk m c 2 t), ld1, ld1, ld5, ld9]
  have e : (win0_8.blk t).view.emb y = ix2 (y 0) (y 1) := by
    blk_ext [idx8 t]
  canon_tiles x h using cover0_8 ..
  obtain ⟨r, q, rfl⟩ : ∃ r q, x = ix2 r q := ⟨x 0, x 1, by idx_ext⟩
  refine (pay1_cell _ _ _ _ _ _ _ _ _ _ _ r q).trans ?_
  rw [e]
  have e0 : y 0 = r := Fin.ext h0
  have e1 : y 1 = q := Fin.ext h1
  rw [e0, e1]
  have a2 : ∀ f, View.ld (iblk m c 1 t) r0_2 (ix3 0 r f) = m ((c : Thread nD τ).loc main_arg2) (ix3 r 0 f) := fun f =>
    (show _ = iblk m c 1 t (ix3 0 r f) by pointwise).trans (blk1 m c t 0 r f)
  have a3 : ∀ f, View.ld (iblk m c 1 t) r0_3 (ix3 0 r f) = m ((c : Thread nD τ).loc main_arg2) (ix3 r 1 f) := fun f =>
    (show _ = iblk m c 1 t (ix3 1 r f) by pointwise).trans (blk1 m c t 1 r f)
  have a6 : ∀ f, View.ld (iblk m c 5 t) r0_6 (ix2 0 f) = m ((c : Thread nD τ).loc main_arg4) (ix2 0 f) := fun f =>
    (show _ = iblk m c 5 t (ix2 0 f) by pointwise).trans (blk5 m c t 0 (by decide) f)
  have a7 : ∀ f, View.ld (iblk m c 5 t) r0_7 (ix2 0 f) = m ((c : Thread nD τ).loc main_arg4) (ix2 1 f) := fun f =>
    (show _ = iblk m c 5 t (ix2 1 f) by pointwise).trans (blk5 m c t 1 (by decide) f)
  have a8 : ∀ f, View.ld (iblk m c 5 t) r0_8 (ix2 0 f) = m ((c : Thread nD τ).loc main_arg4) (ix2 2 f) := fun f =>
    (show _ = iblk m c 5 t (ix2 2 f) by pointwise).trans (blk5 m c t 2 (by decide) f)
  simp only [a2, a3, a6, a7, a8, blk0, blk2, blk3, blk4, blk6, blk7]
  rfl

theorem final9 : (dats m 0 c).arrAt 9 cfg0.N = fun j => gate (m ((c : Thread nD τ).loc main_arg0)) (m ((c : Thread nD τ).loc main_arg3)) (j 0) (j 1) := by
  refine (dats m 0 c).arrAt_eq_of_covers 9 _ (by decide +kernel) fun t hf y => ?_
  blk_simp
  rw [after0_9]
  unfold out0_9
  rw [ld0 (iblk m c 0 t), ld1]
  have e : (win0_9.blk t).view.emb y = ix2 (y 0) (y 1) := by
    blk_ext [idx9 t]
  canon_tiles x h using cover0_9 ..
  obtain ⟨r, f, rfl⟩ : ∃ r f, x = ix2 r f := ⟨x 0, x 1, by idx_ext⟩
  pointwise [k0_pay2]
  rw [e]
  have e0 : y 0 = r := Fin.ext h0
  have e1 : y 1 = f := Fin.ext h1
  rw [e0, e1]
  simp only [blk0, blk3]
  rfl

end Cert.FfnStepIdeal.Tile
end
-- ==== Proof.FfnStepRef.lean ====
module

public import proofs.«01_k».proof.Proof.FfnStepTile
public import proofs.«01_k».proof.Proof.Gen.FfnStepRefIdeal.Read

@[expose] public section

set_option maxRecDepth 16384

noncomputable section

namespace Cert.FfnStepRefIdeal.Tile

open Idealize.ShloMosaic Idealize.ShloMosaic.TcCoe Cert.FfnStepRefIdeal Cert.FfnStepRefIdeal.Read
open Cert.FfnIdeal.Tile (cell)
open Cert.FfnStepIdeal.Tile (gate val out)

variable (x0 : (⟨S128x1024, .bf16⟩ : BufTy).Contents (Elt Ideal)) (x1 : (⟨S128x1024, .f32⟩ : BufTy).Contents (Elt Ideal))
  (x2 : (⟨S128x2x2816, .f32⟩ : BufTy).Contents (Elt Ideal)) (x3 : (⟨S1024x5632, .f32⟩ : BufTy).Contents (Elt Ideal))
  (x4 : (⟨S3x2816, .f32⟩ : BufTy).Contents (Elt Ideal)) (x5 : (⟨S2816, .f32⟩ : BufTy).Contents (Elt Ideal))
  (x6 : (⟨S2816x1024, .f32⟩ : BufTy).Contents (Elt Ideal))

theorem v3_gate (b : Fin 128) (l : Fin 1) (f : Fin 2816) : val_main_v3 x0 x3 (ix3 b l f) = gate x0 x3 b f := by
  unfold gate
  pointwise [val_main_v3, val_main_v2, val_main_v1, val_main_v0]

theorem v4_val (b : Fin 128) (l : Fin 1) (f : Fin 2816) : val_main_v4 x0 x3 (ix3 b l f) = val x0 x3 b f := by
  unfold val
  pointwise [val_main_v4, val_main_v2, val_main_v1, val_main_v0]

/-- The kept gates and the new one. -/
theorem v5_ext (b : Fin 128) (n : Fin 3) (f : Fin 2816) : val_main_v5 x0 x2 x3 (ix3 b n f)
      = if h : n.val < 2 then x2 (ix3 b ⟨n.val, h⟩ f) else gate x0 x3 b f := by
  pointwise [val_main_v5]
  simp only [v3_gate]

theorem v5_0 (b : Fin 128) (f : Fin 2816) : val_main_v5 x0 x2 x3 (ix3 b 0 f) = x2 (ix3 b 0 f) := by
  rw [v5_ext]; rfl
theorem v5_1 (b : Fin 128) (f : Fin 2816) : val_main_v5 x0 x2 x3 (ix3 b 1 f) = x2 (ix3 b 1 f) := by
  rw [v5_ext]; rfl
theorem v5_2 (b : Fin 128) (f : Fin 2816) : val_main_v5 x0 x2 x3 (ix3 b 2 f) = gate x0 x3 b f := by
  rw [v5_ext]; rfl

theorem v33_cell (b : Fin 128) (q : Fin 1024) : val_main_v33 x0 x1 x2 x3 x4 x5 x6 (ix2 b q) = out x0 x1 x2 x3 x4 x5 x6 b q := by
  pointwise [val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_call0_v5, val_main_call0_v4, val_main_call0_v3, val_main_call0_v2, val_main_call0_v1,
    val_main_call0_v0, val_main_call0_cst, val_main_call0_cst_0]
  unfold out cell
  refine congrArg (x1 (ix2 b q) + ·) (Finset.sum_congr rfl fun f _ => ?_)
  erw [v5_0, v5_1, v5_2, v4_val]
  rfl

/-- The new state: the second kept gate and the new one. -/
theorem v34_state (b : Fin 128) (s : Fin 2) (f : Fin 2816) : val_main_v34 x0 x2 x3 (ix3 b s f)
      = if s.val = 0 then x2 (ix3 b 1 f) else gate x0 x3 b f := by
  pointwise [val_main_v34]
  rw [v5_ext]
  by_cases h : s.val = 0
  · rw [if_pos h, dif_pos (show 1 + s.val < 2 by omega)]
    exact congrArg (fun n => x2 (ix3 b n f)) (Fin.ext (show 1 + s.val = 1 by omega))
  · rw [if_neg h, dif_neg (show ¬ 1 + s.val < 2 by omega)]

end Cert.FfnStepRefIdeal.Tile
end
-- ==== Proof.FfnStepClaim.lean ====
module

public import proofs.«01_k».proof.Defs
public import proofs.«01_k».proof.Proof.Gen.FfnStep.Frame
public import proofs.«01_k».proof.Proof.FfnStepTile
public import proofs.«01_k».proof.Proof.FfnStepRef

@[expose] public section

set_option maxRecDepth 16384

noncomputable section

namespace Cert.FfnStepIdeal.Tile

open Idealize.ShloMosaic Idealize.ShloMosaic.TcCoe Idealize.SL.Sem Cert.FfnStepIdeal Cert.FfnStepIdeal.Gen

variable (m : (ℓ : Loc nD τ sig) → Buf (Elt Ideal) ℓ) (c : Dev nD)

theorem arr (w : Fin 10) : Pipeline.withArrays spec0 c (V0 m c) (fun w => (dats m 0 c).arrAt w cfg0.N) (Proc.devRef .tc (Pipeline.arrRef spec0 w))
    = (dats m 0 c).arrAt w cfg0.N :=
  Pipeline.withArrays_arr_shared spec0 c (V0 m c) (fun w => (dats m 0 c).arrAt w cfg0.N) (fun w w' hne e => absurd e
    ((by decide : ∀ w w' : Fin 10, w ≠ w' → Pipeline.arrRef spec0 w ≠ Pipeline.arrRef spec0 w') w w' hne)) w

/-- The kept state: the second old gate and the new one. -/
theorem state_parts (st : FVec Ideal S128x2x2816 .f32) (a : FVec Ideal S128x2816 .f32) (b : Fin 128) (s : Fin 2) (f : Fin 2816) :
    concatenate S128x2x2816 1 [⟨S128x1x2816, extractStridedSlice S128x1x2816 ![0, 1, 0] st slices_S128x2x2816_S128x1x2816_0_1_0⟩,
      ⟨S128x1x2816, broadcastInDim S128x1x2816 ![0, 2] bcast_S128x2816_S128x1x2816_0_2 a⟩]
      concatenates_S128x1x2816_S128x1x2816_S128x2x2816_d1 (ix3 b s f) = if s.val = 0 then st (ix3 b 1 f) else a (ix2 b f) := by
  pointwise
  by_cases h : s.val = 0
  · rw [if_pos h, dif_pos (by omega)]
    exact congrArg (fun n => st (ix3 b n f)) (Fin.ext (show 1 + s.val = 1 by omega))
  · rw [if_neg h, dif_neg (by omega)]

theorem tail_v11 : Pipeline.afterTail₀ cfgs (dats m) 0 (V0 m) [hostOps1] c main_v11
    = concatenate S128x2x2816 1 [⟨S128x1x2816, (extractStridedSlice S128x1x2816 ![0, 1, 0] (m ((c : Thread nD τ).loc main_arg2)) slices_S128x2x2816_S128x1x2816_0_1_0 : FVec Ideal S128x1x2816 .f32)⟩,
      ⟨S128x1x2816, (broadcastInDim S128x1x2816 ![0, 2] bcast_S128x2816_S128x1x2816_0_2 ((dats m 0 c).arrAt 9 cfg0.N) : FVec Ideal S128x1x2816 .f32)⟩]
      concatenates_S128x1x2816_S128x1x2816_S128x2x2816_d1 := by
  unfold Pipeline.afterTail₀
  show StableHlo.after hostOps1 _ (Proc.tc.devRef main_v11) = _
  after_results
  generalize hX : Pipeline.withArrays _ c (V0 m c) _ (Proc.tc.devRef main_v8_1) = X
  rw [show (dats m 0 c).arrAt 9 cfg0.N = X from (arr m c 9).symm.trans hX]
  rfl

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v8_0) = (dats m 0 c).arrAt 8 cfg0.N
      ∧ r.2.mem ((c.tc : Thread nD τ).loc main_v11) = Pipeline.afterTail₀ cfgs (dats m) 0 (V0 m) [hostOps1] c main_v11) :=
  (θ_run defs _ _).mono (fun _ h c => ⟨(h c).1 8,
    (h c).2 main_v11 (Pipeline.mem_restRefs_of main_v11 (by decide) (by decide))⟩) (run_main m ρ)

end Cert.FfnStepIdeal.Tile

namespace Cert.FfnStepIdeal.Claims

open Idealize.ShloMosaic Idealize.ShloMosaic.TcCoe Idealize.SL.Sem Cert.FfnStepIdeal

theorem frame_kernel : Cert.quiescent_FfnStep := fun m ρ _ => Cert.FfnStep.Gen.frame m ρ
theorem frame_ideal : Cert.quiescent_FfnStepIdeal := fun m ρ _ => Cert.FfnStepIdeal.Gen.frame m ρ

theorem frame_reference : Cert.quiescent_FfnStepRefIdeal := fun m ρ _ =>
  (θ_run Cert.FfnStepRefIdeal.defs _ _).mono (fun r h => ⟨fun c => (h c).2.2, sem_eq_zero_of_no_sems (by decide) r.2⟩)
    (Cert.FfnStepRefIdeal.Value.run (F := Ideal) m ρ)
theorem preserves : Cert.preserves_FfnStep_FfnStepIdeal := trivial

theorem algebraic : Cert.algebraic_FfnStepIdeal_FfnStepRefIdeal := by
  intro m g m' g' _ hargs
  refine ⟨_, _, (θ_run Cert.FfnStepIdeal.defs _ _).mono (fun r h c => ⟨(h.1 c).1, (h.1 c).2, h.2 c⟩)
    (θ_run_and (Cert.FfnStepIdeal.Tile.run_value m g) (Cert.FfnStepIdeal.Gen.unchanged m g)), ?_⟩
  refine (θ_run Cert.FfnStepRefIdeal.defs _ _).mono (fun r h c => ?_) (Cert.FfnStepRefIdeal.Value.run (F := Ideal) m' g')
  obtain ⟨h33, h34, hrest⟩ := h c
  obtain ⟨e0, e1, e2, e3, e4, e5, e6⟩ := hargs c
  refine ⟨?_, ?_, hrest⟩
  · rw [h33, Cert.FfnStepRefIdeal.Read.val_main_v33_eq, e0, e1, e2, e3, e4, e5, e6]
    refine Eq.trans ?_ (Tile.final8 m c).symm
    funext j
    obtain ⟨b, q, rfl⟩ : ∃ b q, j = ix2 b q := ⟨j 0, j 1, by idx_ext⟩
    exact Cert.FfnStepRefIdeal.Tile.v33_cell _ _ _ _ _ _ _ b q
  · rw [h34, Cert.FfnStepRefIdeal.Read.val_main_v34_eq, e0, e2, e3]
    refine Eq.trans ?_ (Tile.tail_v11 m c).symm
    rw [Tile.final9]
    funext j
    obtain ⟨b, s, f, rfl⟩ : ∃ b s f, j = ix3 b s f := ⟨j 0, j 1, j 2, by idx_ext⟩
    exact (Cert.FfnStepRefIdeal.Tile.v34_state _ _ _ b s f).trans (Tile.state_parts
      (m ((c : Thread nD τ).loc main_arg2)) (fun j => Tile.gate (m ((c : Thread nD τ).loc main_arg0)) (m ((c : Thread nD τ).loc main_arg3)) (j 0) (j 1)) b s f).symm

end Cert.FfnStepIdeal.Claims
end
-- ==== Proof.InProjRows.lean ====
module

public import proofs.«01_k».proof.Proof.Gen.InProjIdeal.Frame
public import Idealize.ShloMosaic.Lib.Pointwise
public import Idealize.ShloMosaic.Lib.Pipeline.ValueKit

@[expose] public section

set_option maxRecDepth 16384

noncomputable section

namespace Cert.InProjIdeal.Tile

open Idealize.ShloMosaic Idealize.ShloMosaic.TcCoe Cert.InProjIdeal Cert.InProjIdeal.Gen

/-- One entry of a head's root-mean-square norm: lane `d` of the 64 lanes `y`, scaled by `g`. -/
def nrm (y : Fin 64 → EReal) (d : Fin 64) (g : EReal) : EReal :=
  y d * Ideal.rsqrt (Ideal.div (∑ e : Fin 64, y e * y e) (Ideal.ofBits FTy.f32 0x42800000#32) + Ideal.ofBits FTy.f32 0x358637BD#32) * g

/-- A sixty-fourth is a division by 64. -/
theorem mul_sixtyfourth (x : EReal) :
    x * Ideal.ofBits FTy.f32 0x3C800000#32 = Ideal.div x (Ideal.ofBits FTy.f32 0x42800000#32) := by
  simp only [Ideal.div, Ideal.ofBits, Ideal.ieee]
  simp
  rw [← EReal.coe_mul, ← EReal.coe_mul, ← EReal.coe_inv]
  congr 2
  norm_num

theorem mul_sixteenth (x : EReal) :
    x * Ideal.ofBits FTy.f32 0x3D800000#32 = Ideal.div x (Ideal.ofBits FTy.f32 0x41800000#32) := by
  simp only [Ideal.div, Ideal.ofBits, Ideal.ieee]
  simp
  rw [← EReal.coe_mul, ← EReal.coe_mul, ← EReal.coe_inv]
  congr 2
  norm_num

/-- The logarithm of the logistic function, as a negated softplus of the negated argument. -/
def logsig (z : EReal) : EReal :=
  -(max (-z) 0 + Ideal.log1p (Ideal.exp (-(FloatOps.absf (φ := FTy.f32) (-z) : Ideal .f32))))

theorem lane_eq : ∀ x : Fin 128, IntOp.cmpi CmpIPredicate.slt (BitVec.ofNat 32 x.val) 64#32 = if x.val < 64 then 1#1 else 0#1 := by
  decide +kernel

theorem select_ite {α : Type} (p : Prop) [Decidable p] (a b : α) :
    Scalar.select (if p then 1#1 else 0#1) a b = if p then a else b := by
  by_cases h : p <;> simp [h, Scalar.select]

/-- The masked sum over the low half of the lanes. -/
theorem sum_low (f : Fin 128 → EReal) :
    (∑ x : Fin 128, if x.val < 64 then f x else 0) = ∑ e : Fin 64, f ⟨e.val, by omega⟩ := by
  refine (Fin.sum_univ_add (a := 64) (b := 64) fun x : Fin (64 + 64) => if x.val < 64 then f x else 0).trans ?_
  refine (congrArg₂ (· + ·) (Finset.sum_congr rfl fun e _ => if_pos (show (Fin.castAdd 64 e).val < 64 from e.isLt))
    (Finset.sum_eq_zero fun e _ => if_neg (show ¬ (Fin.natAdd 64 e).val < 64 from by simp))).trans ?_
  exact add_zero _

/-- The masked sum over the high half of the lanes. -/
theorem sum_high (f : Fin 128 → EReal) :
    (∑ x : Fin 128, if x.val < 64 then 0 else f x) = ∑ e : Fin 64, f ⟨64 + e.val, by omega⟩ := by
  refine (Fin.sum_univ_add (a := 64) (b := 64) fun x : Fin (64 + 64) => if x.val < 64 then 0 else f x).trans ?_
  refine (congrArg₂ (· + ·) (Finset.sum_eq_zero fun e _ => if_pos (show (Fin.castAdd 64 e).val < 64 from e.isLt))
    (Finset.sum_congr rfl fun e _ => if_neg (show ¬ (Fin.natAdd 64 e).val < 64 from by simp))).trans ?_
  exact zero_add _

/-- The norm of one head of a pair, its sum taken over the head's half of the lanes. -/
theorem pair_nrm (y : Fin 128 → EReal) (l : Fin 128) (g : EReal) :
    y l * Ideal.rsqrt (Ideal.div (if l.val < 64 then ∑ e : Fin 64, y ⟨e.val, by omega⟩ * y ⟨e.val, by omega⟩
        else ∑ e : Fin 64, y ⟨64 + e.val, by omega⟩ * y ⟨64 + e.val, by omega⟩) (Ideal.ofBits FTy.f32 0x42800000#32)
        + Ideal.ofBits FTy.f32 0x358637BD#32) * g
      = nrm (fun e => y ⟨l.val / 64 * 64 + e.val, by omega⟩) ⟨l.val % 64, by omega⟩ g := by
  unfold nrm
  dsimp only
  have self : y l = y ⟨l.val / 64 * 64 + l.val % 64, by omega⟩ :=
    congrArg y (Fin.ext (show l.val = l.val / 64 * 64 + l.val % 64 by omega))
  by_cases h : l.val < 64
  · rw [if_pos h, ← self]
    have e : ∀ e : Fin 64, y ⟨l.val / 64 * 64 + e.val, by omega⟩ = y ⟨e.val, by omega⟩ := fun e =>
      congrArg y (Fin.ext (show l.val / 64 * 64 + e.val = e.val by omega))
    simp only [e]
  · rw [if_neg h, ← self]
    have e : ∀ e : Fin 64, y ⟨l.val / 64 * 64 + e.val, by omega⟩ = y ⟨64 + e.val, by omega⟩ := fun e =>
      congrArg y (Fin.ext (show l.val / 64 * 64 + e.val = 64 + e.val by omega))
    simp only [e]

/-- A sum whose terms past the sixteenth are zero. -/
theorem gate_sum (f : Fin 128 → EReal) (u v : Fin 16 → EReal) (hu : ∀ a : Fin 16, f ⟨a.val, by omega⟩ = u a * v a)
    (hz : ∀ a : Fin 112, f ⟨16 + a.val, by omega⟩ = 0) : ∑ a, f a = ∑ a, u a * v a := by
  refine (Fin.sum_univ_add (a := 16) (b := 112) f).trans ?_
  have hu' : ∀ a : Fin 16, f (Fin.castAdd 112 a) = u a * v a := hu
  have hz' : ∀ a : Fin 112, f (Fin.natAdd 16 a) = 0 := hz
  simp only [hu', hz', Finset.sum_const_zero, add_zero]

/-! ## The packed weight -/

/-- The packed columns of the projection's weight: the query's in pair order, then each part padded to whole lanes. -/
def packed (w : FVec Ideal S1024x2344 .f32) : FVec Ideal S1024x2560 .bf16 :=
  truncf .bf16 (concatenate S1024x2560 1
    [⟨S1024x512, shapeCast S1024x512 (transpose S1024x4x2x64 [0, 2, 1, 3] (shapeCast S1024x2x4x64
        (extractStridedSlice S1024x512 ![0, 0] w slices_S1024x2344_S1024x512_0_0) shapeCasts_S1024x512_S1024x2x4x64)
        transposes_S1024x2x4x64_S1024x4x2x64_0_2_1_3) shapeCasts_S1024x4x2x64_S1024x512⟩,
     ⟨S1024x768, extractStridedSlice S1024x768 ![0, 512] w slices_S1024x2344_S1024x768_0_512⟩,
     ⟨S1024x24, extractStridedSlice S1024x24 ![0, 1280] w slices_S1024x2344_S1024x24_0_1280⟩,
     ⟨S1024x104, broadcastInDim S1024x104 ![] bcast_S_S1024x104 (constant S_ .f32 0x00000000#32)⟩,
     ⟨S1024x768, extractStridedSlice S1024x768 ![0, 1304] w slices_S1024x2344_S1024x768_0_1304⟩,
     ⟨S1024x16, extractStridedSlice S1024x16 ![0, 2072] w slices_S1024x2344_S1024x16_0_2072⟩,
     ⟨S1024x112, broadcastInDim S1024x112 ![] bcast_S_S1024x112 (constant S_ .f32 0x00000000#32)⟩,
     ⟨S1024x256, extractStridedSlice S1024x256 ![0, 2088] w slices_S1024x2344_S1024x256_0_2088⟩]
    concatenates_S1024x512_S1024x768_S1024x24_S1024x104_S1024x768_S1024x16_S1024x112_S1024x256_S1024x2560_d1) bitsLt_bf16_f32

variable (w : FVec Ideal S1024x2344 .f32) (k : Fin 1024)

theorem packed_kv (j : Fin 768) : packed w (ix2 k ⟨512 + j.val, by omega⟩) = w (ix2 k ⟨512 + j.val, by omega⟩) := by
  pointwise [packed]
  done

theorem packed_q (j : Fin 512) : packed w (ix2 k ⟨j.val, by omega⟩)
    = w (ix2 k ⟨j.val % 128 / 64 * 256 + j.val / 128 * 64 + j.val % 64, by omega⟩) := by
  pointwise [packed]
  exact congrArg (fun n => w (ix2 k n)) (Fin.ext
    (show j.val / 64 % 2 * 256 + j.val / 128 * 64 + j.val % 64 = j.val % 128 / 64 * 256 + j.val / 128 * 64 + j.val % 64 by omega))

theorem packed_gate (j : Fin 24) : packed w (ix2 k ⟨1280 + j.val, by omega⟩) = w (ix2 k ⟨1280 + j.val, by omega⟩) := by
  pointwise [packed]
  split_ifs <;> first | omega | exact congrArg (fun n => w (ix2 k n)) (Fin.ext (by dsimp only; omega))

theorem packed_gla (j : Fin 768) : packed w (ix2 k ⟨1408 + j.val, by omega⟩) = w (ix2 k ⟨1304 + j.val, by omega⟩) := by
  pointwise [packed]
  split_ifs <;> first | omega | exact congrArg (fun n => w (ix2 k n)) (Fin.ext (by dsimp only; omega))

theorem packed_low (j : Fin 16) : packed w (ix2 k ⟨2176 + j.val, by omega⟩) = w (ix2 k ⟨2072 + j.val, by omega⟩) := by
  pointwise [packed]
  split_ifs <;> first | omega | exact congrArg (fun n => w (ix2 k n)) (Fin.ext (by dsimp only; omega))

theorem packed_pool (j : Fin 256) : packed w (ix2 k ⟨2304 + j.val, by omega⟩) = w (ix2 k ⟨2088 + j.val, by omega⟩) := by
  pointwise [packed]
  split_ifs <;> first | omega | exact congrArg (fun n => w (ix2 k n)) (Fin.ext (by dsimp only; omega))

/-! ## The layer's functions of its arrays, over the packed columns -/

section Spec

variable {N : Nat} (x : Shape.Idx ⟨2, ![N, 1024]⟩ → EReal) (g : S1024.Idx → EReal) (w : S1024x2344.Idx → EReal)

/-- The normed row. -/
def hrow (R : Fin N) (k : Fin 1024) : EReal :=
  x (ix2 R k) * Ideal.rsqrt (Ideal.div (∑ e : Fin 1024, x (ix2 R e) * x (ix2 R e)) (Ideal.ofBits FTy.f32 0x44800000#32)
    + Ideal.ofBits FTy.f32 0x358637BD#32) * g (ix1 k)

/-- The projected row at a packed column. -/
def prow (R : Fin N) (j : Fin 2560) : EReal := ∑ k : Fin 1024, hrow x g R k * packed w (ix2 k j)

/-- A packed column past `o`. -/
def col (o : Nat) (n : Nat) (h : o + n ≤ 2560) (j : Fin n) : Fin 2560 := ⟨o + j.val, by omega⟩

/-- The lanes of the head that column `l` lies in. -/
def lanes (o : Nat) (n : Nat) (h : o + n ≤ 2560) (hn : n % 64 = 0) (l : Fin n) (e : Fin 64) : Fin 2560 :=
  ⟨o + (l.val / 64 * 64 + e.val), by omega⟩

/-- A column's lane in its head. -/
def lane {n : Nat} (l : Fin n) : Fin 64 := ⟨l.val % 64, by omega⟩

/-- The normed query. -/
def query (qg : S64.Idx → EReal) (R : Fin N) (j : Fin 512) : EReal :=
  nrm (fun e => prow x g w R (lanes 0 512 (by omega) (by omega) j e)) (lane j) (qg (ix1 (lane j)))

/-- A row of normed keys and values past the packed column `o`. -/
def keys (o : Nat) (h : o + 256 ≤ 2560) (gain : Fin 64 → EReal) (R : Fin N) (j : Fin 256) : EReal :=
  if j.val < 128 then nrm (fun e => prow x g w R (lanes o 256 h (by omega) j e)) (lane j) (gain (lane j))
  else prow x g w R (col o 256 h j)

/-- The log gate: a low-rank product, its logistic function's logarithm, a sixteenth of it. -/
def loggate (wa : S16x128.Idx → EReal) (ba : S128.Idx → EReal) (R : Fin N) (l : Fin 128) : EReal :=
  Ideal.div (logsig ((∑ a : Fin 16, prow x g w R (col 2176 16 (by omega) a) * wa (ix2 a l)) + ba (ix1 l)))
    (Ideal.ofBits FTy.f32 0x41800000#32)

end Spec

/-! ## The targets at the tiles' columns -/

section Cols

variable {N : Nat} (x : Shape.Idx ⟨2, ![N, 1024]⟩ → EReal) (g : S1024.Idx → EReal) (w : S1024x2344.Idx → EReal) (R : Fin N) (l : Fin 128)

theorem keys_low (o : Nat) (h : o + 256 ≤ 2560) (gain : Fin 64 → EReal) : keys x g w o h gain R ⟨0 + l.val, by omega⟩
    = nrm (fun e => prow x g w R (lanes o 128 (by omega) (by omega) l e)) (lane l) (gain (lane l)) := by
  have e : (⟨0 + l.val, by omega⟩ : Fin 256) = ⟨l.val, by omega⟩ := Fin.ext (Nat.zero_add _)
  rw [e]
  exact if_pos l.isLt

theorem keys_high (o : Nat) (h : o + 256 ≤ 2560) (gain : Fin 64 → EReal) : keys x g w o h gain R ⟨128 + l.val, by omega⟩
    = prow x g w R (col (o + 128) 128 (by omega) l) := by
  refine (if_neg (by dsimp only; omega)).trans (congrArg (prow x g w R) (Fin.ext ?_))
  show o + (128 + l.val) = o + 128 + l.val
  omega

theorem query_at (qg : S64.Idx → EReal) (o : Nat) (ho : o % 64 = 0) (h : o + 128 ≤ 512) : query x g w qg R ⟨o + l.val, by omega⟩
    = nrm (fun e => prow x g w R (lanes o 128 (by omega) (by omega) l e)) (lane l) (qg (ix1 (lane l))) := by
  have e1 : lane (n := 512) ⟨o + l.val, by omega⟩ = lane l := Fin.ext (show (o + l.val) % 64 = l.val % 64 by omega)
  have e2 : ∀ e : Fin 64, lanes 0 512 (by omega) (by omega) ⟨o + l.val, by omega⟩ e = lanes o 128 (by omega) (by omega) l e := fun e =>
    Fin.ext (show 0 + ((o + l.val) / 64 * 64 + e.val) = o + (l.val / 64 * 64 + e.val) by omega)
  unfold query
  simp only [e1, e2]

theorem col_at (o n d : Nat) (h : o + n ≤ 2560) (hd : d + 128 ≤ n) : prow x g w R (col o n h ⟨d + l.val, by omega⟩)
    = prow x g w R (col (o + d) 128 (by omega) l) :=
  congrArg (prow x g w R) (Fin.ext (show o + (d + l.val) = o + d + l.val by omega))

end Cols

/-! ## The weight's own columns -/

section Proj

variable {N : Nat} (x0 : Shape.Idx ⟨2, ![N, 1024]⟩ → EReal) (x1 : S1024.Idx → EReal) (x2 : S1024x2344.Idx → EReal) (R : Fin N)

/-- The projected row at a column of the weight. -/
def proj (j : Fin 2344) : EReal := ∑ k : Fin 1024, hrow x0 x1 R k * x2 (ix2 k j)

/-- The packed weight's columns are the weight's. -/
theorem prow_proj (a : Fin 2560) (j : Fin 2344) (h : ∀ k, packed x2 (ix2 k a) = x2 (ix2 k j)) :
    prow x0 x1 x2 R a = proj x0 x1 x2 R j := Finset.sum_congr rfl fun k _ => congrArg (hrow x0 x1 R k * ·) (h k)

theorem prow_kv (j : Fin 768) (a : Fin 2560) (h : a.val = 512 + j.val) :
    prow x0 x1 x2 R a = proj x0 x1 x2 R ⟨512 + j.val, by omega⟩ := by
  obtain ⟨a, ha⟩ := a
  dsimp only at h
  subst h
  exact prow_proj x0 x1 x2 R _ _ fun k => packed_kv x2 k j

theorem prow_gla (j : Fin 768) (a : Fin 2560) (a' : Fin 2344) (h : a.val = 1408 + j.val) (h' : a'.val = 1304 + j.val) :
    prow x0 x1 x2 R a = proj x0 x1 x2 R a' := by
  obtain ⟨a, ha⟩ := a
  obtain ⟨a', ha'⟩ := a'
  dsimp only at h h'
  subst h h'
  exact prow_proj x0 x1 x2 R _ _ fun k => packed_gla x2 k j

theorem prow_query (j : Fin 512) (e : Fin 64) (a : Fin 2344) (h : a.val = j.val / 64 % 2 * 256 + j.val / 128 * 64 + e.val) :
    prow x0 x1 x2 R (lanes 0 512 (by omega) (by omega) j e) = proj x0 x1 x2 R a := by
  obtain ⟨a, ha⟩ := a
  dsimp only at h
  subst h
  refine prow_proj x0 x1 x2 R _ _ fun k => ?_
  have hj : j.val / 64 * 64 + e.val < 512 := by omega
  rw [show lanes 0 512 (by omega) (by omega) j e = ⟨(⟨j.val / 64 * 64 + e.val, hj⟩ : Fin 512).val, by omega⟩ from Fin.ext (Nat.zero_add _), packed_q]
  refine congrArg (fun n => x2 (ix2 k n)) (Fin.ext ?_)
  dsimp only
  omega

/-- Stacked normed keys and plain values, over a head and its lane. -/
theorem keys_stack (o : Nat) (h : o + 256 ≤ 2560) (P : Fin 2 → Fin 2 → Fin 64 → EReal)
    (hP : ∀ (u k : Fin 2) (d : Fin 64) (a : Fin 2560), a.val = o + u.val * 128 + k.val * 64 + d.val → P u k d = prow x0 x1 x2 R a)
    (gain : Fin 64 → EReal) (u k : Fin 2) (d : Fin 64) (j : Fin 256) (hj : j.val = u.val * 128 + k.val * 64 + d.val) :
    (if u.val < 1 then nrm (fun e => P 0 k e) d (gain d) else P 1 k d) = keys x0 x1 x2 o h gain R j := by
  unfold keys
  by_cases hu : u.val < 1
  · have hl : lane j = d := Fin.ext (show j.val % 64 = d.val by omega)
    rw [if_pos hu, if_pos (show j.val < 128 by omega), hl]
    refine congrArg (fun y => nrm y d (gain d)) (funext fun e => hP 0 k e _ ?_)
    show o + (j.val / 64 * 64 + e.val) = o + 0 * 128 + k.val * 64 + e.val
    omega
  · rw [if_neg hu, if_neg (show ¬ j.val < 128 by omega)]
    refine hP 1 k d _ ?_
    show o + j.val = o + 1 * 128 + k.val * 64 + d.val
    omega

end Proj

end Cert.InProjIdeal.Tile
end
-- ==== Proof.InProjTile.lean ====
module

public import proofs.«01_k».proof.Proof.InProjRows
public import Idealize.ShloMosaic.Lib.Claim

@[expose] public section

set_option maxRecDepth 16384

noncomputable section

namespace Cert.InProjIdeal.Tile

open Idealize.ShloMosaic Idealize.ShloMosaic.TcCoe Cert.InProjIdeal Cert.InProjIdeal.Gen

/-! ## The body's values at coordinates -/

section Payloads

variable (Y : FVec Ideal S512x128 .f32) (G : Vec Ideal S1x128 .f32) (r : Fin 512) (l : Fin 128)

theorem pay13_cell : k0_pay13 Y G (ix2 r l)
    = nrm (fun e => Y (ix2 r ⟨l.val / 64 * 64 + e.val, by omega⟩)) ⟨l.val % 64, by omega⟩ (G (ix2 0 l)) := by
  pointwise [k0_pay13]
  simp only [lane_eq, select_ite, sum_low, sum_high, mul_sixtyfourth]
  exact pair_nrm (fun n => Y (ix2 r n)) l _

theorem hn_cell (x : Vec Ideal S512x1024 .f32) (g : Vec Ideal S1x1024 .f32) (k : Fin 1024) : k0_pay5 x g (ix2 r k)
    = x (ix2 r k) * Ideal.rsqrt (Ideal.div (∑ e : Fin 1024, x (ix2 r e) * x (ix2 r e)) (Ideal.ofBits FTy.f32 0x44800000#32)
        + Ideal.ofBits FTy.f32 0x358637BD#32) * g (ix2 0 k) := by
  pointwise [k0_pay5]

theorem lo_cell (h : FVec Ideal S512x1024 .bf16) (w : Vec Ideal S1024x256 .bf16) :
    k0_pay3 h w (ix2 r l) = ∑ k : Fin 1024, h (ix2 r k) * w (ix2 k ⟨l.val, by omega⟩) := by
  pointwise [k0_pay3, k0_pay2]

theorem hi_cell (h : FVec Ideal S512x1024 .bf16) (w : Vec Ideal S1024x256 .bf16) :
    k0_pay4 h w (ix2 r l) = ∑ k : Fin 1024, h (ix2 r k) * w (ix2 k ⟨128 + l.val, by omega⟩) := by
  pointwise [k0_pay4, k0_pay2]

theorem gate_cell (h : FVec Ideal S512x1024 .bf16) (w : Vec Ideal S1024x256 .bf16) (wa : Vec Ideal S128x128 .bf16)
    (b : Vec Ideal S1x128 .f32) : k0_pay1 (k0_pay56 h w wa b) k0_pay57 (ix2 r l)
      = Ideal.div (logsig ((∑ a : Fin 128, (∑ k : Fin 1024, h (ix2 r k) * w (ix2 k ⟨128 + a.val, by omega⟩)) * wa (ix2 a l)) + b (ix2 0 l)))
          (Ideal.ofBits FTy.f32 0x41800000#32) := by
  pointwise [k0_pay1, k0_pay56, k0_pay57, k0_pay54]
  rw [mul_sixteenth, if_neg (fun h => h rfl)]
  unfold logsig
  simp only [zero_sub]

end Payloads

/-! ## The blocks at coordinates -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)

theorem t_lt (t : Fin cfg0.N) : t.val < 32 := t.isLt

theorem V_v0 : V m c main_v0 = broadcastInDim S1x1024 ![1] bcast_S1024_S1x1024_1 (m ((c : Thread nD τ).loc main_arg1)) := by
  show StableHlo.after hostOps0 (fun b => m (c, b)) (Proc.tc.devRef main_v0) = _
  after_results
theorem V_v13 : V m c main_v13 = packed (m ((c : Thread nD τ).loc main_arg2)) := by
  show StableHlo.after hostOps0 (fun b => m (c, b)) (Proc.tc.devRef main_v13) = _
  after_results
  rfl
theorem V_v17 : V m c main_v17 = broadcastInDim S1x128 ![1] bcast_S128_S1x128_1 (shapeCast S128
      (broadcastInDim S2x64 ![0, 1] bcast_S1x64_S2x64_0_1 (shapeCast S1x64 (m ((c : Thread nD τ).loc main_arg3)) shapeCasts_S64_S1x64)) shapeCasts_S2x64_S128) := by
  show StableHlo.after hostOps0 (fun b => m (c, b)) (Proc.tc.devRef main_v17) = _
  after_results
  rfl
theorem V_v22 : V m c main_v22 = concatenate S8x128 0 [⟨S3x128, (shapeCast S3x128
      (broadcastInDim S1x3x2x64 ![0, 1, 2, 3] bcast_S1x3x1x64_S1x3x2x64_0_1_2_3 (shapeCast S1x3x1x64 (m ((c : Thread nD τ).loc main_arg4)) shapeCasts_S3x64_S1x3x1x64))
      shapeCasts_S1x3x2x64_S3x128 : FVec Ideal S3x128 .f32)⟩,
      ⟨S5x128, (broadcastInDim S5x128 ![] bcast_S_S5x128 (constant (F := Ideal) S_ .f32 0x00000000#32) : FVec Ideal S5x128 .f32)⟩]
      concatenates_S3x128_S5x128_S8x128_d0 := by
  show StableHlo.after hostOps0 (fun b => m (c, b)) (Proc.tc.devRef main_v22) = _
  after_results
  rfl
theorem V_v25 : V m c main_v25 = truncf (F := Ideal) .bf16 (concatenate S128x128 0 [⟨S16x128, (show FVec Ideal S16x128 .f32 from m ((c : Thread nD τ).loc main_arg5))⟩,
      ⟨S112x128, (broadcastInDim S112x128 ![] bcast_S_S112x128 (constant (F := Ideal) S_ .f32 0x00000000#32) : FVec Ideal S112x128 .f32)⟩]
      concatenates_S16x128_S112x128_S128x128_d0) bitsLt_bf16_f32 := by
  show StableHlo.after hostOps0 (fun b => m (c, b)) (Proc.tc.devRef main_v25) = _
  after_results
theorem V_v26 : V m c main_v26 = broadcastInDim S1x128 ![1] bcast_S128_S1x128_1 (m ((c : Thread nD τ).loc main_arg6)) := by
  show StableHlo.after hostOps0 (fun b => m (c, b)) (Proc.tc.devRef main_v26) = _
  after_results

/-- Row `r` of row tile `t`. -/
def row (t : Fin cfg0.N) (r : Fin 512) : Fin 16384 := ⟨512 * t.val + r.val, by have := t_lt t; omega⟩

variable (t : Fin cfg0.N)

theorem blk0 (r : Fin 512) (k : Fin 1024) : iblk m c 0 t (ix2 r k) = m ((c : Thread nD τ).loc main_arg0) (ix2 (row t r) k) := by
  blk_ext! [iblk, row, V_main_arg0, idx0 t]
theorem blk1 (k : Fin 1024) : iblk m c 1 t (ix2 0 k) = m ((c : Thread nD τ).loc main_arg1) (ix1 k) := by
  have e : iblk m c 1 t (ix2 0 k) = V m c main_v0 (ix2 0 k) := by blk_ext! [iblk, idx1 t]
  rw [e, V_v0]; pointwise
theorem blk2 (k : Fin 1024) (j : Fin 2560) : iblk m c 2 t (ix2 k j) = packed (m ((c : Thread nD τ).loc main_arg2)) (ix2 k j) := by
  have e : iblk m c 2 t (ix2 k j) = V m c main_v13 (ix2 k j) := by blk_ext! [iblk, idx2 t]
  rw [e, V_v13]
theorem gain_pair (q : FVec Ideal S64 .f32) (l : Fin 128) : broadcastInDim S1x128 ![1] bcast_S128_S1x128_1 (shapeCast S128
      (broadcastInDim S2x64 ![0, 1] bcast_S1x64_S2x64_0_1 (shapeCast S1x64 q shapeCasts_S64_S1x64)) shapeCasts_S2x64_S128) (ix2 0 l)
    = q (ix1 (lane l)) := by pointwise [lane]
theorem blk3 (l : Fin 128) : iblk m c 3 t (ix2 0 l) = m ((c : Thread nD τ).loc main_arg3) (ix1 (lane l)) := by
  have e : iblk m c 3 t (ix2 0 l) = V m c main_v17 (ix2 0 l) := by blk_ext! [iblk, idx3 t]
  rw [e, V_v17]; exact gain_pair _ l
theorem gain_rows (q : FVec Ideal S3x64 .f32) (a : Fin 3) (l : Fin 128) : concatenate S8x128 0 [⟨S3x128, (shapeCast S3x128
      (broadcastInDim S1x3x2x64 ![0, 1, 2, 3] bcast_S1x3x1x64_S1x3x2x64_0_1_2_3 (shapeCast S1x3x1x64 q shapeCasts_S3x64_S1x3x1x64))
      shapeCasts_S1x3x2x64_S3x128 : FVec Ideal S3x128 .f32)⟩,
      ⟨S5x128, (broadcastInDim S5x128 ![] bcast_S_S5x128 (constant (F := Ideal) S_ .f32 0x00000000#32) : FVec Ideal S5x128 .f32)⟩]
      concatenates_S3x128_S5x128_S8x128_d0 (ix2 ⟨a.val, by omega⟩ l) = q (ix2 a (lane l)) := by
  have ha := a.isLt
  pointwise [lane]
theorem blk4 (a : Fin 3) (l : Fin 128) : iblk m c 4 t (ix2 ⟨a.val, by omega⟩ l) = m ((c : Thread nD τ).loc main_arg4) (ix2 a (lane l)) := by
  have e : iblk m c 4 t (ix2 ⟨a.val, by omega⟩ l) = V m c main_v22 (ix2 ⟨a.val, by omega⟩ l) := by blk_ext! [iblk, idx4 t]
  rw [e, V_v22]; exact gain_rows _ a l
theorem blk5_low (a : Fin 16) (l : Fin 128) : iblk m c 5 t (ix2 ⟨a.val, by omega⟩ l) = m ((c : Thread nD τ).loc main_arg5) (ix2 a l) := by
  have e : iblk m c 5 t (ix2 ⟨a.val, by omega⟩ l) = V m c main_v25 (ix2 ⟨a.val, by omega⟩ l) := by blk_ext! [iblk, idx5 t]
  rw [e, V_v25]; pointwise
theorem blk5_pad (a : Fin 112) (l : Fin 128) : iblk m c 5 t (ix2 ⟨16 + a.val, by omega⟩ l) = (0 : EReal) := by
  have e : iblk m c 5 t (ix2 ⟨16 + a.val, by omega⟩ l) = V m c main_v25 (ix2 ⟨16 + a.val, by omega⟩ l) := by blk_ext! [iblk, idx5 t]
  rw [e, V_v25]; pointwise
theorem blk6 (l : Fin 128) : iblk m c 6 t (ix2 0 l) = m ((c : Thread nD τ).loc main_arg6) (ix1 l) := by
  have e : iblk m c 6 t (ix2 0 l) = V m c main_v26 (ix2 0 l) := by blk_ext! [iblk, idx6 t]
  rw [e, V_v26]; pointwise

theorem ld0 (X : Vec Ideal S512x1024 .f32) : View.ld X r0_0 = X := View.ld_unit_lit _ X (by decide)
theorem ld1 (X : Vec Ideal S1x1024 .f32) : View.ld X r0_1 = X := View.ld_unit_lit _ X (by decide)
theorem ld3 (X : Vec Ideal S1x128 .f32) : View.ld X r0_3 = X := View.ld_unit_lit _ X (by decide)
theorem ld21 (X : Vec Ideal S128x128 .bf16) : View.ld X r0_21 = X := View.ld_unit_lit _ X (by decide)

/-- The normed tile. -/
abbrev hn : FVec Ideal S512x1024 .bf16 :=
  k0_pay58 (iblk m c 0 t) (iblk m c 1 t) (iblk m c 2 t) (iblk m c 3 t) (iblk m c 4 t) (iblk m c 5 t) (iblk m c 6 t)

theorem hn_row (r : Fin 512) (k : Fin 1024) : hn m c t (ix2 r k) = hrow (m ((c : Thread nD τ).loc main_arg0)) (m ((c : Thread nD τ).loc main_arg1)) (row t r) k := by
  unfold hn k0_pay58
  rw [ld0, ld1, hn_cell]
  simp only [blk0, blk1]
  rfl

variable (r : Fin 512) (l : Fin 128)

/-- A column block of the packed weight. -/
theorem ldw (o : Nat) (inb) (h : o + 256 ≤ 2560) (k : Fin 1024) (j : Fin 256) :
    View.ld (iblk m c 2 t) (Rect.unit (s := S1024x2560) ![0, o] S1024x256.size inb) (ix2 k j)
      = packed (m ((c : Thread nD τ).loc main_arg2)) (ix2 k (col o 256 h j)) := by
  rw [← blk2 m c t]
  pointwise [col]

theorem lo_row (o : Nat) (inb) (h : o + 256 ≤ 2560) :
    k0_pay3 (hn m c t) (View.ld (iblk m c 2 t) (Rect.unit (s := S1024x2560) ![0, o] S1024x256.size inb)) (ix2 r l)
      = prow (m ((c : Thread nD τ).loc main_arg0)) (m ((c : Thread nD τ).loc main_arg1)) (m ((c : Thread nD τ).loc main_arg2)) (row t r) (col o 128 (by omega) l) := by
  rw [lo_cell]
  exact Finset.sum_congr rfl fun k _ => congrArg₂ (· * ·) (hn_row m c t r k) (ldw m c t o inb h k _)

theorem hi_row (o : Nat) (inb) (h : o + 256 ≤ 2560) :
    k0_pay4 (hn m c t) (View.ld (iblk m c 2 t) (Rect.unit (s := S1024x2560) ![0, o] S1024x256.size inb)) (ix2 r l)
      = prow (m ((c : Thread nD τ).loc main_arg0)) (m ((c : Thread nD τ).loc main_arg1)) (m ((c : Thread nD τ).loc main_arg2)) (row t r) (col (o + 128) 128 (by omega) l) := by
  rw [hi_cell]
  refine Finset.sum_congr rfl fun k _ => congrArg₂ (· * ·) (hn_row m c t r k) ((ldw m c t o inb h k _).trans ?_)
  exact congrArg (fun n => packed _ (ix2 k n)) (Fin.ext (show o + (128 + l.val) = o + 128 + l.val by omega))

theorem lo_norm (o : Nat) (inb) (h : o + 256 ≤ 2560) (G : Vec Ideal S1x128 .f32) :
    k0_pay13 (k0_pay3 (hn m c t) (View.ld (iblk m c 2 t) (Rect.unit (s := S1024x2560) ![0, o] S1024x256.size inb))) G (ix2 r l)
      = nrm (fun e => prow (m ((c : Thread nD τ).loc main_arg0)) (m ((c : Thread nD τ).loc main_arg1)) (m ((c : Thread nD τ).loc main_arg2)) (row t r) (lanes o 128 (by omega) (by omega) l e)) (lane l) (G (ix2 0 l)) := by
  rw [pay13_cell]
  exact congrArg (fun y => nrm y (lane l) (G (ix2 0 l))) (funext fun e => lo_row m c t r _ o inb h)

theorem hi_norm (o : Nat) (inb) (h : o + 256 ≤ 2560) (G : Vec Ideal S1x128 .f32) :
    k0_pay13 (k0_pay4 (hn m c t) (View.ld (iblk m c 2 t) (Rect.unit (s := S1024x2560) ![0, o] S1024x256.size inb))) G (ix2 r l)
      = nrm (fun e => prow (m ((c : Thread nD τ).loc main_arg0)) (m ((c : Thread nD τ).loc main_arg1)) (m ((c : Thread nD τ).loc main_arg2)) (row t r) (lanes (o + 128) 128 (by omega) (by omega) l e)) (lane l) (G (ix2 0 l)) := by
  rw [pay13_cell]
  exact congrArg (fun y => nrm y (lane l) (G (ix2 0 l))) (funext fun e => hi_row m c t r _ o inb h)

theorem query_gain : View.ld (iblk m c 3 t) r0_3 (ix2 0 l) = m ((c : Thread nD τ).loc main_arg3) (ix1 (lane l)) := by rw [ld3, blk3]
theorem key_gain1 : View.ld (iblk m c 4 t) r0_13 (ix2 0 l) = m ((c : Thread nD τ).loc main_arg4) (ix2 1 (lane l)) :=
  (show _ = iblk m c 4 t (ix2 1 l) by pointwise).trans (blk4 m c t 1 l)
theorem key_gain2 : View.ld (iblk m c 4 t) r0_15 (ix2 0 l) = m ((c : Thread nD τ).loc main_arg4) (ix2 2 (lane l)) :=
  (show _ = iblk m c 4 t (ix2 2 l) by pointwise).trans (blk4 m c t 2 l)

/-- The log gate's tile. -/
theorem gate_row : k0_pay1 (k0_pay56 (hn m c t) (View.ld (iblk m c 2 t) r0_20) (View.ld (iblk m c 5 t) r0_21) (View.ld (iblk m c 6 t) r0_3))
      k0_pay57 (ix2 r l)
    = loggate (m ((c : Thread nD τ).loc main_arg0)) (m ((c : Thread nD τ).loc main_arg1)) (m ((c : Thread nD τ).loc main_arg2)) (m ((c : Thread nD τ).loc main_arg5)) (m ((c : Thread nD τ).loc main_arg6)) (row t r) l := by
  rw [gate_cell, ld21, ld3, blk6]
  refine congrArg (fun s : EReal => Ideal.div (logsig (s + _)) _) (gate_sum _ _ _ ?_ ?_)
  · intro a
    refine congrArg₂ (· * ·) ?_ (blk5_low m c t a l)
    refine ((hi_cell r _ _ _).symm.trans (hi_row m c t r _ 2048 _ (by omega))).trans ?_
    exact congrArg (prow _ _ _ _) (Fin.ext (show 2048 + 128 + a.val = 2176 + a.val by omega))
  · exact fun a => (congrArg (_ * ·) (blk5_pad m c t a l)).trans (mul_zero _)

/-! ## The results after the last step -/

theorem final7 : (dats m 0 c).arrAt 7 cfg0.N = fun j => query (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 7 _ (by decide +kernel) fun t hf y => ?_
  blk_simp
  rw [after0_7]
  unfold out0_7
  have e : (win0_7.blk t).view.emb y = ix2 (row t (y 0)) (y 1) := by
    blk_ext [row, idx7 t]
  canon_tiles x h using cover0_7 ..
  · obtain ⟨r, l, rfl⟩ : ∃ r l, x = ix2 r l := ⟨x 0, x 1, by idx_ext⟩
    rw [e, show y 0 = r from Fin.ext h0, show y 1 = (⟨384 + l.val, by omega⟩ : Fin 512) from Fin.ext h1]
    exact ((hi_norm m c t r l 256 _ (by omega) _).trans (congrArg (nrm _ _) (query_gain m c t l))).trans (query_at _ _ _ _ l _ 384 (by omega) (by omega)).symm
  · obtain ⟨r, l, rfl⟩ : ∃ r l, x = ix2 r l := ⟨x 0, x 1, by idx_ext⟩
    rw [e, show y 0 = r from Fin.ext h0, show y 1 = (⟨256 + l.val, by omega⟩ : Fin 512) from Fin.ext h1]
    exact ((lo_norm m c t r l 256 _ (by omega) _).trans (congrArg (nrm _ _) (query_gain m c t l))).trans (query_at _ _ _ _ l _ 256 (by omega) (by omega)).symm
  · obtain ⟨r, l, rfl⟩ : ∃ r l, x = ix2 r l := ⟨x 0, x 1, by idx_ext⟩
    rw [e, show y 0 = r from Fin.ext h0, show y 1 = (⟨128 + l.val, by omega⟩ : Fin 512) from Fin.ext h1]
    exact ((hi_norm m c t r l 0 _ (by omega) _).trans (congrArg (nrm _ _) (query_gain m c t l))).trans (query_at _ _ _ _ l _ 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 512) from Fin.ext (h1.trans (Nat.zero_add _).symm)]
    exact ((lo_norm m c t r l 0 _ (by omega) _).trans (congrArg (nrm _ _) (query_gain m c t l))).trans (query_at _ _ _ _ l _ 0 (by omega) (by omega)).symm

theorem final8 : (dats m 0 c).arrAt 8 cfg0.N = fun j => prow (m ((c : Thread nD τ).loc main_arg0)) (m ((c : Thread nD τ).loc main_arg1)) (m ((c : Thread nD τ).loc main_arg2)) (j 0) (col 512 256 (by omega) (j 1)) := by
  refine (dats m 0 c).arrAt_eq_of_covers 8 _ (by decide +kernel) fun t hf y => ?_
  blk_simp
  rw [after0_8]
  unfold out0_8
  have e : (win0_8.blk t).view.emb y = ix2 (row t (y 0)) (y 1) := by
    blk_ext [row, idx8 t]
  canon_tiles x h using cover0_8 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 512 _ (by omega)).trans (col_at _ _ _ _ l 512 256 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact (lo_row m c t r l 512 _ (by omega)).trans (col_at _ _ _ _ l 512 256 0 (by omega) (by omega)).symm

theorem final9 : (dats m 0 c).arrAt 9 cfg0.N = fun j => keys (m ((c : Thread nD τ).loc main_arg0)) (m ((c : Thread nD τ).loc main_arg1)) (m ((c : Thread nD τ).loc main_arg2)) 768 (by omega) (fun d => m ((c : Thread nD τ).loc main_arg4) (ix2 1 d)) (j 0) (j 1) := by
  refine (dats m 0 c).arrAt_eq_of_covers 9 _ (by decide +kernel) fun t hf y => ?_
  blk_simp
  rw [after0_9]
  unfold out0_9
  have e : (win0_9.blk t).view.emb y = ix2 (row t (y 0)) (y 1) := by
    blk_ext [row, idx9 t]
  canon_tiles x h using cover0_9 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 768 _ (by omega)).trans (keys_high _ _ _ _ l 768 (by omega) _).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact ((lo_norm m c t r l 768 _ (by omega) _).trans (congrArg (nrm _ _) (key_gain1 m c t l))).trans (keys_low (m ((c : Thread nD τ).loc main_arg0)) (m ((c : Thread nD τ).loc main_arg1)) (m ((c : Thread nD τ).loc main_arg2)) (row t r) l 768 (by omega) (fun d => m ((c : Thread nD τ).loc main_arg4) (ix2 1 d))).symm

theorem final10 : (dats m 0 c).arrAt 10 cfg0.N = fun j => keys (m ((c : Thread nD τ).loc main_arg0)) (m ((c : Thread nD τ).loc main_arg1)) (m ((c : Thread nD τ).loc main_arg2)) 1024 (by omega) (fun d => m ((c : Thread nD τ).loc main_arg4) (ix2 2 d)) (j 0) (j 1) := by
  refine (dats m 0 c).arrAt_eq_of_covers 10 _ (by decide +kernel) fun t hf y => ?_
  blk_simp
  rw [after0_10]
  unfold out0_10
  have e : (win0_10.blk t).view.emb y = ix2 (row t (y 0)) (y 1) := by
    blk_ext [row, idx10 t]
  canon_tiles x h using cover0_10 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 1024 _ (by omega)).trans (keys_high _ _ _ _ l 1024 (by omega) _).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact ((lo_norm m c t r l 1024 _ (by omega) _).trans (congrArg (nrm _ _) (key_gain2 m c t l))).trans (keys_low (m ((c : Thread nD τ).loc main_arg0)) (m ((c : Thread nD τ).loc main_arg1)) (m ((c : Thread nD τ).loc main_arg2)) (row t r) l 1024 (by omega) (fun d => m ((c : Thread nD τ).loc main_arg4) (ix2 2 d))).symm

theorem final11 : (dats m 0 c).arrAt 11 cfg0.N = fun j => Ideal.logistic (prow (m ((c : Thread nD τ).loc main_arg0)) (m ((c : Thread nD τ).loc main_arg1)) (m ((c : Thread nD τ).loc main_arg2)) (j 0) (col 1280 128 (by omega) (j 1))) := by
  refine (dats m 0 c).arrAt_eq_of_covers 11 _ (by decide +kernel) fun t hf y => ?_
  blk_simp
  rw [after0_11]
  unfold out0_11
  have e : (win0_11.blk t).view.emb y = ix2 (row t (y 0)) (y 1) := by
    blk_ext [row, idx11 t]
  canon_tiles x h using cover0_11 ..
  · obtain ⟨r, l, rfl⟩ : ∃ r l, x = ix2 r l := ⟨x 0, x 1, by idx_ext⟩
    rw [e, show y 0 = r from Fin.ext h0, show y 1 = (⟨0 + l.val, by omega⟩ : Fin 128) from Fin.ext (h1.trans (Nat.zero_add _).symm)]
    exact (show _ = Ideal.logistic _ from rfl).trans (congrArg Ideal.logistic ((lo_row m c t r l 1280 _ (by omega)).trans (col_at _ _ _ _ l 1280 128 0 (by omega) (by omega)).symm))

theorem final12 : (dats m 0 c).arrAt 12 cfg0.N = fun j => prow (m ((c : Thread nD τ).loc main_arg0)) (m ((c : Thread nD τ).loc main_arg1)) (m ((c : Thread nD τ).loc main_arg2)) (j 0) (col 1408 128 (by omega) (j 1)) := by
  refine (dats m 0 c).arrAt_eq_of_covers 12 _ (by decide +kernel) fun t hf y => ?_
  blk_simp
  rw [after0_12]
  unfold out0_12
  have e : (win0_12.blk t).view.emb y = ix2 (row t (y 0)) (y 1) := by
    blk_ext [row, idx12 t]
  canon_tiles x h using cover0_12 ..
  · obtain ⟨r, l, rfl⟩ : ∃ r l, x = ix2 r l := ⟨x 0, x 1, by idx_ext⟩
    rw [e, show y 0 = r from Fin.ext h0, show y 1 = (⟨0 + l.val, by omega⟩ : Fin 128) from Fin.ext (h1.trans (Nat.zero_add _).symm)]
    exact (hi_row m c t r l 1280 _ (by omega)).trans (col_at _ _ _ _ l 1408 128 0 (by omega) (by omega)).symm

theorem final13 : (dats m 0 c).arrAt 13 cfg0.N = fun j => prow (m ((c : Thread nD τ).loc main_arg0)) (m ((c : Thread nD τ).loc main_arg1)) (m ((c : Thread nD τ).loc main_arg2)) (j 0) (col 1536 128 (by omega) (j 1)) := by
  refine (dats m 0 c).arrAt_eq_of_covers 13 _ (by decide +kernel) fun t hf y => ?_
  blk_simp
  rw [after0_13]
  unfold out0_13
  have e : (win0_13.blk t).view.emb y = ix2 (row t (y 0)) (y 1) := by
    blk_ext [row, idx13 t]
  canon_tiles x h using cover0_13 ..
  · obtain ⟨r, l, rfl⟩ : ∃ r l, x = ix2 r l := ⟨x 0, x 1, by idx_ext⟩
    rw [e, show y 0 = r from Fin.ext h0, show y 1 = (⟨0 + l.val, by omega⟩ : Fin 128) from Fin.ext (h1.trans (Nat.zero_add _).symm)]
    exact (lo_row m c t r l 1536 _ (by omega)).trans (col_at _ _ _ _ l 1536 128 0 (by omega) (by omega)).symm

theorem final14 : (dats m 0 c).arrAt 14 cfg0.N = fun j => prow (m ((c : Thread nD τ).loc main_arg0)) (m ((c : Thread nD τ).loc main_arg1)) (m ((c : Thread nD τ).loc main_arg2)) (j 0) (col 1664 256 (by omega) (j 1)) := by
  refine (dats m 0 c).arrAt_eq_of_covers 14 _ (by decide +kernel) fun t hf y => ?_
  blk_simp
  rw [after0_14]
  unfold out0_14
  have e : (win0_14.blk t).view.emb y = ix2 (row t (y 0)) (y 1) := by
    blk_ext [row, idx14 t]
  canon_tiles x h using cover0_14 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (lo_row m c t r l 1792 _ (by omega)).trans (col_at _ _ _ _ l 1664 256 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact (hi_row m c t r l 1536 _ (by omega)).trans (col_at _ _ _ _ l 1664 256 0 (by omega) (by omega)).symm

theorem final15 : (dats m 0 c).arrAt 15 cfg0.N = fun j => prow (m ((c : Thread nD τ).loc main_arg0)) (m ((c : Thread nD τ).loc main_arg1)) (m ((c : Thread nD τ).loc main_arg2)) (j 0) (col 1920 256 (by omega) (j 1)) := by
  refine (dats m 0 c).arrAt_eq_of_covers 15 _ (by decide +kernel) fun t hf y => ?_
  blk_simp
  rw [after0_15]
  unfold out0_15
  have e : (win0_15.blk t).view.emb y = ix2 (row t (y 0)) (y 1) := by
    blk_ext [row, idx15 t]
  canon_tiles x h using cover0_15 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (lo_row m c t r l 2048 _ (by omega)).trans (col_at _ _ _ _ l 1920 256 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact (hi_row m c t r l 1792 _ (by omega)).trans (col_at _ _ _ _ l 1920 256 0 (by omega) (by omega)).symm

theorem final16 : (dats m 0 c).arrAt 16 cfg0.N = fun j => loggate (m ((c : Thread nD τ).loc main_arg0)) (m ((c : Thread nD τ).loc main_arg1)) (m ((c : Thread nD τ).loc main_arg2)) (m ((c : Thread nD τ).loc main_arg5)) (m ((c : Thread nD τ).loc main_arg6)) (j 0) (j 1) := by
  refine (dats m 0 c).arrAt_eq_of_covers 16 _ (by decide +kernel) fun t hf y => ?_
  blk_simp
  rw [after0_16]
  unfold out0_16
  have e : (win0_16.blk t).view.emb y = ix2 (row t (y 0)) (y 1) := by
    blk_ext [row, idx16 t]
  canon_tiles x h using cover0_16 ..
  · obtain ⟨r, l, rfl⟩ : ∃ r l, x = ix2 r l := ⟨x 0, x 1, by idx_ext⟩
    rw [e, show y 0 = r from Fin.ext h0, show y 1 = (⟨0 + l.val, by omega⟩ : Fin 128) from Fin.ext (h1.trans (Nat.zero_add _).symm)]
    exact (gate_row m c t r l).trans (congrArg (loggate _ _ _ _ _ _) (Fin.ext (Nat.zero_add _).symm))

theorem final17 : (dats m 0 c).arrAt 17 cfg0.N = fun j => prow (m ((c : Thread nD τ).loc main_arg0)) (m ((c : Thread nD τ).loc main_arg1)) (m ((c : Thread nD τ).loc main_arg2)) (j 0) (col 2304 256 (by omega) (j 1)) := by
  refine (dats m 0 c).arrAt_eq_of_covers 17 _ (by decide +kernel) fun t hf y => ?_
  blk_simp
  rw [after0_17]
  unfold out0_17
  have e : (win0_17.blk t).view.emb y = ix2 (row t (y 0)) (y 1) := by
    blk_ext [row, idx17 t]
  canon_tiles x h using cover0_17 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 2304 _ (by omega)).trans (col_at _ _ _ _ l 2304 256 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact (lo_row m c t r l 2304 _ (by omega)).trans (col_at _ _ _ _ l 2304 256 0 (by omega) (by omega)).symm

theorem final18 : (dats m 0 c).arrAt 18 cfg0.N = fun j => keys (m ((c : Thread nD τ).loc main_arg0)) (m ((c : Thread nD τ).loc main_arg1)) (m ((c : Thread nD τ).loc main_arg2)) 768 (by omega) (fun d => m ((c : Thread nD τ).loc main_arg4) (ix2 1 d)) (j 0) (j 1) := by
  refine (dats m 0 c).arrAt_eq_of_covers 18 _ (by decide +kernel) fun t hf y => ?_
  blk_simp
  rw [after0_18]
  unfold out0_18
  have e : (win0_18.blk t).view.emb y = ix2 (row t (y 0)) (y 1) := by
    blk_ext [row, idx18 t]
  canon_tiles x h using cover0_18 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 768 _ (by omega)).trans (keys_high _ _ _ _ l 768 (by omega) _).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact ((lo_norm m c t r l 768 _ (by omega) _).trans (congrArg (nrm _ _) (key_gain1 m c t l))).trans (keys_low (m ((c : Thread nD τ).loc main_arg0)) (m ((c : Thread nD τ).loc main_arg1)) (m ((c : Thread nD τ).loc main_arg2)) (row t r) l 768 (by omega) (fun d => m ((c : Thread nD τ).loc main_arg4) (ix2 1 d))).symm

theorem final19 : (dats m 0 c).arrAt 19 cfg0.N = fun j => keys (m ((c : Thread nD τ).loc main_arg0)) (m ((c : Thread nD τ).loc main_arg1)) (m ((c : Thread nD τ).loc main_arg2)) 1024 (by omega) (fun d => m ((c : Thread nD τ).loc main_arg4) (ix2 2 d)) (j 0) (j 1) := by
  refine (dats m 0 c).arrAt_eq_of_covers 19 _ (by decide +kernel) fun t hf y => ?_
  blk_simp
  rw [after0_19]
  unfold out0_19
  have e : (win0_19.blk t).view.emb y = ix2 (row t (y 0)) (y 1) := by
    blk_ext [row, idx19 t]
  canon_tiles x h using cover0_19 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 1024 _ (by omega)).trans (keys_high _ _ _ _ l 1024 (by omega) _).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact ((lo_norm m c t r l 1024 _ (by omega) _).trans (congrArg (nrm _ _) (key_gain2 m c t l))).trans (keys_low (m ((c : Thread nD τ).loc main_arg0)) (m ((c : Thread nD τ).loc main_arg1)) (m ((c : Thread nD τ).loc main_arg2)) (row t r) l 1024 (by omega) (fun d => m ((c : Thread nD τ).loc main_arg4) (ix2 2 d))).symm

end Cert.InProjIdeal.Tile
end
-- ==== Proof.InProjRef.lean ====
module

public import proofs.«01_k».proof.Proof.InProjTile
public import proofs.«01_k».proof.Proof.Gen.InProjRefIdeal.Read

@[expose] public section

set_option maxRecDepth 16384

noncomputable section

namespace Cert.InProjRefIdeal.Tile

open Idealize.ShloMosaic Idealize.ShloMosaic.TcCoe Cert.InProjRefIdeal Cert.InProjRefIdeal.Read
open Cert.InProjIdeal.Tile (nrm hrow logsig proj)

variable (x0 : (⟨S16384x1024, .f32⟩ : BufTy).Contents (Elt Ideal)) (x1 : (⟨S1024, .f32⟩ : BufTy).Contents (Elt Ideal))
  (x2 : (⟨S1024x2344, .f32⟩ : BufTy).Contents (Elt Ideal)) (x3 : (⟨S64, .f32⟩ : BufTy).Contents (Elt Ideal))
  (x4 : (⟨S3x64, .f32⟩ : BufTy).Contents (Elt Ideal)) (x5 : (⟨S16x128, .f32⟩ : BufTy).Contents (Elt Ideal))
  (x6 : (⟨S128, .f32⟩ : BufTy).Contents (Elt Ideal))

/-- The row of position `s` of sequence `b`. -/
def pos (b : Fin 8) (s : Fin 2048) : Fin 16384 := ⟨b.val * 2048 + s.val, by omega⟩

variable (b : Fin 8) (s : Fin 2048)

theorem v13_cell (k : Fin 1024) : val_main_v13 x0 x1 (ix3 b s k) = hrow x0 x1 (pos b s) k := by
  unfold hrow pos
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v14_cell (j : Fin 2344) : val_main_v14 x0 x1 x2 (ix3 b s j) = proj x0 x1 x2 (pos b s) j := by
  unfold proj
  pointwise [val_main_v14]
  simp only [v13_cell]

theorem v24_cell (k : Fin 2) (q : Fin 4) (d : Fin 64) : val_main_v24 x0 x1 x2 (ix5 b s k q d)
    = proj x0 x1 x2 (pos b s) ⟨k.val * 256 + q.val * 64 + d.val, by omega⟩ := by
  pointwise [val_main_v24, val_main_v15]
  rw [v14_cell]
  done

theorem v37_cell (k : Fin 2) (q : Fin 4) (d : Fin 64) : val_main_v37 x0 x1 x2 x3 (ix5 b s k q d)
    = nrm (fun e => proj x0 x1 x2 (pos b s) ⟨k.val * 256 + q.val * 64 + e.val, by omega⟩) d (x3 (ix1 d)) := by
  unfold nrm
  pointwise [val_main_v37, val_main_v36, val_main_v35, val_main_v34, val_main_v33, val_main_v32, val_main_v31, val_main_v30, val_main_v29, val_main_v28, val_main_v27, val_main_v26, val_main_v25, val_main_cst_2, val_main_cst_3, val_main_cst_4]
  simp only [v24_cell]

theorem v38_cell (n : Fin 3) (u k : Fin 2) (d : Fin 64) : val_main_v38 x0 x1 x2 (ix6 b s n u k d)
    = proj x0 x1 x2 (pos b s) ⟨512 + (n.val * 256 + u.val * 128 + k.val * 64 + d.val), by omega⟩ := by
  pointwise [val_main_v38, val_main_v16]
  rw [v14_cell]
  done

theorem v57_cell (k : Fin 2) (d : Fin 64) : val_main_v57 x0 x1 x2 x4 (ix4 b s k d)
    = nrm (fun e => val_main_v38 x0 x1 x2 (ix6 b s 1 0 k e)) d (x4 (ix2 1 d)) := by
  unfold nrm
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_cst_5, val_main_cst_6, val_main_cst_7]

theorem v79_cell (k : Fin 2) (d : Fin 64) : val_main_v79 x0 x1 x2 x4 (ix4 b s k d)
    = nrm (fun e => val_main_v38 x0 x1 x2 (ix6 b s 2 0 k e)) d (x4 (ix2 2 d)) := by
  unfold nrm
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_cst_8, val_main_cst_9, val_main_cst_10]

theorem v62_cell (u k : Fin 2) (d : Fin 64) : val_main_v62 x0 x1 x2 x4 (ix5 b s u k d)
    = if u.val < 1 then val_main_v57 x0 x1 x2 x4 (ix4 b s k d) else val_main_v38 x0 x1 x2 (ix6 b s 1 1 k d) := by
  pointwise [val_main_v62, val_main_v61, val_main_v60, val_main_v59, val_main_v58]
  split_ifs <;> rfl

theorem v84_cell (u k : Fin 2) (d : Fin 64) : val_main_v84 x0 x1 x2 x4 (ix5 b s u k d)
    = if u.val < 1 then val_main_v79 x0 x1 x2 x4 (ix4 b s k d) else val_main_v38 x0 x1 x2 (ix6 b s 2 1 k d) := by
  pointwise [val_main_v84, val_main_v83, val_main_v82, val_main_v81, val_main_v80]
  split_ifs <;> rfl

theorem v90_cell (j : Fin 24) : val_main_v90 x0 x1 x2 (ix3 b s j)
    = Ideal.logistic (proj x0 x1 x2 (pos b s) ⟨1280 + j.val, by omega⟩) := by
  pointwise [val_main_v90, val_main_v89, val_main_v88, val_main_v87, val_main_v86, val_main_v85, val_main_v17, val_main_cst_11, val_main_cst_12]
  simp only [v14_cell]
  rfl

theorem v97_cell (l : Fin 128) : val_main_v97 x0 x1 x2 x5 x6 (ix3 b s l)
    = Ideal.div (logsig ((∑ a : Fin 16, proj x0 x1 x2 (pos b s) ⟨2072 + a.val, by omega⟩ * x5 (ix2 a l)) + x6 (ix1 l)))
        (Ideal.ofBits FTy.f32 0x41800000#32) := by
  pointwise [val_main_v97, val_main_v96, val_main_v95, val_main_v94, val_main_v93, val_main_v92, val_main_v91, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst, val_main_v22, val_main_cst_13]
  simp only [v14_cell]
  rw [if_neg fun h => h rfl]
  rfl

/-! ## The results, at rows and columns -/

open Cert.InProjIdeal.Tile (prow query keys loggate col packed_gate packed_low packed_pool prow_proj prow_kv prow_gla prow_query)

theorem pos_row (R : Fin 16384) : pos ⟨R.val / 2048, by omega⟩ ⟨R.val % 2048, by omega⟩ = R :=
  Fin.ext (show R.val / 2048 * 2048 + R.val % 2048 = R.val by omega)

/-- The reference's keys and values are the packed columns'. -/
theorem v38_prow (n : Fin 3) (u k : Fin 2) (d : Fin 64) (a : Fin 2560) (h : a.val = 512 + n.val * 256 + u.val * 128 + k.val * 64 + d.val) :
    val_main_v38 x0 x1 x2 (ix6 b s n u k d) = prow x0 x1 x2 (pos b s) a := by
  rw [v38_cell]
  exact (prow_kv x0 x1 x2 _ ⟨n.val * 256 + u.val * 128 + k.val * 64 + d.val, by omega⟩ a (by rw [h]; dsimp only; omega)).symm

theorem slc_row (u k : Fin 2) (d : Fin 64) (j : Fin 256) (hj : j.val = u.val * 128 + k.val * 64 + d.val) :
    val_main_v62 x0 x1 x2 x4 (ix5 b s u k d) = keys x0 x1 x2 768 (by omega) (fun d => x4 (ix2 1 d)) (pos b s) j := by
  rw [v62_cell, v57_cell]
  exact Cert.InProjIdeal.Tile.keys_stack x0 x1 x2 (pos b s) 768 _ (fun u k d => val_main_v38 x0 x1 x2 (ix6 b s 1 u k d))
    (fun u k d a ha => v38_prow x0 x1 x2 b s 1 u k d a ha) (fun d => x4 (ix2 1 d)) u k d j hj

theorem win_row (u k : Fin 2) (d : Fin 64) (j : Fin 256) (hj : j.val = u.val * 128 + k.val * 64 + d.val) :
    val_main_v84 x0 x1 x2 x4 (ix5 b s u k d) = keys x0 x1 x2 1024 (by omega) (fun d => x4 (ix2 2 d)) (pos b s) j := by
  rw [v84_cell, v79_cell]
  exact Cert.InProjIdeal.Tile.keys_stack x0 x1 x2 (pos b s) 1024 _ (fun u k d => val_main_v38 x0 x1 x2 (ix6 b s 2 u k d))
    (fun u k d a ha => v38_prow x0 x1 x2 b s 2 u k d a ha) (fun d => x4 (ix2 2 d)) u k d j hj

variable (R : Fin 16384)

theorem v100_cell (j : Fin 512) : val_main_v100 x0 x1 x2 x3 (ix2 R j) = query x0 x1 x2 x3 R j := by
  pointwise [val_main_v100, val_main_v99, val_main_v98]
  rw [v37_cell, pos_row]
  exact congrArg (fun y => nrm y _ _) (funext fun e => (prow_query x0 x1 x2 R j e _ rfl).symm)

theorem v101_cell (j : Fin 256) : val_main_v101 x0 x1 x2 (ix2 R j) = prow x0 x1 x2 R (col 512 256 (by omega) j) := by
  pointwise [val_main_v101, val_main_v40, val_main_v39]
  rw [v38_prow x0 x1 x2 _ _ _ _ _ _ (col 512 256 (by omega) j), pos_row]
  simp only [col]
  show 512 + j.val = 512 + 0 * 256 + j.val / 128 * 128 + j.val / 64 % 2 * 64 + j.val % 64
  omega

theorem v102_cell (j : Fin 256) : val_main_v102 x0 x1 x2 x4 (ix2 R j)
    = keys x0 x1 x2 768 (by omega) (fun d => x4 (ix2 1 d)) R j := by
  pointwise [val_main_v102]
  rw [slc_row x0 x1 x2 x4 _ _ _ _ _ j (by dsimp only; omega), pos_row]

theorem v114_cell (j : Fin 256) : val_main_v114 x0 x1 x2 x4 (ix2 R j)
    = keys x0 x1 x2 768 (by omega) (fun d => x4 (ix2 1 d)) R j := by
  pointwise [val_main_v114, val_main_v113]
  rw [slc_row x0 x1 x2 x4 _ _ _ _ _ j (by dsimp only; omega), pos_row]

theorem v116_cell (j : Fin 256) : val_main_v116 x0 x1 x2 x4 (ix2 R j)
    = keys x0 x1 x2 1024 (by omega) (fun d => x4 (ix2 2 d)) R j := by
  pointwise [val_main_v116, val_main_v115]
  rw [win_row x0 x1 x2 x4 _ _ _ _ _ j (by dsimp only; omega), pos_row]

/-- The window's tail: the last 512 positions of each sequence. -/
theorem v104_cell (s : Fin 512) (j : Fin 256) : val_main_v104 x0 x1 x2 x4 (ix3 b s j)
    = keys x0 x1 x2 1024 (by omega) (fun d => x4 (ix2 2 d)) (pos b ⟨1536 + s.val, by omega⟩) j := by
  pointwise [val_main_v104, val_main_v103]
  rw [win_row x0 x1 x2 x4 _ _ _ _ _ j (by dsimp only; omega)]

theorem v105_cell (j : Fin 24) : val_main_v105 x0 x1 x2 (ix2 R j) = Ideal.logistic (prow x0 x1 x2 R ⟨1280 + j.val, by omega⟩) := by
  pointwise [val_main_v105]
  rw [v90_cell, pos_row]
  exact congrArg Ideal.logistic (prow_proj x0 x1 x2 R _ _ fun k => packed_gate x2 k j).symm

theorem v106_cell (j : Fin 128) : val_main_v106 x0 x1 x2 (ix2 R j) = prow x0 x1 x2 R (col 1408 128 (by omega) j) := by
  pointwise [val_main_v106, val_main_v18]
  rw [v14_cell, pos_row]
  exact (prow_gla x0 x1 x2 R ⟨0 + j.val, by omega⟩ _ _ (by simp only [col]; omega) (by dsimp only; omega)).symm

theorem v107_cell (j : Fin 128) : val_main_v107 x0 x1 x2 (ix2 R j) = prow x0 x1 x2 R (col 1536 128 (by omega) j) := by
  pointwise [val_main_v107, val_main_v19]
  rw [v14_cell, pos_row]
  exact (prow_gla x0 x1 x2 R ⟨128 + j.val, by omega⟩ _ _ (by simp only [col]; omega) (by dsimp only; omega)).symm

theorem v108_cell (j : Fin 256) : val_main_v108 x0 x1 x2 (ix2 R j) = prow x0 x1 x2 R (col 1664 256 (by omega) j) := by
  pointwise [val_main_v108, val_main_v20]
  rw [v14_cell, pos_row]
  exact (prow_gla x0 x1 x2 R ⟨256 + j.val, by omega⟩ _ _ (by simp only [col]; omega) (by dsimp only; omega)).symm

theorem v109_cell (j : Fin 256) : val_main_v109 x0 x1 x2 (ix2 R j) = prow x0 x1 x2 R (col 1920 256 (by omega) j) := by
  pointwise [val_main_v109, val_main_v21]
  rw [v14_cell, pos_row]
  exact (prow_gla x0 x1 x2 R ⟨512 + j.val, by omega⟩ _ _ (by simp only [col]; omega) (by dsimp only; omega)).symm

theorem v110_cell (l : Fin 128) : val_main_v110 x0 x1 x2 x5 x6 (ix2 R l) = loggate x0 x1 x2 x5 x6 R l := by
  pointwise [val_main_v110]
  rw [v97_cell, pos_row]
  refine congrArg (fun z : EReal => Ideal.div (logsig (z + _)) _) (Finset.sum_congr rfl fun a _ => congrArg (· * x5 (ix2 a l)) ?_)
  exact (prow_proj x0 x1 x2 R _ _ fun k => packed_low x2 k a).symm

theorem v111_cell (j : Fin 256) : val_main_v111 x0 x1 x2 (ix2 R j) = prow x0 x1 x2 R (col 2304 256 (by omega) j) := by
  pointwise [val_main_v111, val_main_v23]
  rw [v14_cell, pos_row]
  exact (prow_proj x0 x1 x2 R _ _ fun k => packed_pool x2 k j).symm

/-- The pool's state: the last 15 positions of each sequence. -/
theorem v112_cell (s : Fin 15) (j : Fin 256) : val_main_v112 x0 x1 x2 (ix3 b s j)
    = prow x0 x1 x2 (pos b ⟨2033 + s.val, by omega⟩) (col 2304 256 (by omega) j) := by
  pointwise [val_main_v112, val_main_v23]
  rw [v14_cell]
  exact (prow_proj x0 x1 x2 _ _ _ fun k => packed_pool x2 k j).symm

end Cert.InProjRefIdeal.Tile
end
-- ==== Proof.InProjClaim.lean ====
module

public import proofs.«01_k».proof.Defs
public import proofs.«01_k».proof.Proof.Gen.InProj.Frame
public import proofs.«01_k».proof.Proof.InProjRef

@[expose] public section

set_option maxRecDepth 16384

noncomputable section

namespace Cert.InProjIdeal.Tile

open Idealize.ShloMosaic Idealize.ShloMosaic.TcCoe Idealize.SL.Sem Cert.InProjIdeal Cert.InProjIdeal.Gen

/-- The row of the position `s` of the last `n` of sequence `b`. -/
def last (n : Nat) (h : n ≤ 2048) (b : Fin 8) (s : Fin n) : Fin 16384 := ⟨b.val * 2048 + (2048 - n + s.val), by omega⟩

theorem win_last (f : Fin 16384 → Fin 256 → EReal) : extractStridedSlice S8x512x256 ![0, 1536, 0]
    (shapeCast S8x2048x256 (fun j => f (j 0) (j 1) : FVec Ideal S16384x256 .f32) shapeCasts_S16384x256_S8x2048x256)
    slices_S8x2048x256_S8x512x256_0_1536_0 = fun j => f (last 512 (by omega) (j 0) (j 1)) (j 2) := by
  funext j
  pointwise [last]

theorem pool_last (f : Fin 16384 → Fin 256 → EReal) : extractStridedSlice S8x15x256 ![0, 2033, 0]
    (shapeCast S8x2048x256 (fun j => f (j 0) (j 1) : FVec Ideal S16384x256 .f32) shapeCasts_S16384x256_S8x2048x256)
    slices_S8x2048x256_S8x15x256_0_2033_0 = fun j => f (last 15 (by omega) (j 0) (j 1)) (j 2) := by
  funext j
  pointwise [last]

theorem gate_first (f : Fin 16384 → Fin 128 → EReal) : extractStridedSlice S16384x24 ![0, 0]
    (fun j => f (j 0) (j 1) : FVec Ideal S16384x128 .f32)
    slices_S16384x128_S16384x24_0_0 = fun j => f (j 0) ⟨(j 1).val, by have h : (j 1).val < 24 := (j 1).isLt; omega⟩ := by
  funext j
  pointwise

variable (m : (ℓ : Loc nD τ sig) → Buf (Elt Ideal) ℓ) (c : Dev nD)

theorem arr (w : Fin 20) : Pipeline.withArrays spec0 c (V0 m c) (fun w => (dats m 0 c).arrAt w cfg0.N) (Proc.devRef .tc (Pipeline.arrRef spec0 w))
    = (dats m 0 c).arrAt w cfg0.N :=
  Pipeline.withArrays_arr_shared spec0 c (V0 m c) (fun w => (dats m 0 c).arrAt w cfg0.N)
    (fun w w' hne e => absurd e ((by decide : ∀ w w' : Fin 20, w ≠ w' → Pipeline.arrRef spec0 w ≠ Pipeline.arrRef spec0 w') w w' hne)) w

theorem tail_v29 : Pipeline.afterTail₀ cfgs (dats m) 0 (V0 m) [hostOps1] c main_v29
    = fun j => keys (m ((c : Thread nD τ).loc main_arg0)) (m ((c : Thread nD τ).loc main_arg1)) (m ((c : Thread nD τ).loc main_arg2)) 1024 (by omega) (fun d => (m ((c : Thread nD τ).loc main_arg4)) (ix2 2 d)) (last 512 (by omega) (j 0) (j 1)) (j 2) := by
  unfold Pipeline.afterTail₀
  show StableHlo.after hostOps1 _ (Proc.tc.devRef main_v29) = _
  after_results
  generalize hX : Pipeline.withArrays _ c (V0 m c) _ (Proc.tc.devRef main_v27_3) = X
  have hx := hX.symm.trans ((arr m c 10).trans (final10 m c))
  subst hx
  exact win_last fun i j => keys (m ((c : Thread nD τ).loc main_arg0)) (m ((c : Thread nD τ).loc main_arg1)) (m ((c : Thread nD τ).loc main_arg2)) 1024 (by omega) (fun d => (m ((c : Thread nD τ).loc main_arg4)) (ix2 2 d)) i j

theorem tail_v32 : Pipeline.afterTail₀ cfgs (dats m) 0 (V0 m) [hostOps1] c main_v32
    = fun j => Ideal.logistic (prow (m ((c : Thread nD τ).loc main_arg0)) (m ((c : Thread nD τ).loc main_arg1)) (m ((c : Thread nD τ).loc main_arg2)) (j 0) (col 1280 24 (by omega) (j 1))) := by
  unfold Pipeline.afterTail₀
  show StableHlo.after hostOps1 _ (Proc.tc.devRef main_v32) = _
  after_results
  generalize hX : Pipeline.withArrays _ c (V0 m c) _ (Proc.tc.devRef main_v27_4) = X
  have hx := hX.symm.trans ((arr m c 11).trans (final11 m c))
  subst hx
  exact gate_first fun i j => Ideal.logistic (prow (m ((c : Thread nD τ).loc main_arg0)) (m ((c : Thread nD τ).loc main_arg1)) (m ((c : Thread nD τ).loc main_arg2)) i (col 1280 128 (by omega) j))

theorem tail_v31 : Pipeline.afterTail₀ cfgs (dats m) 0 (V0 m) [hostOps1] c main_v31
    = fun j => prow (m ((c : Thread nD τ).loc main_arg0)) (m ((c : Thread nD τ).loc main_arg1)) (m ((c : Thread nD τ).loc main_arg2)) (last 15 (by omega) (j 0) (j 1)) (col 2304 256 (by omega) (j 2)) := by
  unfold Pipeline.afterTail₀
  show StableHlo.after hostOps1 _ (Proc.tc.devRef main_v31) = _
  after_results
  generalize hX : Pipeline.withArrays _ c (V0 m c) _ (Proc.tc.devRef main_v27_10) = X
  have hx := hX.symm.trans ((arr m c 17).trans (final17 m c))
  subst hx
  exact pool_last fun i j => prow (m ((c : Thread nD τ).loc main_arg0)) (m ((c : Thread nD τ).loc main_arg1)) (m ((c : Thread nD τ).loc main_arg2)) i (col 2304 256 (by omega) j)

set_option maxHeartbeats 2000000 in
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v27_0) = (fun j => query (m ((c : Thread nD τ).loc main_arg0)) (m ((c : Thread nD τ).loc main_arg1)) (m ((c : Thread nD τ).loc main_arg2)) (m ((c : Thread nD τ).loc main_arg3)) (j 0) (j 1))
      ∧ r.2.mem ((c.tc : Thread nD τ).loc main_v27_1) = (fun j => prow (m ((c : Thread nD τ).loc main_arg0)) (m ((c : Thread nD τ).loc main_arg1)) (m ((c : Thread nD τ).loc main_arg2)) (j 0) (col 512 256 (by omega) (j 1)))
      ∧ r.2.mem ((c.tc : Thread nD τ).loc main_v27_2) = (fun j => keys (m ((c : Thread nD τ).loc main_arg0)) (m ((c : Thread nD τ).loc main_arg1)) (m ((c : Thread nD τ).loc main_arg2)) 768 (by omega) (fun d => (m ((c : Thread nD τ).loc main_arg4)) (ix2 1 d)) (j 0) (j 1))
      ∧ r.2.mem ((c.tc : Thread nD τ).loc main_v29) = (fun j => keys (m ((c : Thread nD τ).loc main_arg0)) (m ((c : Thread nD τ).loc main_arg1)) (m ((c : Thread nD τ).loc main_arg2)) 1024 (by omega) (fun d => (m ((c : Thread nD τ).loc main_arg4)) (ix2 2 d)) (last 512 (by omega) (j 0) (j 1)) (j 2))
      ∧ r.2.mem ((c.tc : Thread nD τ).loc main_v32) = (fun j => Ideal.logistic (prow (m ((c : Thread nD τ).loc main_arg0)) (m ((c : Thread nD τ).loc main_arg1)) (m ((c : Thread nD τ).loc main_arg2)) (j 0) (col 1280 24 (by omega) (j 1))))
      ∧ r.2.mem ((c.tc : Thread nD τ).loc main_v27_5) = (fun j => prow (m ((c : Thread nD τ).loc main_arg0)) (m ((c : Thread nD τ).loc main_arg1)) (m ((c : Thread nD τ).loc main_arg2)) (j 0) (col 1408 128 (by omega) (j 1)))
      ∧ r.2.mem ((c.tc : Thread nD τ).loc main_v27_6) = (fun j => prow (m ((c : Thread nD τ).loc main_arg0)) (m ((c : Thread nD τ).loc main_arg1)) (m ((c : Thread nD τ).loc main_arg2)) (j 0) (col 1536 128 (by omega) (j 1)))
      ∧ r.2.mem ((c.tc : Thread nD τ).loc main_v27_7) = (fun j => prow (m ((c : Thread nD τ).loc main_arg0)) (m ((c : Thread nD τ).loc main_arg1)) (m ((c : Thread nD τ).loc main_arg2)) (j 0) (col 1664 256 (by omega) (j 1)))
      ∧ r.2.mem ((c.tc : Thread nD τ).loc main_v27_8) = (fun j => prow (m ((c : Thread nD τ).loc main_arg0)) (m ((c : Thread nD τ).loc main_arg1)) (m ((c : Thread nD τ).loc main_arg2)) (j 0) (col 1920 256 (by omega) (j 1)))
      ∧ r.2.mem ((c.tc : Thread nD τ).loc main_v27_9) = (fun j => loggate (m ((c : Thread nD τ).loc main_arg0)) (m ((c : Thread nD τ).loc main_arg1)) (m ((c : Thread nD τ).loc main_arg2)) (m ((c : Thread nD τ).loc main_arg5)) (m ((c : Thread nD τ).loc main_arg6)) (j 0) (j 1))
      ∧ r.2.mem ((c.tc : Thread nD τ).loc main_v27_10) = (fun j => prow (m ((c : Thread nD τ).loc main_arg0)) (m ((c : Thread nD τ).loc main_arg1)) (m ((c : Thread nD τ).loc main_arg2)) (j 0) (col 2304 256 (by omega) (j 1)))
      ∧ r.2.mem ((c.tc : Thread nD τ).loc main_v31) = (fun j => prow (m ((c : Thread nD τ).loc main_arg0)) (m ((c : Thread nD τ).loc main_arg1)) (m ((c : Thread nD τ).loc main_arg2)) (last 15 (by omega) (j 0) (j 1)) (col 2304 256 (by omega) (j 2)))
      ∧ r.2.mem ((c.tc : Thread nD τ).loc main_v27_11) = (fun j => keys (m ((c : Thread nD τ).loc main_arg0)) (m ((c : Thread nD τ).loc main_arg1)) (m ((c : Thread nD τ).loc main_arg2)) 768 (by omega) (fun d => (m ((c : Thread nD τ).loc main_arg4)) (ix2 1 d)) (j 0) (j 1))
      ∧ r.2.mem ((c.tc : Thread nD τ).loc main_v27_12) = (fun j => keys (m ((c : Thread nD τ).loc main_arg0)) (m ((c : Thread nD τ).loc main_arg1)) (m ((c : Thread nD τ).loc main_arg2)) 1024 (by omega) (fun d => (m ((c : Thread nD τ).loc main_arg4)) (ix2 2 d)) (j 0) (j 1))) :=
  (θ_run defs _ _).mono (fun _ h c => by
    obtain ⟨ha, hr⟩ := h c
    refine ⟨?_, ?_, ?_, ?_, ?_, ?_, ?_, ?_, ?_, ?_, ?_, ?_, ?_, ?_⟩
    · exact (ha 7).trans (final7 m c)
    · exact (ha 8).trans (final8 m c)
    · exact (ha 9).trans (final9 m c)
    · exact (hr main_v29 (Pipeline.mem_restRefs_of main_v29 (by decide) (by decide))).trans (tail_v29 m c)
    · exact (hr main_v32 (Pipeline.mem_restRefs_of main_v32 (by decide) (by decide))).trans (tail_v32 m c)
    · exact (ha 12).trans (final12 m c)
    · exact (ha 13).trans (final13 m c)
    · exact (ha 14).trans (final14 m c)
    · exact (ha 15).trans (final15 m c)
    · exact (ha 16).trans (final16 m c)
    · exact (ha 17).trans (final17 m c)
    · exact (hr main_v31 (Pipeline.mem_restRefs_of main_v31 (by decide) (by decide))).trans (tail_v31 m c)
    · exact (ha 18).trans (final18 m c)
    · exact (ha 19).trans (final19 m c)
    ) (run_main m ρ)

end Cert.InProjIdeal.Tile

namespace Cert.InProjIdeal.Claims

open Idealize.ShloMosaic Idealize.ShloMosaic.TcCoe Idealize.SL.Sem Cert.InProjIdeal

theorem frame_kernel : Cert.quiescent_InProj := fun m ρ _ => Cert.InProj.Gen.frame m ρ
theorem frame_ideal : Cert.quiescent_InProjIdeal := fun m ρ _ => Cert.InProjIdeal.Gen.frame m ρ

theorem frame_reference : Cert.quiescent_InProjRefIdeal := fun m ρ _ =>
  (θ_run Cert.InProjRefIdeal.defs _ _).mono (fun r h => ⟨fun c => (h c).2.2.2.2.2.2.2.2.2.2.2.2.2.2, sem_eq_zero_of_no_sems (by decide) r.2⟩)
    (Cert.InProjRefIdeal.Value.run (F := Ideal) m ρ)
theorem preserves : Cert.preserves_InProj_InProjIdeal := trivial

theorem algebraic : Cert.algebraic_InProjIdeal_InProjRefIdeal := by
  intro m g m' g' _ hargs
  refine ⟨_, _, _, _, _, _, _, _, _, _, _, _, _, _, (θ_run Cert.InProjIdeal.defs _ _).mono (fun r h c =>
    ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1, (h.1 c).2.2.2.2.2.2.2.2.2.2.2.2.1, (h.1 c).2.2.2.2.2.2.2.2.2.2.2.2.2, h.2 c⟩)
    (θ_run_and (Cert.InProjIdeal.Tile.run_value m g) (Cert.InProjIdeal.Gen.unchanged m g)), ?_⟩
  refine (θ_run Cert.InProjRefIdeal.defs _ _).mono (fun r h c => ?_) (Cert.InProjRefIdeal.Value.run (F := Ideal) m' g')
  obtain ⟨h0, h1, h2, h3, h4, h5, h6, h7, h8, h9, h10, h11, h12, h13, hrest⟩ := h c
  obtain ⟨e0, e1, e2, e3, e4, e5, e6⟩ := hargs c
  refine ⟨?_, ?_, ?_, ?_, ?_, ?_, ?_, ?_, ?_, ?_, ?_, ?_, ?_, ?_, hrest⟩
  · rw [h0, Cert.InProjRefIdeal.Read.val_main_v100_eq, e0, e1, e2, e3]
    funext j
    obtain ⟨a, b, rfl⟩ : ∃ a b, j = ix2 a b := ⟨j 0, j 1, by idx_ext⟩
    exact Cert.InProjRefIdeal.Tile.v100_cell _ _ _ _ a b
  · rw [h1, Cert.InProjRefIdeal.Read.val_main_v101_eq, e0, e1, e2]
    funext j
    obtain ⟨a, b, rfl⟩ : ∃ a b, j = ix2 a b := ⟨j 0, j 1, by idx_ext⟩
    exact Cert.InProjRefIdeal.Tile.v101_cell _ _ _ a b
  · rw [h2, Cert.InProjRefIdeal.Read.val_main_v102_eq, e0, e1, e2, e4]
    funext j
    obtain ⟨a, b, rfl⟩ : ∃ a b, j = ix2 a b := ⟨j 0, j 1, by idx_ext⟩
    exact Cert.InProjRefIdeal.Tile.v102_cell _ _ _ _ a b
  · rw [h3, Cert.InProjRefIdeal.Read.val_main_v104_eq, e0, e1, e2, e4]
    funext j
    obtain ⟨a, b, d, rfl⟩ : ∃ a b d, j = ix3 a b d := ⟨j 0, j 1, j 2, by idx_ext⟩
    exact Cert.InProjRefIdeal.Tile.v104_cell _ _ _ _ a b d
  · rw [h4, Cert.InProjRefIdeal.Read.val_main_v105_eq, e0, e1, e2]
    funext j
    obtain ⟨a, b, rfl⟩ : ∃ a b, j = ix2 a b := ⟨j 0, j 1, by idx_ext⟩
    exact Cert.InProjRefIdeal.Tile.v105_cell _ _ _ a b
  · rw [h5, Cert.InProjRefIdeal.Read.val_main_v106_eq, e0, e1, e2]
    funext j
    obtain ⟨a, b, rfl⟩ : ∃ a b, j = ix2 a b := ⟨j 0, j 1, by idx_ext⟩
    exact Cert.InProjRefIdeal.Tile.v106_cell _ _ _ a b
  · rw [h6, Cert.InProjRefIdeal.Read.val_main_v107_eq, e0, e1, e2]
    funext j
    obtain ⟨a, b, rfl⟩ : ∃ a b, j = ix2 a b := ⟨j 0, j 1, by idx_ext⟩
    exact Cert.InProjRefIdeal.Tile.v107_cell _ _ _ a b
  · rw [h7, Cert.InProjRefIdeal.Read.val_main_v108_eq, e0, e1, e2]
    funext j
    obtain ⟨a, b, rfl⟩ : ∃ a b, j = ix2 a b := ⟨j 0, j 1, by idx_ext⟩
    exact Cert.InProjRefIdeal.Tile.v108_cell _ _ _ a b
  · rw [h8, Cert.InProjRefIdeal.Read.val_main_v109_eq, e0, e1, e2]
    funext j
    obtain ⟨a, b, rfl⟩ : ∃ a b, j = ix2 a b := ⟨j 0, j 1, by idx_ext⟩
    exact Cert.InProjRefIdeal.Tile.v109_cell _ _ _ a b
  · rw [h9, Cert.InProjRefIdeal.Read.val_main_v110_eq, e0, e1, e2, e5, e6]
    funext j
    obtain ⟨a, b, rfl⟩ : ∃ a b, j = ix2 a b := ⟨j 0, j 1, by idx_ext⟩
    exact Cert.InProjRefIdeal.Tile.v110_cell _ _ _ _ _ a b
  · rw [h10, Cert.InProjRefIdeal.Read.val_main_v111_eq, e0, e1, e2]
    funext j
    obtain ⟨a, b, rfl⟩ : ∃ a b, j = ix2 a b := ⟨j 0, j 1, by idx_ext⟩
    exact Cert.InProjRefIdeal.Tile.v111_cell _ _ _ a b
  · rw [h11, Cert.InProjRefIdeal.Read.val_main_v112_eq, e0, e1, e2]
    funext j
    obtain ⟨a, b, d, rfl⟩ : ∃ a b d, j = ix3 a b d := ⟨j 0, j 1, j 2, by idx_ext⟩
    exact Cert.InProjRefIdeal.Tile.v112_cell _ _ _ a b d
  · rw [h12, Cert.InProjRefIdeal.Read.val_main_v114_eq, e0, e1, e2, e4]
    funext j
    obtain ⟨a, b, rfl⟩ : ∃ a b, j = ix2 a b := ⟨j 0, j 1, by idx_ext⟩
    exact Cert.InProjRefIdeal.Tile.v114_cell _ _ _ _ a b
  · rw [h13, Cert.InProjRefIdeal.Read.val_main_v116_eq, e0, e1, e2, e4]
    funext j
    obtain ⟨a, b, rfl⟩ : ∃ a b, j = ix2 a b := ⟨j 0, j 1, by idx_ext⟩
    exact Cert.InProjRefIdeal.Tile.v116_cell _ _ _ _ a b

end Cert.InProjIdeal.Claims
end
-- ==== Proof.InStepTile.lean ====
module

public import proofs.«01_k».proof.Proof.InProjRows
public import proofs.«01_k».proof.Proof.Gen.InStepIdeal.Frame
public import Idealize.ShloMosaic.Lib.Claim

@[expose] public section

set_option maxRecDepth 16384

noncomputable section

namespace Cert.InStepIdeal.Tile

open Idealize.ShloMosaic Idealize.ShloMosaic.TcCoe Cert.InStepIdeal Cert.InStepIdeal.Gen
open Cert.InProjIdeal.Tile (nrm mul_sixtyfourth mul_sixteenth logsig lane_eq select_ite sum_low sum_high pair_nrm gate_sum packed hrow prow
  col lanes lane query keys loggate keys_low keys_high query_at col_at)

/-! ## The body's values at coordinates -/

section Payloads

variable (Y : FVec Ideal S128x128 .f32) (G : Vec Ideal S1x128 .f32) (r : Fin 128) (l : Fin 128)

theorem pay13_cell : k0_pay13 Y G (ix2 r l)
    = nrm (fun e => Y (ix2 r ⟨l.val / 64 * 64 + e.val, by omega⟩)) ⟨l.val % 64, by omega⟩ (G (ix2 0 l)) := by
  pointwise [k0_pay13]
  simp only [lane_eq, select_ite, sum_low, sum_high, mul_sixtyfourth]
  exact pair_nrm (fun n => Y (ix2 r n)) l _

theorem hn_cell (x : Vec Ideal S128x1024 .f32) (g : Vec Ideal S1x1024 .f32) (k : Fin 1024) : k0_pay5 x g (ix2 r k)
    = x (ix2 r k) * Ideal.rsqrt (Ideal.div (∑ e : Fin 1024, x (ix2 r e) * x (ix2 r e)) (Ideal.ofBits FTy.f32 0x44800000#32)
        + Ideal.ofBits FTy.f32 0x358637BD#32) * g (ix2 0 k) := by
  pointwise [k0_pay5]

theorem lo_cell (h : FVec Ideal S128x1024 .bf16) (w : Vec Ideal S1024x256 .bf16) :
    k0_pay3 h w (ix2 r l) = ∑ k : Fin 1024, h (ix2 r k) * w (ix2 k ⟨l.val, by omega⟩) := by
  pointwise [k0_pay3, k0_pay2]

theorem hi_cell (h : FVec Ideal S128x1024 .bf16) (w : Vec Ideal S1024x256 .bf16) :
    k0_pay4 h w (ix2 r l) = ∑ k : Fin 1024, h (ix2 r k) * w (ix2 k ⟨128 + l.val, by omega⟩) := by
  pointwise [k0_pay4, k0_pay2]

theorem gate_cell (h : FVec Ideal S128x1024 .bf16) (w : Vec Ideal S1024x256 .bf16) (wa : Vec Ideal S128x128 .bf16)
    (b : Vec Ideal S1x128 .f32) : k0_pay1 (k0_pay56 h w wa b) k0_pay57 (ix2 r l)
      = Ideal.div (logsig ((∑ a : Fin 128, (∑ k : Fin 1024, h (ix2 r k) * w (ix2 k ⟨128 + a.val, by omega⟩)) * wa (ix2 a l)) + b (ix2 0 l)))
          (Ideal.ofBits FTy.f32 0x41800000#32) := by
  pointwise [k0_pay1, k0_pay56, k0_pay57, k0_pay54]
  rw [mul_sixteenth, if_neg (fun h => h rfl)]
  unfold logsig
  simp only [zero_sub]

end Payloads

/-! ## The blocks at coordinates -/

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)

theorem V_v0 : V m c main_v0 = broadcastInDim S1x1024 ![1] bcast_S1024_S1x1024_1 (m ((c : Thread nD τ).loc main_arg1)) := by
  show StableHlo.after hostOps0 (fun b => m (c, b)) (Proc.tc.devRef main_v0) = _
  after_results
theorem V_v13 : V m c main_v13 = packed (m ((c : Thread nD τ).loc main_arg2)) := by
  show StableHlo.after hostOps0 (fun b => m (c, b)) (Proc.tc.devRef main_v13) = _
  after_results
  rfl
theorem V_v17 : V m c main_v17 = broadcastInDim S1x128 ![1] bcast_S128_S1x128_1 (shapeCast S128
      (broadcastInDim S2x64 ![0, 1] bcast_S1x64_S2x64_0_1 (shapeCast S1x64 (m ((c : Thread nD τ).loc main_arg3)) shapeCasts_S64_S1x64)) shapeCasts_S2x64_S128) := by
  show StableHlo.after hostOps0 (fun b => m (c, b)) (Proc.tc.devRef main_v17) = _
  after_results
  rfl
theorem V_v22 : V m c main_v22 = concatenate S8x128 0 [⟨S3x128, (shapeCast S3x128
      (broadcastInDim S1x3x2x64 ![0, 1, 2, 3] bcast_S1x3x1x64_S1x3x2x64_0_1_2_3 (shapeCast S1x3x1x64 (m ((c : Thread nD τ).loc main_arg4)) shapeCasts_S3x64_S1x3x1x64))
      shapeCasts_S1x3x2x64_S3x128 : FVec Ideal S3x128 .f32)⟩,
      ⟨S5x128, (broadcastInDim S5x128 ![] bcast_S_S5x128 (constant (F := Ideal) S_ .f32 0x00000000#32) : FVec Ideal S5x128 .f32)⟩]
      concatenates_S3x128_S5x128_S8x128_d0 := by
  show StableHlo.after hostOps0 (fun b => m (c, b)) (Proc.tc.devRef main_v22) = _
  after_results
  rfl
theorem V_v25 : V m c main_v25 = truncf (F := Ideal) .bf16 (concatenate S128x128 0 [⟨S16x128, (show FVec Ideal S16x128 .f32 from m ((c : Thread nD τ).loc main_arg5))⟩,
      ⟨S112x128, (broadcastInDim S112x128 ![] bcast_S_S112x128 (constant (F := Ideal) S_ .f32 0x00000000#32) : FVec Ideal S112x128 .f32)⟩]
      concatenates_S16x128_S112x128_S128x128_d0) bitsLt_bf16_f32 := by
  show StableHlo.after hostOps0 (fun b => m (c, b)) (Proc.tc.devRef main_v25) = _
  after_results
theorem V_v26 : V m c main_v26 = broadcastInDim S1x128 ![1] bcast_S128_S1x128_1 (m ((c : Thread nD τ).loc main_arg6)) := by
  show StableHlo.after hostOps0 (fun b => m (c, b)) (Proc.tc.devRef main_v26) = _
  after_results

variable (t : Fin cfg0.N)

theorem blk0 (r : Fin 128) (k : Fin 1024) : iblk m c 0 t (ix2 r k) = m ((c : Thread nD τ).loc main_arg0) (ix2 r k) := by
  blk_ext! [iblk, V_main_arg0, idx0 t]
theorem blk1 (k : Fin 1024) : iblk m c 1 t (ix2 0 k) = m ((c : Thread nD τ).loc main_arg1) (ix1 k) := by
  have e : iblk m c 1 t (ix2 0 k) = V m c main_v0 (ix2 0 k) := by blk_ext! [iblk, idx1 t]
  rw [e, V_v0]; pointwise
theorem blk2 (k : Fin 1024) (j : Fin 2560) : iblk m c 2 t (ix2 k j) = packed (m ((c : Thread nD τ).loc main_arg2)) (ix2 k j) := by
  have e : iblk m c 2 t (ix2 k j) = V m c main_v13 (ix2 k j) := by blk_ext! [iblk, idx2 t]
  rw [e, V_v13]
theorem gain_pair (q : FVec Ideal S64 .f32) (l : Fin 128) : broadcastInDim S1x128 ![1] bcast_S128_S1x128_1 (shapeCast S128
      (broadcastInDim S2x64 ![0, 1] bcast_S1x64_S2x64_0_1 (shapeCast S1x64 q shapeCasts_S64_S1x64)) shapeCasts_S2x64_S128) (ix2 0 l)
    = q (ix1 (lane l)) := by pointwise [lane]
theorem blk3 (l : Fin 128) : iblk m c 3 t (ix2 0 l) = m ((c : Thread nD τ).loc main_arg3) (ix1 (lane l)) := by
  have e : iblk m c 3 t (ix2 0 l) = V m c main_v17 (ix2 0 l) := by blk_ext! [iblk, idx3 t]
  rw [e, V_v17]; exact gain_pair _ l
theorem gain_rows (q : FVec Ideal S3x64 .f32) (a : Fin 3) (l : Fin 128) : concatenate S8x128 0 [⟨S3x128, (shapeCast S3x128
      (broadcastInDim S1x3x2x64 ![0, 1, 2, 3] bcast_S1x3x1x64_S1x3x2x64_0_1_2_3 (shapeCast S1x3x1x64 q shapeCasts_S3x64_S1x3x1x64))
      shapeCasts_S1x3x2x64_S3x128 : FVec Ideal S3x128 .f32)⟩,
      ⟨S5x128, (broadcastInDim S5x128 ![] bcast_S_S5x128 (constant (F := Ideal) S_ .f32 0x00000000#32) : FVec Ideal S5x128 .f32)⟩]
      concatenates_S3x128_S5x128_S8x128_d0 (ix2 ⟨a.val, by omega⟩ l) = q (ix2 a (lane l)) := by
  have ha := a.isLt
  pointwise [lane]
theorem blk4 (a : Fin 3) (l : Fin 128) : iblk m c 4 t (ix2 ⟨a.val, by omega⟩ l) = m ((c : Thread nD τ).loc main_arg4) (ix2 a (lane l)) := by
  have e : iblk m c 4 t (ix2 ⟨a.val, by omega⟩ l) = V m c main_v22 (ix2 ⟨a.val, by omega⟩ l) := by blk_ext! [iblk, idx4 t]
  rw [e, V_v22]; exact gain_rows _ a l
theorem blk5_low (a : Fin 16) (l : Fin 128) : iblk m c 5 t (ix2 ⟨a.val, by omega⟩ l) = m ((c : Thread nD τ).loc main_arg5) (ix2 a l) := by
  have e : iblk m c 5 t (ix2 ⟨a.val, by omega⟩ l) = V m c main_v25 (ix2 ⟨a.val, by omega⟩ l) := by blk_ext! [iblk, idx5 t]
  rw [e, V_v25]; pointwise
theorem blk5_pad (a : Fin 112) (l : Fin 128) : iblk m c 5 t (ix2 ⟨16 + a.val, by omega⟩ l) = (0 : EReal) := by
  have e : iblk m c 5 t (ix2 ⟨16 + a.val, by omega⟩ l) = V m c main_v25 (ix2 ⟨16 + a.val, by omega⟩ l) := by blk_ext! [iblk, idx5 t]
  rw [e, V_v25]; pointwise
theorem blk6 (l : Fin 128) : iblk m c 6 t (ix2 0 l) = m ((c : Thread nD τ).loc main_arg6) (ix1 l) := by
  have e : iblk m c 6 t (ix2 0 l) = V m c main_v26 (ix2 0 l) := by blk_ext! [iblk, idx6 t]
  rw [e, V_v26]; pointwise

theorem ld0 (X : Vec Ideal S128x1024 .f32) : View.ld X r0_0 = X := View.ld_unit_lit _ X (by decide)
theorem ld1 (X : Vec Ideal S1x1024 .f32) : View.ld X r0_1 = X := View.ld_unit_lit _ X (by decide)
theorem ld3 (X : Vec Ideal S1x128 .f32) : View.ld X r0_3 = X := View.ld_unit_lit _ X (by decide)
theorem ld21 (X : Vec Ideal S128x128 .bf16) : View.ld X r0_17 = X := View.ld_unit_lit _ X (by decide)

/-- The normed tile. -/
abbrev hn : FVec Ideal S128x1024 .bf16 :=
  k0_pay58 (iblk m c 0 t) (iblk m c 1 t) (iblk m c 2 t) (iblk m c 3 t) (iblk m c 4 t) (iblk m c 5 t) (iblk m c 6 t)

theorem hn_row (r : Fin 128) (k : Fin 1024) : hn m c t (ix2 r k) = hrow (m ((c : Thread nD τ).loc main_arg0)) (m ((c : Thread nD τ).loc main_arg1)) r k := by
  unfold hn k0_pay58
  rw [ld0, ld1, hn_cell]
  simp only [blk0, blk1]
  rfl

variable (r : Fin 128) (l : Fin 128)

/-- A column block of the packed weight. -/
theorem ldw (o : Nat) (inb) (h : o + 256 ≤ 2560) (k : Fin 1024) (j : Fin 256) :
    View.ld (iblk m c 2 t) (Rect.unit (s := S1024x2560) ![0, o] S1024x256.size inb) (ix2 k j)
      = packed (m ((c : Thread nD τ).loc main_arg2)) (ix2 k (col o 256 h j)) := by
  rw [← blk2 m c t]
  pointwise [col]

theorem lo_row (o : Nat) (inb) (h : o + 256 ≤ 2560) :
    k0_pay3 (hn m c t) (View.ld (iblk m c 2 t) (Rect.unit (s := S1024x2560) ![0, o] S1024x256.size inb)) (ix2 r l)
      = prow (m ((c : Thread nD τ).loc main_arg0)) (m ((c : Thread nD τ).loc main_arg1)) (m ((c : Thread nD τ).loc main_arg2)) r (col o 128 (by omega) l) := by
  rw [lo_cell]
  exact Finset.sum_congr rfl fun k _ => congrArg₂ (· * ·) (hn_row m c t r k) (ldw m c t o inb h k _)

theorem hi_row (o : Nat) (inb) (h : o + 256 ≤ 2560) :
    k0_pay4 (hn m c t) (View.ld (iblk m c 2 t) (Rect.unit (s := S1024x2560) ![0, o] S1024x256.size inb)) (ix2 r l)
      = prow (m ((c : Thread nD τ).loc main_arg0)) (m ((c : Thread nD τ).loc main_arg1)) (m ((c : Thread nD τ).loc main_arg2)) r (col (o + 128) 128 (by omega) l) := by
  rw [hi_cell]
  refine Finset.sum_congr rfl fun k _ => congrArg₂ (· * ·) (hn_row m c t r k) ((ldw m c t o inb h k _).trans ?_)
  exact congrArg (fun n => packed _ (ix2 k n)) (Fin.ext (show o + (128 + l.val) = o + 128 + l.val by omega))

theorem lo_norm (o : Nat) (inb) (h : o + 256 ≤ 2560) (G : Vec Ideal S1x128 .f32) :
    k0_pay13 (k0_pay3 (hn m c t) (View.ld (iblk m c 2 t) (Rect.unit (s := S1024x2560) ![0, o] S1024x256.size inb))) G (ix2 r l)
      = nrm (fun e => prow (m ((c : Thread nD τ).loc main_arg0)) (m ((c : Thread nD τ).loc main_arg1)) (m ((c : Thread nD τ).loc main_arg2)) r (lanes o 128 (by omega) (by omega) l e)) (lane l) (G (ix2 0 l)) := by
  rw [pay13_cell]
  exact congrArg (fun y => nrm y (lane l) (G (ix2 0 l))) (funext fun e => lo_row m c t r _ o inb h)

theorem hi_norm (o : Nat) (inb) (h : o + 256 ≤ 2560) (G : Vec Ideal S1x128 .f32) :
    k0_pay13 (k0_pay4 (hn m c t) (View.ld (iblk m c 2 t) (Rect.unit (s := S1024x2560) ![0, o] S1024x256.size inb))) G (ix2 r l)
      = nrm (fun e => prow (m ((c : Thread nD τ).loc main_arg0)) (m ((c : Thread nD τ).loc main_arg1)) (m ((c : Thread nD τ).loc main_arg2)) r (lanes (o + 128) 128 (by omega) (by omega) l e)) (lane l) (G (ix2 0 l)) := by
  rw [pay13_cell]
  exact congrArg (fun y => nrm y (lane l) (G (ix2 0 l))) (funext fun e => hi_row m c t r _ o inb h)

theorem query_gain : View.ld (iblk m c 3 t) r0_3 (ix2 0 l) = m ((c : Thread nD τ).loc main_arg3) (ix1 (lane l)) := by rw [ld3, blk3]
theorem key_gain1 : View.ld (iblk m c 4 t) r0_13 (ix2 0 l) = m ((c : Thread nD τ).loc main_arg4) (ix2 1 (lane l)) :=
  (show _ = iblk m c 4 t (ix2 1 l) by pointwise).trans (blk4 m c t 1 l)
theorem key_gain2 : View.ld (iblk m c 4 t) r0_15 (ix2 0 l) = m ((c : Thread nD τ).loc main_arg4) (ix2 2 (lane l)) :=
  (show _ = iblk m c 4 t (ix2 2 l) by pointwise).trans (blk4 m c t 2 l)

/-- The log gate's tile. -/
theorem gate_row : k0_pay1 (k0_pay56 (hn m c t) (View.ld (iblk m c 2 t) r0_20) (View.ld (iblk m c 5 t) r0_17) (View.ld (iblk m c 6 t) r0_3))
      k0_pay57 (ix2 r l)
    = loggate (m ((c : Thread nD τ).loc main_arg0)) (m ((c : Thread nD τ).loc main_arg1)) (m ((c : Thread nD τ).loc main_arg2)) (m ((c : Thread nD τ).loc main_arg5)) (m ((c : Thread nD τ).loc main_arg6)) r l := by
  rw [gate_cell, ld21, ld3, blk6]
  refine congrArg (fun s : EReal => Ideal.div (logsig (s + _)) _) (gate_sum _ _ _ ?_ ?_)
  · intro a
    refine congrArg₂ (· * ·) ?_ (blk5_low m c t a l)
    refine ((hi_cell r _ _ _).symm.trans (hi_row m c t r _ 2048 _ (by omega))).trans ?_
    exact congrArg (prow _ _ _ _) (Fin.ext (show 2048 + 128 + a.val = 2176 + a.val by omega))
  · exact fun a => (congrArg (_ * ·) (blk5_pad m c t a l)).trans (mul_zero _)

/-! ## The results after the last step -/

theorem final7 : (dats m 0 c).arrAt 7 cfg0.N = fun j => query (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 7 _ (by decide +kernel) fun t hf y => ?_
  blk_simp
  rw [after0_7]
  unfold out0_7
  have e : (win0_7.blk t).view.emb y = ix2 (y 0) (y 1) := by
    blk_ext [idx7 t]
  canon_tiles x h using cover0_7 ..
  · obtain ⟨r, l, rfl⟩ : ∃ r l, x = ix2 r l := ⟨x 0, x 1, by idx_ext⟩
    rw [e, show y 0 = r from Fin.ext h0, show y 1 = (⟨384 + l.val, by omega⟩ : Fin 512) from Fin.ext h1]
    exact ((hi_norm m c t r l 256 _ (by omega) _).trans (congrArg (nrm _ _) (query_gain m c t l))).trans (query_at _ _ _ _ l _ 384 (by omega) (by omega)).symm
  · obtain ⟨r, l, rfl⟩ : ∃ r l, x = ix2 r l := ⟨x 0, x 1, by idx_ext⟩
    rw [e, show y 0 = r from Fin.ext h0, show y 1 = (⟨256 + l.val, by omega⟩ : Fin 512) from Fin.ext h1]
    exact ((lo_norm m c t r l 256 _ (by omega) _).trans (congrArg (nrm _ _) (query_gain m c t l))).trans (query_at _ _ _ _ l _ 256 (by omega) (by omega)).symm
  · obtain ⟨r, l, rfl⟩ : ∃ r l, x = ix2 r l := ⟨x 0, x 1, by idx_ext⟩
    rw [e, show y 0 = r from Fin.ext h0, show y 1 = (⟨128 + l.val, by omega⟩ : Fin 512) from Fin.ext h1]
    exact ((hi_norm m c t r l 0 _ (by omega) _).trans (congrArg (nrm _ _) (query_gain m c t l))).trans (query_at _ _ _ _ l _ 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 512) from Fin.ext (h1.trans (Nat.zero_add _).symm)]
    exact ((lo_norm m c t r l 0 _ (by omega) _).trans (congrArg (nrm _ _) (query_gain m c t l))).trans (query_at _ _ _ _ l _ 0 (by omega) (by omega)).symm

theorem final8 : (dats m 0 c).arrAt 8 cfg0.N = fun j => prow (m ((c : Thread nD τ).loc main_arg0)) (m ((c : Thread nD τ).loc main_arg1)) (m ((c : Thread nD τ).loc main_arg2)) (j 0) (col 512 256 (by omega) (j 1)) := by
  refine (dats m 0 c).arrAt_eq_of_covers 8 _ (by decide +kernel) fun t hf y => ?_
  blk_simp
  rw [after0_8]
  unfold out0_8
  have e : (win0_8.blk t).view.emb y = ix2 (y 0) (y 1) := by
    blk_ext [idx8 t]
  canon_tiles x h using cover0_8 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 512 _ (by omega)).trans (col_at _ _ _ _ l 512 256 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact (lo_row m c t r l 512 _ (by omega)).trans (col_at _ _ _ _ l 512 256 0 (by omega) (by omega)).symm

theorem final9 : (dats m 0 c).arrAt 9 cfg0.N = fun j => keys (m ((c : Thread nD τ).loc main_arg0)) (m ((c : Thread nD τ).loc main_arg1)) (m ((c : Thread nD τ).loc main_arg2)) 768 (by omega) (fun d => m ((c : Thread nD τ).loc main_arg4) (ix2 1 d)) (j 0) (j 1) := by
  refine (dats m 0 c).arrAt_eq_of_covers 9 _ (by decide +kernel) fun t hf y => ?_
  blk_simp
  rw [after0_9]
  unfold out0_9
  have e : (win0_9.blk t).view.emb y = ix2 (y 0) (y 1) := by
    blk_ext [idx9 t]
  canon_tiles x h using cover0_9 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 768 _ (by omega)).trans (keys_high _ _ _ _ l 768 (by omega) _).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact ((lo_norm m c t r l 768 _ (by omega) _).trans (congrArg (nrm _ _) (key_gain1 m c t l))).trans (keys_low (m ((c : Thread nD τ).loc main_arg0)) (m ((c : Thread nD τ).loc main_arg1)) (m ((c : Thread nD τ).loc main_arg2)) r l 768 (by omega) (fun d => m ((c : Thread nD τ).loc main_arg4) (ix2 1 d))).symm

theorem final10 : (dats m 0 c).arrAt 10 cfg0.N = fun j => keys (m ((c : Thread nD τ).loc main_arg0)) (m ((c : Thread nD τ).loc main_arg1)) (m ((c : Thread nD τ).loc main_arg2)) 1024 (by omega) (fun d => m ((c : Thread nD τ).loc main_arg4) (ix2 2 d)) (j 0) (j 1) := by
  refine (dats m 0 c).arrAt_eq_of_covers 10 _ (by decide +kernel) fun t hf y => ?_
  blk_simp
  rw [after0_10]
  unfold out0_10
  have e : (win0_10.blk t).view.emb y = ix2 (y 0) (y 1) := by
    blk_ext [idx10 t]
  canon_tiles x h using cover0_10 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 1024 _ (by omega)).trans (keys_high _ _ _ _ l 1024 (by omega) _).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact ((lo_norm m c t r l 1024 _ (by omega) _).trans (congrArg (nrm _ _) (key_gain2 m c t l))).trans (keys_low (m ((c : Thread nD τ).loc main_arg0)) (m ((c : Thread nD τ).loc main_arg1)) (m ((c : Thread nD τ).loc main_arg2)) r l 1024 (by omega) (fun d => m ((c : Thread nD τ).loc main_arg4) (ix2 2 d))).symm

theorem final11 : (dats m 0 c).arrAt 11 cfg0.N = fun j => Ideal.logistic (prow (m ((c : Thread nD τ).loc main_arg0)) (m ((c : Thread nD τ).loc main_arg1)) (m ((c : Thread nD τ).loc main_arg2)) (j 0) (col 1280 128 (by omega) (j 1))) := by
  refine (dats m 0 c).arrAt_eq_of_covers 11 _ (by decide +kernel) fun t hf y => ?_
  blk_simp
  rw [after0_11]
  unfold out0_11
  have e : (win0_11.blk t).view.emb y = ix2 (y 0) (y 1) := by
    blk_ext [idx11 t]
  canon_tiles x h using cover0_11 ..
  · obtain ⟨r, l, rfl⟩ : ∃ r l, x = ix2 r l := ⟨x 0, x 1, by idx_ext⟩
    rw [e, show y 0 = r from Fin.ext h0, show y 1 = (⟨0 + l.val, by omega⟩ : Fin 128) from Fin.ext (h1.trans (Nat.zero_add _).symm)]
    exact (show _ = Ideal.logistic _ from rfl).trans (congrArg Ideal.logistic ((lo_row m c t r l 1280 _ (by omega)).trans (col_at _ _ _ _ l 1280 128 0 (by omega) (by omega)).symm))

theorem final12 : (dats m 0 c).arrAt 12 cfg0.N = fun j => prow (m ((c : Thread nD τ).loc main_arg0)) (m ((c : Thread nD τ).loc main_arg1)) (m ((c : Thread nD τ).loc main_arg2)) (j 0) (col 1408 128 (by omega) (j 1)) := by
  refine (dats m 0 c).arrAt_eq_of_covers 12 _ (by decide +kernel) fun t hf y => ?_
  blk_simp
  rw [after0_12]
  unfold out0_12
  have e : (win0_12.blk t).view.emb y = ix2 (y 0) (y 1) := by
    blk_ext [idx12 t]
  canon_tiles x h using cover0_12 ..
  · obtain ⟨r, l, rfl⟩ : ∃ r l, x = ix2 r l := ⟨x 0, x 1, by idx_ext⟩
    rw [e, show y 0 = r from Fin.ext h0, show y 1 = (⟨0 + l.val, by omega⟩ : Fin 128) from Fin.ext (h1.trans (Nat.zero_add _).symm)]
    exact (hi_row m c t r l 1280 _ (by omega)).trans (col_at _ _ _ _ l 1408 128 0 (by omega) (by omega)).symm

theorem final13 : (dats m 0 c).arrAt 13 cfg0.N = fun j => prow (m ((c : Thread nD τ).loc main_arg0)) (m ((c : Thread nD τ).loc main_arg1)) (m ((c : Thread nD τ).loc main_arg2)) (j 0) (col 1536 128 (by omega) (j 1)) := by
  refine (dats m 0 c).arrAt_eq_of_covers 13 _ (by decide +kernel) fun t hf y => ?_
  blk_simp
  rw [after0_13]
  unfold out0_13
  have e : (win0_13.blk t).view.emb y = ix2 (y 0) (y 1) := by
    blk_ext [idx13 t]
  canon_tiles x h using cover0_13 ..
  · obtain ⟨r, l, rfl⟩ : ∃ r l, x = ix2 r l := ⟨x 0, x 1, by idx_ext⟩
    rw [e, show y 0 = r from Fin.ext h0, show y 1 = (⟨0 + l.val, by omega⟩ : Fin 128) from Fin.ext (h1.trans (Nat.zero_add _).symm)]
    exact (lo_row m c t r l 1536 _ (by omega)).trans (col_at _ _ _ _ l 1536 128 0 (by omega) (by omega)).symm

theorem final14 : (dats m 0 c).arrAt 14 cfg0.N = fun j => prow (m ((c : Thread nD τ).loc main_arg0)) (m ((c : Thread nD τ).loc main_arg1)) (m ((c : Thread nD τ).loc main_arg2)) (j 0) (col 1664 256 (by omega) (j 1)) := by
  refine (dats m 0 c).arrAt_eq_of_covers 14 _ (by decide +kernel) fun t hf y => ?_
  blk_simp
  rw [after0_14]
  unfold out0_14
  have e : (win0_14.blk t).view.emb y = ix2 (y 0) (y 1) := by
    blk_ext [idx14 t]
  canon_tiles x h using cover0_14 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (lo_row m c t r l 1792 _ (by omega)).trans (col_at _ _ _ _ l 1664 256 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact (hi_row m c t r l 1536 _ (by omega)).trans (col_at _ _ _ _ l 1664 256 0 (by omega) (by omega)).symm

theorem final15 : (dats m 0 c).arrAt 15 cfg0.N = fun j => prow (m ((c : Thread nD τ).loc main_arg0)) (m ((c : Thread nD τ).loc main_arg1)) (m ((c : Thread nD τ).loc main_arg2)) (j 0) (col 1920 256 (by omega) (j 1)) := by
  refine (dats m 0 c).arrAt_eq_of_covers 15 _ (by decide +kernel) fun t hf y => ?_
  blk_simp
  rw [after0_15]
  unfold out0_15
  have e : (win0_15.blk t).view.emb y = ix2 (y 0) (y 1) := by
    blk_ext [idx15 t]
  canon_tiles x h using cover0_15 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (lo_row m c t r l 2048 _ (by omega)).trans (col_at _ _ _ _ l 1920 256 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact (hi_row m c t r l 1792 _ (by omega)).trans (col_at _ _ _ _ l 1920 256 0 (by omega) (by omega)).symm

theorem final16 : (dats m 0 c).arrAt 16 cfg0.N = fun j => loggate (m ((c : Thread nD τ).loc main_arg0)) (m ((c : Thread nD τ).loc main_arg1)) (m ((c : Thread nD τ).loc main_arg2)) (m ((c : Thread nD τ).loc main_arg5)) (m ((c : Thread nD τ).loc main_arg6)) (j 0) (j 1) := by
  refine (dats m 0 c).arrAt_eq_of_covers 16 _ (by decide +kernel) fun t hf y => ?_
  blk_simp
  rw [after0_16]
  unfold out0_16
  have e : (win0_16.blk t).view.emb y = ix2 (y 0) (y 1) := by
    blk_ext [idx16 t]
  canon_tiles x h using cover0_16 ..
  · obtain ⟨r, l, rfl⟩ : ∃ r l, x = ix2 r l := ⟨x 0, x 1, by idx_ext⟩
    rw [e, show y 0 = r from Fin.ext h0, show y 1 = (⟨0 + l.val, by omega⟩ : Fin 128) from Fin.ext (h1.trans (Nat.zero_add _).symm)]
    exact (gate_row m c t r l).trans (congrArg (loggate _ _ _ _ _ _) (Fin.ext (Nat.zero_add _).symm))

theorem final17 : (dats m 0 c).arrAt 17 cfg0.N = fun j => prow (m ((c : Thread nD τ).loc main_arg0)) (m ((c : Thread nD τ).loc main_arg1)) (m ((c : Thread nD τ).loc main_arg2)) (j 0) (col 2304 256 (by omega) (j 1)) := by
  refine (dats m 0 c).arrAt_eq_of_covers 17 _ (by decide +kernel) fun t hf y => ?_
  blk_simp
  rw [after0_17]
  unfold out0_17
  have e : (win0_17.blk t).view.emb y = ix2 (y 0) (y 1) := by
    blk_ext [idx17 t]
  canon_tiles x h using cover0_17 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 2304 _ (by omega)).trans (col_at _ _ _ _ l 2304 256 128 (by omega) (by omega)).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact (lo_row m c t r l 2304 _ (by omega)).trans (col_at _ _ _ _ l 2304 256 0 (by omega) (by omega)).symm

theorem final18 : (dats m 0 c).arrAt 18 cfg0.N = fun j => keys (m ((c : Thread nD τ).loc main_arg0)) (m ((c : Thread nD τ).loc main_arg1)) (m ((c : Thread nD τ).loc main_arg2)) 768 (by omega) (fun d => m ((c : Thread nD τ).loc main_arg4) (ix2 1 d)) (j 0) (j 1) := by
  refine (dats m 0 c).arrAt_eq_of_covers 18 _ (by decide +kernel) fun t hf y => ?_
  blk_simp
  rw [after0_18]
  unfold out0_18
  have e : (win0_18.blk t).view.emb y = ix2 (y 0) (y 1) := by
    blk_ext [idx18 t]
  canon_tiles x h using cover0_18 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 768 _ (by omega)).trans (keys_high _ _ _ _ l 768 (by omega) _).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact ((lo_norm m c t r l 768 _ (by omega) _).trans (congrArg (nrm _ _) (key_gain1 m c t l))).trans (keys_low (m ((c : Thread nD τ).loc main_arg0)) (m ((c : Thread nD τ).loc main_arg1)) (m ((c : Thread nD τ).loc main_arg2)) r l 768 (by omega) (fun d => m ((c : Thread nD τ).loc main_arg4) (ix2 1 d))).symm

theorem final19 : (dats m 0 c).arrAt 19 cfg0.N = fun j => keys (m ((c : Thread nD τ).loc main_arg0)) (m ((c : Thread nD τ).loc main_arg1)) (m ((c : Thread nD τ).loc main_arg2)) 1024 (by omega) (fun d => m ((c : Thread nD τ).loc main_arg4) (ix2 2 d)) (j 0) (j 1) := by
  refine (dats m 0 c).arrAt_eq_of_covers 19 _ (by decide +kernel) fun t hf y => ?_
  blk_simp
  rw [after0_19]
  unfold out0_19
  have e : (win0_19.blk t).view.emb y = ix2 (y 0) (y 1) := by
    blk_ext [idx19 t]
  canon_tiles x h using cover0_19 ..
  · obtain ⟨r, l, rfl⟩ : ∃ r l, x = ix2 r l := ⟨x 0, x 1, by idx_ext⟩
    rw [e, show y 0 = r from Fin.ext h0, show y 1 = (⟨128 + l.val, by omega⟩ : Fin 256) from Fin.ext h1]
    exact (hi_row m c t r l 1024 _ (by omega)).trans (keys_high _ _ _ _ l 1024 (by omega) _).symm
  · obtain ⟨r, l, rfl⟩ : ∃ r l, x = ix2 r l := ⟨x 0, x 1, by idx_ext⟩
    rw [e, show y 0 = r from Fin.ext h0, show y 1 = (⟨0 + l.val, by omega⟩ : Fin 256) from Fin.ext (h1.trans (Nat.zero_add _).symm)]
    exact ((lo_norm m c t r l 1024 _ (by omega) _).trans (congrArg (nrm _ _) (key_gain2 m c t l))).trans (keys_low (m ((c : Thread nD τ).loc main_arg0)) (m ((c : Thread nD τ).loc main_arg1)) (m ((c : Thread nD τ).loc main_arg2)) r l 1024 (by omega) (fun d => m ((c : Thread nD τ).loc main_arg4) (ix2 2 d))).symm

end Cert.InStepIdeal.Tile
end
-- ==== Proof.InStepRef.lean ====
module

public import proofs.«01_k».proof.Proof.InStepTile
public import proofs.«01_k».proof.Proof.Gen.InStepRefIdeal.Read

@[expose] public section

set_option maxRecDepth 16384

noncomputable section

namespace Cert.InStepRefIdeal.Tile

open Idealize.ShloMosaic Idealize.ShloMosaic.TcCoe Cert.InStepRefIdeal Cert.InStepRefIdeal.Read
open Cert.InProjIdeal.Tile (nrm hrow logsig proj)

variable (x0 : (⟨S128x1024, .f32⟩ : BufTy).Contents (Elt Ideal)) (x1 : (⟨S1024, .f32⟩ : BufTy).Contents (Elt Ideal))
  (x2 : (⟨S1024x2344, .f32⟩ : BufTy).Contents (Elt Ideal)) (x3 : (⟨S64, .f32⟩ : BufTy).Contents (Elt Ideal))
  (x4 : (⟨S3x64, .f32⟩ : BufTy).Contents (Elt Ideal)) (x5 : (⟨S16x128, .f32⟩ : BufTy).Contents (Elt Ideal))
  (x6 : (⟨S128, .f32⟩ : BufTy).Contents (Elt Ideal))

variable (b : Fin 128) (s : Fin 1)

theorem v13_cell (k : Fin 1024) : val_main_v13 x0 x1 (ix3 b s k) = hrow x0 x1 b k := by
  unfold hrow
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem v14_cell (j : Fin 2344) : val_main_v14 x0 x1 x2 (ix3 b s j) = proj x0 x1 x2 b j := by
  unfold proj
  pointwise [val_main_v14]
  simp only [v13_cell]

theorem v24_cell (k : Fin 2) (q : Fin 4) (d : Fin 64) : val_main_v24 x0 x1 x2 (ix5 b s k q d)
    = proj x0 x1 x2 b ⟨k.val * 256 + q.val * 64 + d.val, by omega⟩ := by
  pointwise [val_main_v24, val_main_v15]
  rw [v14_cell]
  done

theorem v37_cell (k : Fin 2) (q : Fin 4) (d : Fin 64) : val_main_v37 x0 x1 x2 x3 (ix5 b s k q d)
    = nrm (fun e => proj x0 x1 x2 b ⟨k.val * 256 + q.val * 64 + e.val, by omega⟩) d (x3 (ix1 d)) := by
  unfold nrm
  pointwise [val_main_v37, val_main_v36, val_main_v35, val_main_v34, val_main_v33, val_main_v32, val_main_v31, val_main_v30, val_main_v29, val_main_v28, val_main_v27, val_main_v26, val_main_v25, val_main_cst_2, val_main_cst_3, val_main_cst_4]
  simp only [v24_cell]

theorem v38_cell (n : Fin 3) (u k : Fin 2) (d : Fin 64) : val_main_v38 x0 x1 x2 (ix6 b s n u k d)
    = proj x0 x1 x2 b ⟨512 + (n.val * 256 + u.val * 128 + k.val * 64 + d.val), by omega⟩ := by
  pointwise [val_main_v38, val_main_v16]
  rw [v14_cell]
  done

theorem v57_cell (k : Fin 2) (d : Fin 64) : val_main_v57 x0 x1 x2 x4 (ix4 b s k d)
    = nrm (fun e => val_main_v38 x0 x1 x2 (ix6 b s 1 0 k e)) d (x4 (ix2 1 d)) := by
  obtain rfl : s = 0 := Subsingleton.elim _ _
  unfold nrm
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_cst_5, val_main_cst_6, val_main_cst_7]

theorem v79_cell (k : Fin 2) (d : Fin 64) : val_main_v79 x0 x1 x2 x4 (ix4 b s k d)
    = nrm (fun e => val_main_v38 x0 x1 x2 (ix6 b s 2 0 k e)) d (x4 (ix2 2 d)) := by
  obtain rfl : s = 0 := Subsingleton.elim _ _
  unfold nrm
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_cst_8, val_main_cst_9, val_main_cst_10]

theorem v62_cell (u k : Fin 2) (d : Fin 64) : val_main_v62 x0 x1 x2 x4 (ix5 b s u k d)
    = if u.val < 1 then val_main_v57 x0 x1 x2 x4 (ix4 b s k d) else val_main_v38 x0 x1 x2 (ix6 b s 1 1 k d) := by
  obtain rfl : s = 0 := Subsingleton.elim _ _
  pointwise [val_main_v62, val_main_v61, val_main_v60, val_main_v59, val_main_v58]
  split_ifs <;> rfl

theorem v84_cell (u k : Fin 2) (d : Fin 64) : val_main_v84 x0 x1 x2 x4 (ix5 b s u k d)
    = if u.val < 1 then val_main_v79 x0 x1 x2 x4 (ix4 b s k d) else val_main_v38 x0 x1 x2 (ix6 b s 2 1 k d) := by
  obtain rfl : s = 0 := Subsingleton.elim _ _
  pointwise [val_main_v84, val_main_v83, val_main_v82, val_main_v81, val_main_v80]
  split_ifs <;> rfl

theorem v90_cell (j : Fin 24) : val_main_v90 x0 x1 x2 (ix3 b s j)
    = Ideal.logistic (proj x0 x1 x2 b ⟨1280 + j.val, by omega⟩) := by
  pointwise [val_main_v90, val_main_v89, val_main_v88, val_main_v87, val_main_v86, val_main_v85, val_main_v17, val_main_cst_11, val_main_cst_12]
  simp only [v14_cell]
  rfl

theorem v97_cell (l : Fin 128) : val_main_v97 x0 x1 x2 x5 x6 (ix3 b s l)
    = Ideal.div (logsig ((∑ a : Fin 16, proj x0 x1 x2 b ⟨2072 + a.val, by omega⟩ * x5 (ix2 a l)) + x6 (ix1 l)))
        (Ideal.ofBits FTy.f32 0x41800000#32) := by
  pointwise [val_main_v97, val_main_v96, val_main_v95, val_main_v94, val_main_v93, val_main_v92, val_main_v91, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst, val_main_v22, val_main_cst_13]
  simp only [v14_cell]
  rw [if_neg fun h => h rfl]
  rfl

/-! ## The results, at rows and columns -/

open Cert.InProjIdeal.Tile (prow query keys loggate col packed_gate packed_low packed_pool prow_proj prow_kv prow_gla prow_query)

/-- The reference's keys and values are the packed columns'. -/
theorem v38_prow (n : Fin 3) (u k : Fin 2) (d : Fin 64) (a : Fin 2560) (h : a.val = 512 + n.val * 256 + u.val * 128 + k.val * 64 + d.val) :
    val_main_v38 x0 x1 x2 (ix6 b s n u k d) = prow x0 x1 x2 b a := by
  rw [v38_cell]
  exact (prow_kv x0 x1 x2 _ ⟨n.val * 256 + u.val * 128 + k.val * 64 + d.val, by omega⟩ a (by rw [h]; dsimp only; omega)).symm

theorem slc_row (u k : Fin 2) (d : Fin 64) (j : Fin 256) (hj : j.val = u.val * 128 + k.val * 64 + d.val) :
    val_main_v62 x0 x1 x2 x4 (ix5 b s u k d) = keys x0 x1 x2 768 (by omega) (fun d => x4 (ix2 1 d)) b j := by
  rw [v62_cell, v57_cell]
  exact Cert.InProjIdeal.Tile.keys_stack x0 x1 x2 b 768 _ (fun u k d => val_main_v38 x0 x1 x2 (ix6 b s 1 u k d))
    (fun u k d a ha => v38_prow x0 x1 x2 b s 1 u k d a ha) (fun d => x4 (ix2 1 d)) u k d j hj

theorem win_row (u k : Fin 2) (d : Fin 64) (j : Fin 256) (hj : j.val = u.val * 128 + k.val * 64 + d.val) :
    val_main_v84 x0 x1 x2 x4 (ix5 b s u k d) = keys x0 x1 x2 1024 (by omega) (fun d => x4 (ix2 2 d)) b j := by
  rw [v84_cell, v79_cell]
  exact Cert.InProjIdeal.Tile.keys_stack x0 x1 x2 b 1024 _ (fun u k d => val_main_v38 x0 x1 x2 (ix6 b s 2 u k d))
    (fun u k d a ha => v38_prow x0 x1 x2 b s 2 u k d a ha) (fun d => x4 (ix2 2 d)) u k d j hj

variable (R : Fin 128)

theorem v102_cell (j : Fin 512) : val_main_v102 x0 x1 x2 x3 (ix2 R j) = query x0 x1 x2 x3 R j := by
  pointwise [val_main_v102, val_main_v101, val_main_v100]
  rw [v37_cell]
  exact congrArg (fun y => nrm y _ _) (funext fun e => (prow_query x0 x1 x2 R j e _ rfl).symm)

theorem v103_cell (j : Fin 256) : val_main_v103 x0 x1 x2 (ix2 R j) = prow x0 x1 x2 R (col 512 256 (by omega) j) := by
  pointwise [val_main_v103, val_main_v40, val_main_v39]
  rw [v38_prow x0 x1 x2 _ _ _ _ _ _ (col 512 256 (by omega) j)]
  simp only [col]
  show 512 + j.val = 512 + 0 * 256 + j.val / 128 * 128 + j.val / 64 % 2 * 64 + j.val % 64
  omega

theorem v104_cell (j : Fin 256) : val_main_v104 x0 x1 x2 x4 (ix2 R j)
    = keys x0 x1 x2 768 (by omega) (fun d => x4 (ix2 1 d)) R j := by
  pointwise [val_main_v104]
  rw [slc_row x0 x1 x2 x4 _ _ _ _ _ j (by dsimp only; omega)]

theorem v105_cell (j : Fin 256) : val_main_v105 x0 x1 x2 x4 (ix2 R j)
    = keys x0 x1 x2 1024 (by omega) (fun d => x4 (ix2 2 d)) R j := by
  pointwise [val_main_v105]
  rw [win_row x0 x1 x2 x4 _ _ _ _ _ j (by dsimp only; omega)]

theorem v106_cell (j : Fin 24) : val_main_v106 x0 x1 x2 (ix2 R j) = Ideal.logistic (prow x0 x1 x2 R ⟨1280 + j.val, by omega⟩) := by
  pointwise [val_main_v106]
  rw [v90_cell]
  exact congrArg Ideal.logistic (prow_proj x0 x1 x2 R _ _ fun k => packed_gate x2 k j).symm

theorem v107_cell (j : Fin 128) : val_main_v107 x0 x1 x2 (ix2 R j) = prow x0 x1 x2 R (col 1408 128 (by omega) j) := by
  pointwise [val_main_v107, val_main_v18]
  rw [v14_cell]
  exact (prow_gla x0 x1 x2 R ⟨0 + j.val, by omega⟩ _ _ (by simp only [col]; omega) (by dsimp only; omega)).symm

theorem v108_cell (j : Fin 128) : val_main_v108 x0 x1 x2 (ix2 R j) = prow x0 x1 x2 R (col 1536 128 (by omega) j) := by
  pointwise [val_main_v108, val_main_v19]
  rw [v14_cell]
  exact (prow_gla x0 x1 x2 R ⟨128 + j.val, by omega⟩ _ _ (by simp only [col]; omega) (by dsimp only; omega)).symm

theorem v109_cell (j : Fin 256) : val_main_v109 x0 x1 x2 (ix2 R j) = prow x0 x1 x2 R (col 1664 256 (by omega) j) := by
  pointwise [val_main_v109, val_main_v20]
  rw [v14_cell]
  exact (prow_gla x0 x1 x2 R ⟨256 + j.val, by omega⟩ _ _ (by simp only [col]; omega) (by dsimp only; omega)).symm

theorem v110_cell (j : Fin 256) : val_main_v110 x0 x1 x2 (ix2 R j) = prow x0 x1 x2 R (col 1920 256 (by omega) j) := by
  pointwise [val_main_v110, val_main_v21]
  rw [v14_cell]
  exact (prow_gla x0 x1 x2 R ⟨512 + j.val, by omega⟩ _ _ (by simp only [col]; omega) (by dsimp only; omega)).symm

theorem v111_cell (l : Fin 128) : val_main_v111 x0 x1 x2 x5 x6 (ix2 R l) = loggate x0 x1 x2 x5 x6 R l := by
  pointwise [val_main_v111]
  rw [v97_cell]
  refine congrArg (fun z : EReal => Ideal.div (logsig (z + _)) _) (Finset.sum_congr rfl fun a _ => congrArg (· * x5 (ix2 a l)) ?_)
  exact (prow_proj x0 x1 x2 R _ _ fun k => packed_low x2 k a).symm

theorem v112_cell (j : Fin 256) : val_main_v112 x0 x1 x2 (ix2 R j) = prow x0 x1 x2 R (col 2304 256 (by omega) j) := by
  pointwise [val_main_v112, val_main_v23]
  rw [v14_cell]
  exact (prow_proj x0 x1 x2 R _ _ fun k => packed_pool x2 k j).symm

/-- The pool's state: the kept inputs but the first, and the new one. -/
theorem v99_cell (x7 : (⟨S128x15x256, .f32⟩ : BufTy).Contents (Elt Ideal)) (s : Fin 15) (j : Fin 256) : val_main_v99 x0 x1 x2 x7 (ix3 b s j)
    = if h : 1 + s.val < 15 then x7 (ix3 b ⟨1 + s.val, h⟩ j) else prow x0 x1 x2 b (col 2304 256 (by omega) j) := by
  pointwise [val_main_v99, val_main_v98, val_main_v23]
  simp only [v14_cell]
  rw [prow_proj x0 x1 x2 b (col 2304 256 (by omega) j) _ fun k => packed_pool x2 k j]
  done

end Cert.InStepRefIdeal.Tile
end
-- ==== Proof.InStepClaim.lean ====
module

public import proofs.«01_k».proof.Defs
public import proofs.«01_k».proof.Proof.Gen.InStep.Frame
public import proofs.«01_k».proof.Proof.InStepRef

@[expose] public section

set_option maxRecDepth 16384

noncomputable section

namespace Cert.InStepIdeal.Tile

open Idealize.ShloMosaic Idealize.ShloMosaic.TcCoe Idealize.SL.Sem Cert.InStepIdeal Cert.InStepIdeal.Gen
open Cert.InProjIdeal.Tile (prow query keys loggate col)

/-- The pool's state: the kept inputs `x` but the first, and the new ones `f`. -/
def shifted (x : FVec Ideal S128x15x256 .f32) (f : Fin 128 → Fin 256 → EReal) (b : Fin 128) (s : Fin 15) (j : Fin 256) : EReal :=
  if h : 1 + s.val < 15 then x (ix3 b ⟨1 + s.val, h⟩ j) else f b j

theorem pool_shift (x : FVec Ideal S128x15x256 .f32) (f : Fin 128 → Fin 256 → EReal) :
    concatenate S128x15x256 1 [⟨S128x14x256, extractStridedSlice S128x14x256 ![0, 1, 0] x slices_S128x15x256_S128x14x256_0_1_0⟩,
      ⟨S128x1x256, broadcastInDim S128x1x256 ![0, 2] bcast_S128x256_S128x1x256_0_2 (fun j => f (j 0) (j 1) : FVec Ideal S128x256 .f32)⟩]
      concatenates_S128x14x256_S128x1x256_S128x15x256_d1 = fun j => shifted x f (j 0) (j 1) (j 2) := by
  funext j
  obtain ⟨b, s, j, rfl⟩ : ∃ a b d, j = ix3 a b d := ⟨j 0, j 1, j 2, by idx_ext⟩
  show _ = shifted x f b s j
  unfold shifted
  pointwise
  by_cases h : s.val < 14
  · rw [dif_pos (by omega), dif_pos (by omega)]
  · rw [dif_neg (by omega), dif_neg (by omega)]

theorem gate_first (f : Fin 128 → Fin 128 → EReal) : extractStridedSlice S128x24 ![0, 0]
    (fun j => f (j 0) (j 1) : FVec Ideal S128x128 .f32)
    slices_S128x128_S128x24_0_0 = fun j => f (j 0) ⟨(j 1).val, by have h : (j 1).val < 24 := (j 1).isLt; omega⟩ := by
  funext j
  pointwise

variable (m : (ℓ : Loc nD τ sig) → Buf (Elt Ideal) ℓ) (c : Dev nD)

theorem arr (w : Fin 20) : Pipeline.withArrays spec0 c (V0 m c) (fun w => (dats m 0 c).arrAt w cfg0.N) (Proc.devRef .tc (Pipeline.arrRef spec0 w))
    = (dats m 0 c).arrAt w cfg0.N :=
  Pipeline.withArrays_arr_shared spec0 c (V0 m c) (fun w => (dats m 0 c).arrAt w cfg0.N)
    (fun w w' hne e => absurd e ((by decide : ∀ w w' : Fin 20, w ≠ w' → Pipeline.arrRef spec0 w ≠ Pipeline.arrRef spec0 w') w w' hne)) w

theorem tail_v31 : Pipeline.afterTail₀ cfgs (dats m) 0 (V0 m) [hostOps1] c main_v31
    = fun j => Ideal.logistic (prow (m ((c : Thread nD τ).loc main_arg0)) (m ((c : Thread nD τ).loc main_arg1)) (m ((c : Thread nD τ).loc main_arg2)) (j 0) (col 1280 24 (by omega) (j 1))) := by
  unfold Pipeline.afterTail₀
  show StableHlo.after hostOps1 _ (Proc.tc.devRef main_v31) = _
  after_results
  generalize hX : Pipeline.withArrays _ c (V0 m c) _ (Proc.tc.devRef main_v27_4) = X
  have hx := hX.symm.trans ((arr m c 11).trans (final11 m c))
  subst hx
  exact gate_first fun i j => Ideal.logistic (prow (m ((c : Thread nD τ).loc main_arg0)) (m ((c : Thread nD τ).loc main_arg1)) (m ((c : Thread nD τ).loc main_arg2)) i (col 1280 128 (by omega) j))

theorem tail_v30 : Pipeline.afterTail₀ cfgs (dats m) 0 (V0 m) [hostOps1] c main_v30
    = fun j => shifted (m ((c : Thread nD τ).loc main_arg7)) (fun i j => prow (m ((c : Thread nD τ).loc main_arg0)) (m ((c : Thread nD τ).loc main_arg1)) (m ((c : Thread nD τ).loc main_arg2)) i (col 2304 256 (by omega) j)) (j 0) (j 1) (j 2) := by
  unfold Pipeline.afterTail₀
  show StableHlo.after hostOps1 _ (Proc.tc.devRef main_v30) = _
  after_results
  generalize hX : Pipeline.withArrays _ c (V0 m c) _ (Proc.tc.devRef main_v27_10) = X
  have hx := hX.symm.trans ((arr m c 17).trans (final17 m c))
  subst hx
  rw [(Pipeline.withArrays_of_ne _ c (V0 m c) _ main_arg7 (by exact (by decide : ∀ w, Pipeline.arrRef spec0 w ≠ main_arg7))).trans (V_main_arg7 m c)]
  exact pool_shift (m ((c : Thread nD τ).loc main_arg7)) fun i j => prow (m ((c : Thread nD τ).loc main_arg0)) (m ((c : Thread nD τ).loc main_arg1)) (m ((c : Thread nD τ).loc main_arg2)) i (col 2304 256 (by omega) j)

set_option maxHeartbeats 2000000 in
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v27_0) = (fun j => query (m ((c : Thread nD τ).loc main_arg0)) (m ((c : Thread nD τ).loc main_arg1)) (m ((c : Thread nD τ).loc main_arg2)) (m ((c : Thread nD τ).loc main_arg3)) (j 0) (j 1))
      ∧ r.2.mem ((c.tc : Thread nD τ).loc main_v27_1) = (fun j => prow (m ((c : Thread nD τ).loc main_arg0)) (m ((c : Thread nD τ).loc main_arg1)) (m ((c : Thread nD τ).loc main_arg2)) (j 0) (col 512 256 (by omega) (j 1)))
      ∧ r.2.mem ((c.tc : Thread nD τ).loc main_v27_2) = (fun j => keys (m ((c : Thread nD τ).loc main_arg0)) (m ((c : Thread nD τ).loc main_arg1)) (m ((c : Thread nD τ).loc main_arg2)) 768 (by omega) (fun d => (m ((c : Thread nD τ).loc main_arg4)) (ix2 1 d)) (j 0) (j 1))
      ∧ r.2.mem ((c.tc : Thread nD τ).loc main_v27_3) = (fun j => keys (m ((c : Thread nD τ).loc main_arg0)) (m ((c : Thread nD τ).loc main_arg1)) (m ((c : Thread nD τ).loc main_arg2)) 1024 (by omega) (fun d => (m ((c : Thread nD τ).loc main_arg4)) (ix2 2 d)) (j 0) (j 1))
      ∧ r.2.mem ((c.tc : Thread nD τ).loc main_v31) = (fun j => Ideal.logistic (prow (m ((c : Thread nD τ).loc main_arg0)) (m ((c : Thread nD τ).loc main_arg1)) (m ((c : Thread nD τ).loc main_arg2)) (j 0) (col 1280 24 (by omega) (j 1))))
      ∧ r.2.mem ((c.tc : Thread nD τ).loc main_v27_5) = (fun j => prow (m ((c : Thread nD τ).loc main_arg0)) (m ((c : Thread nD τ).loc main_arg1)) (m ((c : Thread nD τ).loc main_arg2)) (j 0) (col 1408 128 (by omega) (j 1)))
      ∧ r.2.mem ((c.tc : Thread nD τ).loc main_v27_6) = (fun j => prow (m ((c : Thread nD τ).loc main_arg0)) (m ((c : Thread nD τ).loc main_arg1)) (m ((c : Thread nD τ).loc main_arg2)) (j 0) (col 1536 128 (by omega) (j 1)))
      ∧ r.2.mem ((c.tc : Thread nD τ).loc main_v27_7) = (fun j => prow (m ((c : Thread nD τ).loc main_arg0)) (m ((c : Thread nD τ).loc main_arg1)) (m ((c : Thread nD τ).loc main_arg2)) (j 0) (col 1664 256 (by omega) (j 1)))
      ∧ r.2.mem ((c.tc : Thread nD τ).loc main_v27_8) = (fun j => prow (m ((c : Thread nD τ).loc main_arg0)) (m ((c : Thread nD τ).loc main_arg1)) (m ((c : Thread nD τ).loc main_arg2)) (j 0) (col 1920 256 (by omega) (j 1)))
      ∧ r.2.mem ((c.tc : Thread nD τ).loc main_v27_9) = (fun j => loggate (m ((c : Thread nD τ).loc main_arg0)) (m ((c : Thread nD τ).loc main_arg1)) (m ((c : Thread nD τ).loc main_arg2)) (m ((c : Thread nD τ).loc main_arg5)) (m ((c : Thread nD τ).loc main_arg6)) (j 0) (j 1))
      ∧ r.2.mem ((c.tc : Thread nD τ).loc main_v27_10) = (fun j => prow (m ((c : Thread nD τ).loc main_arg0)) (m ((c : Thread nD τ).loc main_arg1)) (m ((c : Thread nD τ).loc main_arg2)) (j 0) (col 2304 256 (by omega) (j 1)))
      ∧ r.2.mem ((c.tc : Thread nD τ).loc main_v30) = (fun j => shifted (m ((c : Thread nD τ).loc main_arg7)) (fun i j => prow (m ((c : Thread nD τ).loc main_arg0)) (m ((c : Thread nD τ).loc main_arg1)) (m ((c : Thread nD τ).loc main_arg2)) i (col 2304 256 (by omega) j)) (j 0) (j 1) (j 2))) :=
  (θ_run defs _ _).mono (fun _ h c => by
    obtain ⟨ha, hr⟩ := h c
    refine ⟨?_, ?_, ?_, ?_, ?_, ?_, ?_, ?_, ?_, ?_, ?_, ?_⟩
    · exact (ha 7).trans (final7 m c)
    · exact (ha 8).trans (final8 m c)
    · exact (ha 9).trans (final9 m c)
    · exact (ha 10).trans (final10 m c)
    · exact (hr main_v31 (Pipeline.mem_restRefs_of main_v31 (by decide) (by decide))).trans (tail_v31 m c)
    · exact (ha 12).trans (final12 m c)
    · exact (ha 13).trans (final13 m c)
    · exact (ha 14).trans (final14 m c)
    · exact (ha 15).trans (final15 m c)
    · exact (ha 16).trans (final16 m c)
    · exact (ha 17).trans (final17 m c)
    · exact (hr main_v30 (Pipeline.mem_restRefs_of main_v30 (by decide) (by decide))).trans (tail_v30 m c)
    ) (run_main m ρ)

end Cert.InStepIdeal.Tile

namespace Cert.InStepIdeal.Claims

open Idealize.ShloMosaic Idealize.ShloMosaic.TcCoe Idealize.SL.Sem Cert.InStepIdeal

theorem frame_kernel : Cert.quiescent_InStep := fun m ρ _ => Cert.InStep.Gen.frame m ρ
theorem frame_ideal : Cert.quiescent_InStepIdeal := fun m ρ _ => Cert.InStepIdeal.Gen.frame m ρ

theorem frame_reference : Cert.quiescent_InStepRefIdeal := fun m ρ _ =>
  (θ_run Cert.InStepRefIdeal.defs _ _).mono (fun r h => ⟨fun c => (h c).2.2.2.2.2.2.2.2.2.2.2.2, sem_eq_zero_of_no_sems (by decide) r.2⟩)
    (Cert.InStepRefIdeal.Value.run (F := Ideal) m ρ)
theorem preserves : Cert.preserves_InStep_InStepIdeal := trivial

theorem algebraic : Cert.algebraic_InStepIdeal_InStepRefIdeal := by
  intro m g m' g' _ hargs
  refine ⟨_, _, _, _, _, _, _, _, _, _, _, _, (θ_run Cert.InStepIdeal.defs _ _).mono (fun r h c =>
    ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2, h.2 c⟩)
    (θ_run_and (Cert.InStepIdeal.Tile.run_value m g) (Cert.InStepIdeal.Gen.unchanged m g)), ?_⟩
  refine (θ_run Cert.InStepRefIdeal.defs _ _).mono (fun r h c => ?_) (Cert.InStepRefIdeal.Value.run (F := Ideal) m' g')
  obtain ⟨h0, h1, h2, h3, h4, h5, h6, h7, h8, h9, h10, h11, hrest⟩ := h c
  obtain ⟨e0, e1, e2, e3, e4, e5, e6, e7⟩ := hargs c
  refine ⟨?_, ?_, ?_, ?_, ?_, ?_, ?_, ?_, ?_, ?_, ?_, ?_, hrest⟩
  · rw [h0, Cert.InStepRefIdeal.Read.val_main_v102_eq, e0, e1, e2, e3]
    funext j
    obtain ⟨a, b, rfl⟩ : ∃ a b, j = ix2 a b := ⟨j 0, j 1, by idx_ext⟩
    exact Cert.InStepRefIdeal.Tile.v102_cell _ _ _ _ a b
  · rw [h1, Cert.InStepRefIdeal.Read.val_main_v103_eq, e0, e1, e2]
    funext j
    obtain ⟨a, b, rfl⟩ : ∃ a b, j = ix2 a b := ⟨j 0, j 1, by idx_ext⟩
    exact Cert.InStepRefIdeal.Tile.v103_cell _ _ _ a b
  · rw [h2, Cert.InStepRefIdeal.Read.val_main_v104_eq, e0, e1, e2, e4]
    funext j
    obtain ⟨a, b, rfl⟩ : ∃ a b, j = ix2 a b := ⟨j 0, j 1, by idx_ext⟩
    exact Cert.InStepRefIdeal.Tile.v104_cell _ _ _ _ a b
  · rw [h3, Cert.InStepRefIdeal.Read.val_main_v105_eq, e0, e1, e2, e4]
    funext j
    obtain ⟨a, b, rfl⟩ : ∃ a b, j = ix2 a b := ⟨j 0, j 1, by idx_ext⟩
    exact Cert.InStepRefIdeal.Tile.v105_cell _ _ _ _ a b
  · rw [h4, Cert.InStepRefIdeal.Read.val_main_v106_eq, e0, e1, e2]
    funext j
    obtain ⟨a, b, rfl⟩ : ∃ a b, j = ix2 a b := ⟨j 0, j 1, by idx_ext⟩
    exact Cert.InStepRefIdeal.Tile.v106_cell _ _ _ a b
  · rw [h5, Cert.InStepRefIdeal.Read.val_main_v107_eq, e0, e1, e2]
    funext j
    obtain ⟨a, b, rfl⟩ : ∃ a b, j = ix2 a b := ⟨j 0, j 1, by idx_ext⟩
    exact Cert.InStepRefIdeal.Tile.v107_cell _ _ _ a b
  · rw [h6, Cert.InStepRefIdeal.Read.val_main_v108_eq, e0, e1, e2]
    funext j
    obtain ⟨a, b, rfl⟩ : ∃ a b, j = ix2 a b := ⟨j 0, j 1, by idx_ext⟩
    exact Cert.InStepRefIdeal.Tile.v108_cell _ _ _ a b
  · rw [h7, Cert.InStepRefIdeal.Read.val_main_v109_eq, e0, e1, e2]
    funext j
    obtain ⟨a, b, rfl⟩ : ∃ a b, j = ix2 a b := ⟨j 0, j 1, by idx_ext⟩
    exact Cert.InStepRefIdeal.Tile.v109_cell _ _ _ a b
  · rw [h8, Cert.InStepRefIdeal.Read.val_main_v110_eq, e0, e1, e2]
    funext j
    obtain ⟨a, b, rfl⟩ : ∃ a b, j = ix2 a b := ⟨j 0, j 1, by idx_ext⟩
    exact Cert.InStepRefIdeal.Tile.v110_cell _ _ _ a b
  · rw [h9, Cert.InStepRefIdeal.Read.val_main_v111_eq, e0, e1, e2, e5, e6]
    funext j
    obtain ⟨a, b, rfl⟩ : ∃ a b, j = ix2 a b := ⟨j 0, j 1, by idx_ext⟩
    exact Cert.InStepRefIdeal.Tile.v111_cell _ _ _ _ _ a b
  · rw [h10, Cert.InStepRefIdeal.Read.val_main_v112_eq, e0, e1, e2]
    funext j
    obtain ⟨a, b, rfl⟩ : ∃ a b, j = ix2 a b := ⟨j 0, j 1, by idx_ext⟩
    exact Cert.InStepRefIdeal.Tile.v112_cell _ _ _ a b
  · rw [h11, Cert.InStepRefIdeal.Read.val_main_v99_eq, e0, e1, e2, e7]
    funext j
    obtain ⟨a, b, d, rfl⟩ : ∃ a b d, j = ix3 a b d := ⟨j 0, j 1, j 2, by idx_ext⟩
    exact Cert.InStepRefIdeal.Tile.v99_cell _ _ _ a _ b d

end Cert.InStepIdeal.Claims
end
-- ==== Proof.OutProjTile.lean ====
module

public import proofs.«01_k».proof.Proof.Gen.OutProjIdeal.Frame
public import Idealize.ShloMosaic.Lib.Pointwise
public import Idealize.ShloMosaic.Lib.Pipeline.ValueKit
public import Idealize.ShloMosaic.Lib.Claim

@[expose] public section

set_option maxRecDepth 16384

noncomputable section

namespace Cert.OutProjIdeal.Tile

open Idealize.ShloMosaic Idealize.ShloMosaic.TcCoe Cert.OutProjIdeal Cert.OutProjIdeal.Gen

/-! ## The heads' order -/

theorem head_order (h g d : Nat) (hg : g < 4) (hd : d < 64) :
    (h * 256 + g * 64 + d) / 64 % 4 = g ∧ (h * 256 + g * 64 + d) / 256 = h ∧ (h * 256 + g * 64 + d) % 64 = d := by omega

theorem pair_order (g h d : Nat) (hh : h < 2) (hd : d < 64) :
    (g * 128 + h * 64 + d) / 64 % 2 = h ∧ (g * 128 + h * 64 + d) / 128 = g ∧ (g * 128 + h * 64 + d) % 64 = d := by omega

/-- From the place of a lane in pair order to its place in head order. -/
def heads : Fin 512 ≃ Fin 512 where
  toFun c := ⟨c.val / 64 % 2 * 256 + c.val / 128 * 64 + c.val % 64, by omega⟩
  invFun k := ⟨k.val / 64 % 4 * 128 + k.val / 256 * 64 + k.val % 64, by omega⟩
  left_inv c := Fin.ext (by
    obtain ⟨e1, e2, e3⟩ := head_order (c.val / 64 % 2) (c.val / 128) (c.val % 64) (by omega) (by omega)
    dsimp only
    rw [e1, e2, e3]
    omega)
  right_inv k := Fin.ext (by
    obtain ⟨e1, e2, e3⟩ := pair_order (k.val / 64 % 4) (k.val / 256) (k.val % 64) (by omega) (by omega)
    dsimp only
    rw [e1, e2, e3]
    omega)

theorem heads_symm_val (k : Fin 512) : (heads.symm k).val = k.val / 64 % 4 * 128 + k.val / 256 * 64 + k.val % 64 := rfl

/-- A sum over the joined width, group by group, the first in pair order. -/
theorem sum_parts (f : Fin 1024 → EReal) : ∑ k, f k = ((∑ c : Fin 512, f ⟨(heads c).val, by omega⟩)
    + ∑ c : Fin 256, f ⟨512 + c.val, by omega⟩) + ∑ c : Fin 256, f ⟨768 + c.val, by omega⟩ := by
  refine (Fin.sum_univ_add (a := 512 + 256) (b := 256) f).trans (congrArg (· + _) ?_)
  refine (Fin.sum_univ_add (a := 512) (b := 256) fun i => f (Fin.castAdd 256 i)).trans (congrArg (· + _) ?_)
  exact (Equiv.sum_comp heads fun c : Fin 512 => f ⟨c.val, by omega⟩).symm

/-- The packed weight: the first group's rows in pair order. -/
def packed (w : FVec Ideal S1024x1024 .f32) : FVec Ideal S1024x1024 .bf16 :=
  truncf .bf16 (concatenate S1024x1024 0
    [⟨S512x1024, shapeCast S512x1024 (transpose S4x2x64x1024 [1, 0, 2, 3] (shapeCast S2x4x64x1024
        (extractStridedSlice S512x1024 ![0, 0] w slices_S1024x1024_S512x1024_0_0) shapeCasts_S512x1024_S2x4x64x1024)
        transposes_S2x4x64x1024_S4x2x64x1024_1_0_2_3) shapeCasts_S4x2x64x1024_S512x1024⟩,
     ⟨S512x1024, extractStridedSlice S512x1024 ![512, 0] w slices_S1024x1024_S512x1024_512_0⟩]
    concatenates_S512x1024_S512x1024_S1024x1024_d0) bitsLt_bf16_f32

theorem packed_first (w : FVec Ideal S1024x1024 .f32) (k : Fin 512) (j : Fin 1024) :
    packed w (ix2 ⟨k.val, by omega⟩ j) = w (ix2 ⟨(heads k).val, by omega⟩ j) := by
  pointwise [packed]
  exact congrArg (fun n => w (ix2 n j)) (Fin.ext rfl)

theorem packed_rest (w : FVec Ideal S1024x1024 .f32) (k : Fin 512) (j : Fin 1024) :
    packed w (ix2 ⟨512 + k.val, by omega⟩ j) = w (ix2 ⟨512 + k.val, by omega⟩ j) := by
  pointwise [packed]
  done

/-! ## The layer's functions of its arrays -/

section Spec

variable (a : S16384x512.Idx → EReal) (b d : S16384x256.Idx → EReal) (x : S16384x1024.Idx → EReal) (w : S1024x1024.Idx → EReal)
  (q : EReal) (R : Fin 16384) (j : Fin 1024)

/-- The three groups' outputs through the output weight, and the residual. -/
def mixed : EReal := x (ix2 R j) + (((∑ c : Fin 512, a (ix2 R c) * w (ix2 ⟨(heads c).val, by omega⟩ j))
  + ∑ c : Fin 256, b (ix2 R c) * w (ix2 ⟨512 + c.val, by omega⟩ j)) + ∑ c : Fin 256, d (ix2 R c) * w (ix2 ⟨768 + c.val, by omega⟩ j))

/-- A row normed, with its gain. -/
def normed (y : Fin 1024 → EReal) : EReal :=
  y j * Ideal.rsqrt (Ideal.div (∑ e : Fin 1024, y e * y e) (Ideal.ofBits FTy.f32 0x44800000#32)
    + Ideal.ofBits FTy.f32 0x358637BD#32) * q

end Spec

/-! ## The blocks at coordinates -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem V_v6 : V m c main_v6 = packed (m ((c : Thread nD τ).loc main_arg4)) := by
  show StableHlo.after hostOps0 (fun b => m (c, b)) (Proc.tc.devRef main_v6) = _
  after_results
  rfl
theorem V_v7 : V m c main_v7 = broadcastInDim S1x1024 ![1] bcast_S1024_S1x1024_1 (m ((c : Thread nD τ).loc main_arg5)) := by
  show StableHlo.after hostOps0 (fun b => m (c, b)) (Proc.tc.devRef main_v7) = _
  after_results

variable (t : Fin cfg0.N)

/-- The row of the whole array that row `r` of tile `t` is. -/
def row (r : Fin 512) : Fin 16384 := ⟨t.val * 512 + r.val, by have h : t.val < 32 := t.isLt; omega⟩

theorem blk0 (r : Fin 512) (k : Fin 512) : iblk m c 0 t (ix2 r k) = m ((c : Thread nD τ).loc main_arg0) (ix2 (row t r) k) := by
  blk_ext! [iblk, row, V_main_arg0, idx0 t]
theorem blk1 (r : Fin 512) (k : Fin 256) : iblk m c 1 t (ix2 r k) = m ((c : Thread nD τ).loc main_arg1) (ix2 (row t r) k) := by
  blk_ext! [iblk, row, V_main_arg1, idx1 t]
theorem blk2 (r : Fin 512) (k : Fin 256) : iblk m c 2 t (ix2 r k) = m ((c : Thread nD τ).loc main_arg2) (ix2 (row t r) k) := by
  blk_ext! [iblk, row, V_main_arg2, idx2 t]
theorem blk3 (r : Fin 512) (k : Fin 1024) : iblk m c 3 t (ix2 r k) = m ((c : Thread nD τ).loc main_arg3) (ix2 (row t r) k) := by
  blk_ext! [iblk, row, V_main_arg3, idx3 t]
theorem blk4 (k j : Fin 1024) : iblk m c 4 t (ix2 k j) = packed (m ((c : Thread nD τ).loc main_arg4)) (ix2 k j) := by
  have e : iblk m c 4 t (ix2 k j) = V m c main_v6 (ix2 k j) := by blk_ext! [iblk, idx4 t]
  rw [e, V_v6]
theorem blk5 (k : Fin 1024) : iblk m c 5 t (ix2 0 k) = m ((c : Thread nD τ).loc main_arg5) (ix1 k) := by
  have e : iblk m c 5 t (ix2 0 k) = V m c main_v7 (ix2 0 k) := by blk_ext! [iblk, idx5 t]
  rw [e, V_v7]; pointwise

theorem ld0 (X : Vec Ideal S512x512 .bf16) : View.ld X r0_0 = X := View.ld_unit_lit _ X (by decide)
theorem ld2 (X : Vec Ideal S512x256 .bf16) : View.ld X r0_2 = X := View.ld_unit_lit _ X (by decide)
theorem ld5 (X : Vec Ideal S512x1024 .f32) : View.ld X r0_5 = X := View.ld_unit_lit _ X (by decide)
theorem ld6 (X : Vec Ideal S1x1024 .f32) : View.ld X r0_6 = X := View.ld_unit_lit _ X (by decide)

theorem ldw1 (k : Fin 512) (j : Fin 1024) : View.ld (iblk m c 4 t) r0_1 (ix2 k j)
    = m ((c : Thread nD τ).loc main_arg4) (ix2 ⟨(heads k).val, by omega⟩ j) :=
  ((show _ = iblk m c 4 t (ix2 ⟨k.val, by omega⟩ j) by pointwise).trans (blk4 m c t _ j)).trans (packed_first _ k j)
theorem ldw3 (k : Fin 256) (j : Fin 1024) : View.ld (iblk m c 4 t) r0_3 (ix2 k j)
    = m ((c : Thread nD τ).loc main_arg4) (ix2 ⟨512 + k.val, by omega⟩ j) :=
  ((show _ = iblk m c 4 t (ix2 ⟨512 + k.val, by omega⟩ j) by pointwise).trans (blk4 m c t _ j)).trans (packed_rest _ ⟨k.val, by omega⟩ j)
theorem ldw4 (k : Fin 256) (j : Fin 1024) : View.ld (iblk m c 4 t) r0_4 (ix2 k j)
    = m ((c : Thread nD τ).loc main_arg4) (ix2 ⟨768 + k.val, by omega⟩ j) := by
  refine ((show _ = iblk m c 4 t (ix2 ⟨768 + k.val, by omega⟩ j) by pointwise).trans (blk4 m c t _ j)).trans ?_
  have e : (⟨768 + k.val, by omega⟩ : Fin 1024) = ⟨512 + (⟨256 + k.val, by omega⟩ : Fin 512).val, by omega⟩ :=
    Fin.ext (show 768 + k.val = 512 + (256 + k.val) by omega)
  rw [e]
  exact packed_rest _ ⟨256 + k.val, by omega⟩ j

/-! ## The body's values at coordinates -/

variable (r : Fin 512) (j : Fin 1024)

theorem mix_cell (a : Vec Ideal S512x512 .bf16) (w : Vec Ideal S512x1024 .bf16) (b : Vec Ideal S512x256 .bf16) (v : Vec Ideal S256x1024 .bf16)
    (d : Vec Ideal S512x256 .bf16) (u : Vec Ideal S256x1024 .bf16) (x : Vec Ideal S512x1024 .f32) :
    k0_pay1 a w b v d u x (ix2 r j) = x (ix2 r j) + (((∑ c : Fin 512, a (ix2 r c) * w (ix2 c j)) + ∑ c : Fin 256, b (ix2 r c) * v (ix2 c j))
      + ∑ c : Fin 256, d (ix2 r c) * u (ix2 c j)) := by
  pointwise [k0_pay1]

theorem norm_cell (a : Vec Ideal S512x512 .bf16) (w : Vec Ideal S512x1024 .bf16) (b : Vec Ideal S512x256 .bf16) (v : Vec Ideal S256x1024 .bf16)
    (d : Vec Ideal S512x256 .bf16) (u : Vec Ideal S256x1024 .bf16) (x : Vec Ideal S512x1024 .f32) (g : Vec Ideal S1x1024 .f32) :
    k0_pay2 a w b v d u x g (ix2 r j) = normed (g (ix2 0 j)) j fun e => k0_pay1 a w b v d u x (ix2 r e) := by
  unfold normed
  pointwise [k0_pay2]

/-- The residual tile. -/
theorem mix_row : k0_pay1 (View.ld (iblk m c 0 t) r0_0) (View.ld (iblk m c 4 t) r0_1) (View.ld (iblk m c 1 t) r0_2) (View.ld (iblk m c 4 t) r0_3)
      (View.ld (iblk m c 2 t) r0_2) (View.ld (iblk m c 4 t) r0_4) (View.ld (iblk m c 3 t) r0_5) (ix2 r j)
    = mixed (m ((c : Thread nD τ).loc main_arg0)) (m ((c : Thread nD τ).loc main_arg1)) (m ((c : Thread nD τ).loc main_arg2)) (m ((c : Thread nD τ).loc main_arg3))
        (m ((c : Thread nD τ).loc main_arg4)) (row t r) j := by
  rw [mix_cell, ld0, ld2, ld2, ld5]
  simp only [ldw1, ldw3, ldw4, blk0, blk1, blk2, blk3]
  rfl

theorem gain : View.ld (iblk m c 5 t) r0_6 (ix2 0 j) = m ((c : Thread nD τ).loc main_arg5) (ix1 j) := by rw [ld6, blk5]

/-! ## The results after the last step -/

theorem final6 : (dats m 0 c).arrAt 6 cfg0.N = fun j => mixed (m ((c : Thread nD τ).loc main_arg0)) (m ((c : Thread nD τ).loc main_arg1))
    (m ((c : Thread nD τ).loc main_arg2)) (m ((c : Thread nD τ).loc main_arg3)) (m ((c : Thread nD τ).loc main_arg4)) (j 0) (j 1) := by
  refine (dats m 0 c).arrAt_eq_of_covers 6 _ (by decide +kernel) fun t hf y => ?_
  blk_simp
  rw [after0_6]
  unfold out0_6
  have e : (win0_6.blk t).view.emb y = ix2 (row t (y 0)) (y 1) := by
    blk_ext [row, idx6 t]
  canon_tiles x h using cover0_6 ..
  obtain ⟨r, l, rfl⟩ : ∃ r l, x = ix2 r l := ⟨x 0, x 1, by idx_ext⟩
  rw [e, show y 0 = r from Fin.ext h0, show y 1 = l from Fin.ext h1]
  exact mix_row m c t r l

theorem final7 : (dats m 0 c).arrAt 7 cfg0.N = fun j => normed (m ((c : Thread nD τ).loc main_arg5) (ix1 (j 1))) (j 1) fun e => mixed (m ((c : Thread nD τ).loc main_arg0))
    (m ((c : Thread nD τ).loc main_arg1)) (m ((c : Thread nD τ).loc main_arg2)) (m ((c : Thread nD τ).loc main_arg3)) (m ((c : Thread nD τ).loc main_arg4)) (j 0) e := by
  refine (dats m 0 c).arrAt_eq_of_covers 7 _ (by decide +kernel) fun t hf y => ?_
  blk_simp
  rw [after0_7]
  unfold out0_7
  have e : (win0_7.blk t).view.emb y = ix2 (row t (y 0)) (y 1) := by
    blk_ext [row, idx7 t]
  canon_tiles x h using cover0_7 ..
  obtain ⟨r, l, rfl⟩ : ∃ r l, x = ix2 r l := ⟨x 0, x 1, by idx_ext⟩
  rw [e, show y 0 = r from Fin.ext h0, show y 1 = l from Fin.ext h1]
  refine (norm_cell r l _ _ _ _ _ _ _ _).trans ?_
  exact congrArg₂ (fun q y => normed q l y) (gain m c t l) (funext fun e => mix_row m c t r e)

end Cert.OutProjIdeal.Tile
end
-- ==== Proof.OutProjRef.lean ====
module

public import proofs.«01_k».proof.Proof.OutProjTile
public import proofs.«01_k».proof.Proof.Gen.OutProjRefIdeal.Read

@[expose] public section

set_option maxRecDepth 16384

noncomputable section

namespace Cert.OutProjRefIdeal.Tile

open Idealize.ShloMosaic Idealize.ShloMosaic.TcCoe Cert.OutProjRefIdeal Cert.OutProjRefIdeal.Read
open Cert.OutProjIdeal.Tile (heads sum_parts mixed normed)

variable (x0 : (⟨S16384x512, .bf16⟩ : BufTy).Contents (Elt Ideal)) (x1 x2 : (⟨S16384x256, .bf16⟩ : BufTy).Contents (Elt Ideal))
  (x3 : (⟨S16384x1024, .f32⟩ : BufTy).Contents (Elt Ideal)) (x4 : (⟨S1024x1024, .f32⟩ : BufTy).Contents (Elt Ideal))
  (x5 : (⟨S1024, .f32⟩ : BufTy).Contents (Elt Ideal)) (R : Fin 16384) (j : Fin 1024)

theorem v3_cell (k : Fin 512) : val_main_v3 x0 (ix2 R k) = x0 (ix2 R (heads.symm k)) := by
  pointwise [val_main_v3, val_main_v2, val_main_v1, val_main_v0]
  exact congrArg (fun n => x0 (ix2 R n)) (Fin.ext rfl)

theorem v6_heads (q : Fin 512) : val_main_v6 x0 x1 x2 (ix2 R ⟨q.val, by omega⟩) = val_main_v3 x0 (ix2 R q) := by
  pointwise [val_main_v6]

theorem v6_first (k : Fin 512) : val_main_v6 x0 x1 x2 (ix2 R ⟨(heads k).val, by omega⟩) = x0 (ix2 R k) := by
  rw [v6_heads, v3_cell, Equiv.symm_apply_apply]

theorem v6_second (k : Fin 256) : val_main_v6 x0 x1 x2 (ix2 R ⟨512 + k.val, by omega⟩) = x1 (ix2 R k) := by
  pointwise [val_main_v6, val_main_v4]

theorem v6_third (k : Fin 256) : val_main_v6 x0 x1 x2 (ix2 R ⟨768 + k.val, by omega⟩) = x2 (ix2 R k) := by
  pointwise [val_main_v6, val_main_v5]
  rw [dif_neg (by omega), dif_neg (by omega)]
  exact congrArg (fun n => x2 (ix2 R n)) (Fin.ext (by dsimp only; omega))

theorem v8_cell : val_main_v8 x0 x1 x2 x3 x4 (ix2 R j) = mixed x0 x1 x2 x3 x4 R j := by
  unfold mixed
  pointwise [val_main_v8, val_main_v7]
  rw [sum_parts]
  simp only [v6_first, v6_second, v6_third]

theorem v22_cell : val_main_v22 x0 x1 x2 x3 x4 x5 (ix2 R j) = normed (x5 (ix1 j)) j fun e => mixed x0 x1 x2 x3 x4 R e := by
  unfold normed
  pointwise [val_main_v22, val_main_v21, val_main_v20, val_main_v19, val_main_v18, val_main_v17, val_main_v16, val_main_v15, val_main_v14, val_main_v13, val_main_v12, val_main_v11, val_main_v10, val_main_v9, val_main_cst, val_main_cst_0, val_main_cst_1]
  simp only [v8_cell]

end Cert.OutProjRefIdeal.Tile
end
-- ==== Proof.OutProjClaim.lean ====
module

public import proofs.«01_k».proof.Defs
public import proofs.«01_k».proof.Proof.Gen.OutProj.Frame
public import proofs.«01_k».proof.Proof.OutProjRef

@[expose] public section

set_option maxRecDepth 16384

noncomputable section

namespace Cert.OutProjIdeal.Claims

open Idealize.ShloMosaic Idealize.ShloMosaic.TcCoe Idealize.SL.Sem Cert.OutProjIdeal Cert.OutProjIdeal.Gen

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8_0) = (dats m 0 c).arrAt 6 cfg0.N
      ∧ r.2.mem ((c.tc : Thread nD τ).loc main_v8_1) = (dats m 0 c).arrAt 7 cfg0.N) :=
  (θ_run defs _ _).mono (fun _ h c => ⟨(h c).1 6, (h c).1 7⟩) (run_main m ρ)

theorem frame_kernel : Cert.quiescent_OutProj := fun m ρ _ => Cert.OutProj.Gen.frame m ρ
theorem frame_ideal : Cert.quiescent_OutProjIdeal := fun m ρ _ => Cert.OutProjIdeal.Gen.frame m ρ

theorem frame_reference : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)
theorem preserves : Cert.preserves_OutProj_OutProjIdeal := trivial

theorem algebraic : Cert.algebraic_OutProjIdeal_OutProjRefIdeal := by
  intro m g m' g' _ hargs
  refine ⟨_, _, (θ_run Cert.OutProjIdeal.defs _ _).mono (fun r h c => ⟨(h.1 c).1, (h.1 c).2, h.2 c⟩)
    (θ_run_and (run_value m g) (Cert.OutProjIdeal.Gen.unchanged m g)), ?_⟩
  refine (θ_run Cert.OutProjRefIdeal.defs _ _).mono (fun r h c => ?_) (Cert.OutProjRefIdeal.Value.run (F := Ideal) m' g')
  obtain ⟨h8, h22, hrest⟩ := h c
  obtain ⟨e0, e1, e2, e3, e4, e5⟩ := hargs c
  refine ⟨?_, ?_, hrest⟩
  · rw [h8, Cert.OutProjRefIdeal.Read.val_main_v8_eq, e0, e1, e2, e3, e4]
    refine Eq.trans ?_ (Tile.final6 m c).symm
    funext j
    obtain ⟨a, b, rfl⟩ : ∃ a b, j = ix2 a b := ⟨j 0, j 1, by idx_ext⟩
    exact Cert.OutProjRefIdeal.Tile.v8_cell _ _ _ _ _ a b
  · rw [h22, Cert.OutProjRefIdeal.Read.val_main_v22_eq, e0, e1, e2, e3, e4, e5]
    refine Eq.trans ?_ (Tile.final7 m c).symm
    funext j
    obtain ⟨a, b, rfl⟩ : ∃ a b, j = ix2 a b := ⟨j 0, j 1, by idx_ext⟩
    exact Cert.OutProjRefIdeal.Tile.v22_cell _ _ _ _ _ _ a b

end Cert.OutProjIdeal.Claims
end
-- ==== Proof.PoolSums.lean ====
module

public import Idealize.ShloMosaic.Lib.Pointwise
public import Idealize.ShloMosaic.Lib.Pipeline.ValueKit
public import Idealize.ShloMosaic.Lib.Claim

@[expose] public section

set_option maxRecDepth 16384

noncomputable section

namespace Cert.Trail

open Idealize.ShloMosaic

open Finset

/-- The sum of a sequence's last `w` entries up to position `r`; what lies before its start counts zero. -/
def trail (f : ℕ → EReal) (r w : ℕ) : EReal := ∑ i ∈ range w, if i ≤ r then f (r - i) else 0

theorem trail_one (f : ℕ → EReal) (r : ℕ) : trail f r 1 = f r := by
  simp [trail]

/-- A window of twice the length is the window and the one before it. -/
theorem trail_double (f : ℕ → EReal) (r w : ℕ) : trail f r (w + w) = trail f r w + if w ≤ r then trail f (r - w) w else 0 := by
  unfold trail
  rw [sum_range_add]
  refine congrArg (_ + ·) ?_
  by_cases h : w ≤ r
  · rw [if_pos h]
    refine sum_congr rfl fun i _ => ?_
    by_cases hi : i ≤ r - w
    · rw [if_pos hi, if_pos (by omega), Nat.sub_add_eq]
    · rw [if_neg hi, if_neg (by omega)]
  · rw [if_neg h]
    exact sum_eq_zero fun i _ => if_neg (by omega)

/-- A sum of finitely many real values is real. -/
theorem sum_real (f : ℕ → EReal) (hf : ∀ n, ∃ y : ℝ, f n = (y : EReal)) (n : ℕ) : ∃ y : ℝ, ∑ q ∈ range n, f q = (y : EReal) := by
  induction n with
  | zero => exact ⟨0, by simp⟩
  | succ n ih =>
    obtain ⟨a, ha⟩ := ih
    obtain ⟨b, hb⟩ := hf n
    exact ⟨a + b, by rw [sum_range_succ, ha, hb, EReal.coe_add]⟩

/-- Of a real sequence behind fifteen zeros, the difference of two running sums is the window's sum. -/
theorem running_difference (f g : ℕ → EReal) (hf : ∀ n, ∃ y : ℝ, f n = (y : EReal)) (r w : ℕ) (hw : w ≤ 16)
    (hg : ∀ q, q < 16 + r → g q = if q < 15 then 0 else f (q - 15)) :
    (∑ q ∈ range (16 + r), g q) - ∑ q ∈ range (16 + r - w), g q = trail f r w := by
  have hr : ∀ n, n ≤ 16 + r → ∃ y : ℝ, ∑ q ∈ range n, g q = (y : EReal) := fun n hn => by
    have e : ∑ q ∈ range n, g q = ∑ q ∈ range n, if q < 15 then 0 else f (q - 15) :=
      sum_congr rfl fun q hq => hg q (by have := mem_range.1 hq; omega)
    rw [e]
    refine sum_real _ (fun q => ?_) n
    by_cases h : q < 15
    · exact ⟨0, by rw [if_pos h]; rfl⟩
    · rw [if_neg h]; exact hf _
  obtain ⟨y, hy⟩ := hr (16 + r - w) (by omega)
  have s : ∑ q ∈ range (16 + r), g q = ∑ q ∈ range (16 + r - w), g q + ∑ i ∈ range w, g (16 + r - w + i) := by
    rw [← sum_range_add, Nat.sub_add_cancel (by omega)]
  rw [s, hy, EReal.add_sub_cancel_left]
  unfold trail
  rw [← sum_range_reflect]
  refine sum_congr rfl fun i hi => ?_
  have hi := mem_range.1 hi
  rw [hg _ (by omega)]
  by_cases h : i ≤ r
  · rw [if_neg (by omega), if_pos h, show 16 + r - w + (w - 1 - i) - 15 = r - i by omega]
  · rw [if_pos (by omega), if_neg h]

/-! ## The running sum -/

theorem foldl_sum {ι : Type} (l : List ι) (g : ι → EReal) (z : EReal) : l.foldl (fun a i => a + g i) z = z + (l.map g).sum := by
  induction l generalizing z with
  | nil => simp
  | cons a l ih => rw [List.foldl_cons, ih, List.map_cons, List.sum_cons, add_assoc]

/-- A window of the whole length that ends at `p` holds the terms up to `p`. -/
theorem sum_upto (f : ℕ → EReal) (p : ℕ) (hp : p < 2063) :
    ((List.finRange 2063).map fun n => if 2062 ≤ p + n.val then f (p + n.val - 2062) else 0).sum = ∑ q ∈ Finset.range (p + 1), f q := by
  rw [← List.ofFn_eq_map, List.sum_ofFn, Fin.sum_univ_eq_sum_range (fun n => if 2062 ≤ p + n then f (p + n - 2062) else 0)]
  rw [show 2063 = (2062 - p) + (p + 1) by omega, Finset.sum_range_add]
  refine (congrArg₂ (fun x y : EReal => x + y) (Finset.sum_eq_zero fun n hn => ?_) (Finset.sum_congr rfl fun n hn => ?_)).trans (zero_add _)
  · have := Finset.mem_range.1 hn
    rw [if_neg (by omega)]
  · have := Finset.mem_range.1 hn
    rw [if_pos (by omega), show p + (2062 - p + n) - 2062 = n by omega]

/-- A place in the window is its middle coordinate. -/
theorem place (n : Fin (⟨3, ![1, 2063, 1]⟩ : Shape).numel) : ((⟨3, ![1, 2063, 1]⟩ : Shape).rowMajor.symm n 0).val = 0
    ∧ ((⟨3, ![1, 2063, 1]⟩ : Shape).rowMajor.symm n 1).val = n.val ∧ ((⟨3, ![1, 2063, 1]⟩ : Shape).rowMajor.symm n 2).val = 0 := by
  have h := Shape.rowMajor_val_three ((⟨3, ![1, 2063, 1]⟩ : Shape).rowMajor.symm n)
  rw [Equiv.apply_symm_apply] at h
  have h0 : ((⟨3, ![1, 2063, 1]⟩ : Shape).rowMajor.symm n 0).val < 1 := ((⟨3, ![1, 2063, 1]⟩ : Shape).rowMajor.symm n 0).isLt
  have h2 : ((⟨3, ![1, 2063, 1]⟩ : Shape).rowMajor.symm n 2).val < 1 := ((⟨3, ![1, 2063, 1]⟩ : Shape).rowMajor.symm n 2).isLt
  change n.val = (((⟨3, ![1, 2063, 1]⟩ : Shape).rowMajor.symm n 0).val * 2063 + ((⟨3, ![1, 2063, 1]⟩ : Shape).rowMajor.symm n 1).val) * 1
    + ((⟨3, ![1, 2063, 1]⟩ : Shape).rowMajor.symm n 2).val at h
  refine ⟨by omega, ?_, by omega⟩
  generalize ((⟨3, ![1, 2063, 1]⟩ : Shape).rowMajor.symm n 0).val = a at *
  generalize ((⟨3, ![1, 2063, 1]⟩ : Shape).rowMajor.symm n 1).val = b at *
  generalize ((⟨3, ![1, 2063, 1]⟩ : Shape).rowMajor.symm n 2).val = d at *
  omega

/-- The running sum along the middle axis, at a coordinate. -/
theorem running_sum (x : (⟨3, ![8, 2063, 256]⟩ : Shape).Idx → EReal) (z : EReal) (hz : z = 0)
    (h : (⟨3, ![8, 2063, 256]⟩ : Shape).ReduceWindows ![1, 2063, 1] ![1, 1, 1] ![0, 2062, 0] ![0, 0, 0] ⟨3, ![8, 2063, 256]⟩)
    (b : Fin 8) (p : Fin 2063) (k : Fin 256) (f : ℕ → EReal) (hf : ∀ q : Fin 2063, x (ix3 b q k) = f q.val) :
    Ideal.hostReduceWindowAdd ![1, 2063, 1] ![1, 1, 1] ![0, 2062, 0] ![0, 0, 0] h x z (ix3 b p k) = ∑ q ∈ Finset.range (p.val + 1), f q := by
  subst hz
  have hN : (⟨3, ![1, 2063, 1]⟩ : Shape).numel = 2063 := by decide +kernel
  unfold Ideal.hostReduceWindowAdd Host.reduceWindow
  refine (foldl_sum (List.finRange (⟨3, ![1, 2063, 1]⟩ : Shape).numel) _ 0).trans ((zero_add _).trans ?_)
  rw [← sum_upto f p.val p.isLt]
  have cast : ∀ (N : ℕ) (g : ℕ → EReal), N = 2063 → ((List.finRange N).map fun n => g n.val).sum = ((List.finRange 2063).map fun n => g n.val).sum := by
    rintro _ g rfl
    rfl
  refine Eq.trans ?_ (cast _ (fun n => if 2062 ≤ p.val + n then f (p.val + n - 2062) else 0) hN)
  refine congrArg List.sum (List.map_congr_left fun n _ => ?_)
  obtain ⟨w0, w1, w2⟩ := place n
  have hn : n.val < 2063 := lt_of_lt_of_eq n.isLt hN
  have hb := b.isLt
  have hp := p.isLt
  have hk := k.isLt
  dsimp only
  split
  · next hin =>
    have h1 := hin 1
    change 2062 ≤ p.val * 1 + ((⟨3, ![1, 2063, 1]⟩ : Shape).rowMajor.symm n 1).val
      ∧ p.val * 1 + ((⟨3, ![1, 2063, 1]⟩ : Shape).rowMajor.symm n 1).val - 2062 < 2063 at h1
    rw [w1] at h1
    rw [if_pos (by omega)]
    refine (congrArg x (funext fun a => Fin.ext ?_)).trans (hf ⟨p.val + n.val - 2062, by omega⟩)
    match a with
    | ⟨0, _⟩ =>
      show b.val * 1 + ((⟨3, ![1, 2063, 1]⟩ : Shape).rowMajor.symm n 0).val - 0 = b.val
      rw [w0]
      omega
    | ⟨1, _⟩ =>
      show p.val * 1 + ((⟨3, ![1, 2063, 1]⟩ : Shape).rowMajor.symm n 1).val - 2062 = p.val + n.val - 2062
      rw [w1]
      omega
    | ⟨2, _⟩ =>
      show k.val * 1 + ((⟨3, ![1, 2063, 1]⟩ : Shape).rowMajor.symm n 2).val - 0 = k.val
      rw [w2]
      omega
  · next hin =>
    rw [if_neg fun hle => hin fun a => by
      match a with
      | ⟨0, _⟩ =>
        show 0 ≤ b.val * 1 + ((⟨3, ![1, 2063, 1]⟩ : Shape).rowMajor.symm n 0).val
          ∧ b.val * 1 + ((⟨3, ![1, 2063, 1]⟩ : Shape).rowMajor.symm n 0).val - 0 < 8
        rw [w0]
        omega
      | ⟨1, _⟩ =>
        show 2062 ≤ p.val * 1 + ((⟨3, ![1, 2063, 1]⟩ : Shape).rowMajor.symm n 1).val
          ∧ p.val * 1 + ((⟨3, ![1, 2063, 1]⟩ : Shape).rowMajor.symm n 1).val - 2062 < 2063
        rw [w1]
        omega
      | ⟨2, _⟩ =>
        show 0 ≤ k.val * 1 + ((⟨3, ![1, 2063, 1]⟩ : Shape).rowMajor.symm n 2).val
          ∧ k.val * 1 + ((⟨3, ![1, 2063, 1]⟩ : Shape).rowMajor.symm n 2).val - 0 < 256
        rw [w2]
        omega]

end Cert.Trail
end
-- ==== Proof.PoolTile.lean ====
module

public import proofs.«01_k».proof.Proof.Gen.PoolIdeal.Frame
public import proofs.«01_k».proof.Proof.PoolSums

@[expose] public section

set_option maxRecDepth 16384

noncomputable section

namespace Cert.PoolIdeal.Tile

open Idealize.ShloMosaic Idealize.ShloMosaic.TcCoe Cert.PoolIdeal Cert.PoolIdeal.Gen
open Cert.Trail (trail trail_one trail_double)

/-! ## The layer's function of its arrays -/

/-- Lane `c` of group `g`. -/
def lane (g : Fin 4) (c : Fin 64) : Fin 256 := ⟨64 * g.val + c.val, by omega⟩

/-- The length of a lane's window: 2, 4, 8 or 16. -/
def span (k : Fin 256) : ℕ := 2 ^ (k.val / 64 + 1)

/-- How many of a window's positions lie in the sequence. -/
def count (w : ℕ) (r : Fin 2048) : EReal := (((min w (r.val + 1) : ℕ) : ℝ) : EReal)

section Spec

variable (x : S16384x256.Idx → EReal) (w : S4x64x64.Idx → EReal) (sc : S256.Idx → EReal)

/-- Lane `k` of sequence `b`, by position. -/
def series (b : Fin 8) (k : Fin 256) (n : ℕ) : EReal := if h : n < 2048 then x (ix2 ⟨b.val * 2048 + n, by omega⟩ k) else 0

/-- A window's mean less the position itself. -/
def delta (b : Fin 8) (r : Fin 2048) (k : Fin 256) : EReal :=
  Ideal.div (trail (series x b k) r.val (span k)) (count (span k) r) - series x b k r.val

/-- The group's map of the deltas, with the lane's scale. -/
def pooled (b : Fin 8) (r : Fin 2048) (g : Fin 4) (e : Fin 64) : EReal :=
  (∑ c : Fin 64, delta x b r (lane g c) * w (ix3 g c e)) * sc (ix1 (lane g e))

/-- The result array: row `2048 b + r`, lane `64 g + e`. -/
def result : S16384x256.Idx → EReal := fun j =>
  pooled x w sc ⟨(j 0).val / 2048, by have h : (j 0).val < 16384 := (j 0).isLt; omega⟩ ⟨(j 0).val % 2048, Nat.mod_lt _ (by decide)⟩
    ⟨(j 1).val / 64, by have h : (j 1).val < 256 := (j 1).isLt; omega⟩ ⟨(j 1).val % 64, Nat.mod_lt _ (by decide)⟩

end Spec

theorem count_word (w r : Nat) (hw : w = 2 ∨ w = 4 ∨ w = 8 ∨ w = 16) (hr : r < 2048) :
    (FloatOps.sitofp FTy.f32 (IntOp.minsi (BitVec.ofNat 32 w) (IntOp.addi (BitVec.ofNat 32 r) 1#32)) : Ideal .f32) = count w ⟨r, hr⟩ := by
  have e : ∀ r : Fin 2048, (IntOp.minsi (BitVec.ofNat 32 2) (IntOp.addi (BitVec.ofNat 32 r.val) 1#32)).toInt = ((min 2 (r.val + 1) : ℕ) : ℤ)
      ∧ (IntOp.minsi (BitVec.ofNat 32 4) (IntOp.addi (BitVec.ofNat 32 r.val) 1#32)).toInt = ((min 4 (r.val + 1) : ℕ) : ℤ)
      ∧ (IntOp.minsi (BitVec.ofNat 32 8) (IntOp.addi (BitVec.ofNat 32 r.val) 1#32)).toInt = ((min 8 (r.val + 1) : ℕ) : ℤ)
      ∧ (IntOp.minsi (BitVec.ofNat 32 16) (IntOp.addi (BitVec.ofNat 32 r.val) 1#32)).toInt = ((min 16 (r.val + 1) : ℕ) : ℤ) := by decide +kernel
  obtain ⟨e2, e4, e8, e16⟩ := e ⟨r, hr⟩
  have k : (IntOp.minsi (BitVec.ofNat 32 w) (IntOp.addi (BitVec.ofNat 32 r) 1#32)).toInt = ((min w (r + 1) : ℕ) : ℤ) := by
    rcases hw with rfl | rfl | rfl | rfl
    · exact e2
    · exact e4
    · exact e8
    · exact e16
  show (((IntOp.minsi (BitVec.ofNat 32 w) (IntOp.addi (BitVec.ofNat 32 r) 1#32)).toInt : ℝ) : EReal) = _
  rw [k]
  unfold count
  rw [Int.cast_natCast]

/-- Times the reciprocal of the count is over the count. -/
theorem mul_count (s : EReal) (w : ℕ) (hw : 0 < w) (r : Fin 2048) : s * Ideal.div 1 (count w r) = Ideal.div s (count w r) := by
  have h : (((min w (r.val + 1) : ℕ) : ℝ)) ≠ 0 := Nat.cast_ne_zero.2 (by omega)
  unfold count
  rw [Ideal.div_coe h, Ideal.div_coe h, one_mul]

/-! ## The windows' sums -/

theorem row_word : ∀ r : Fin 2048, IntOp.cmpi CmpIPredicate.sge (BitVec.ofNat 32 r.val) 1#32 = (if 1 ≤ r.val then 1#1 else 0#1)
    ∧ IntOp.cmpi CmpIPredicate.sge (BitVec.ofNat 32 r.val) 2#32 = (if 2 ≤ r.val then 1#1 else 0#1)
    ∧ IntOp.cmpi CmpIPredicate.sge (BitVec.ofNat 32 r.val) 4#32 = (if 4 ≤ r.val then 1#1 else 0#1)
    ∧ IntOp.cmpi CmpIPredicate.sge (BitVec.ofNat 32 r.val) 8#32 = (if 8 ≤ r.val then 1#1 else 0#1) := by decide +kernel

variable (v : Vec Ideal S2048x256 .f32) (r : Fin 2048) (j : Fin 256)

/-- A block's column by row. -/
def column (n : ℕ) : EReal := if h : n < 2048 then v (ix2 ⟨n, h⟩ j) else 0

theorem step (s : FVec Ideal S2048x256 .f32) (w : Nat) (b : BitVec 1) (hw : 0 < w) (hb : b = if w ≤ r.val then 1#1 else 0#1)
    (hs : ∀ q : Fin 2048, s (ix2 q j) = trail (column v j) q.val w) :
    s (ix2 r j) + Scalar.select b (s (ix2 ⟨(r.val + 2048 - w) % 2048, Nat.mod_lt _ (by decide)⟩ j)) 0 = trail (column v j) r.val (w + w) := by
  rw [trail_double, hs, hb]
  refine congrArg (_ + ·) ?_
  by_cases h : w ≤ r.val
  · rw [if_pos h, if_pos h]
    show s _ = _
    rw [hs]
    refine congrArg (fun n => trail (column v j) n w) ?_
    show (r.val + 2048 - w) % 2048 = r.val - w
    omega
  · rw [if_neg h, if_neg h]
    rfl

theorem pay2_cell : k0_pay2 v (ix2 r j) = trail (column v j) r.val 2 := by
  refine Eq.trans ?_ (step v r j v 1 _ (by decide) (row_word r).1 fun q => ?_)
  · pointwise [k0_pay2]
  · rw [trail_one]
    unfold column
    rw [dif_pos q.isLt]

theorem pay3_cell : k0_pay3 v (ix2 r j) = trail (column v j) r.val 4 := by
  refine Eq.trans ?_ (step v r j (k0_pay2 v) 2 _ (by decide) (row_word r).2.1 fun q => pay2_cell v q j)
  unfold k0_pay3
  generalize k0_pay2 v = s
  pointwise

theorem pay4_cell : k0_pay4 v (ix2 r j) = trail (column v j) r.val 8 := by
  refine Eq.trans ?_ (step v r j (k0_pay3 v) 4 _ (by decide) (row_word r).2.2.1 fun q => pay3_cell v q j)
  unfold k0_pay4
  generalize k0_pay3 v = s
  pointwise

theorem pay5_cell : k0_pay5 v (ix2 r j) = trail (column v j) r.val 16 := by
  refine Eq.trans ?_ (step v r j (k0_pay4 v) 8 _ (by decide) (row_word r).2.2.2 fun q => pay4_cell v q j)
  unfold k0_pay5
  generalize k0_pay4 v = s
  pointwise

/-! ## The deltas -/

/-- A lane's group as a word. -/
theorem group_word : ∀ k : Fin 256, IntOp.shrsi ArithUnit.vector (BitVec.ofNat 32 k.val) 6#32 = BitVec.ofNat 32 (k.val / 64) := by decide +kernel

theorem pay7_cell : k0_pay7 (ix2 r j) = IntOp.cmpi CmpIPredicate.eq (BitVec.ofNat 32 (j.val / 64)) 0#32 := by
  rw [← group_word]
  pointwise [k0_pay7, k0_pay6]

theorem pay8_cell : k0_pay8 (ix2 r j) = IntOp.cmpi CmpIPredicate.eq (BitVec.ofNat 32 (j.val / 64)) 1#32 := by
  rw [← group_word]
  pointwise [k0_pay8, k0_pay6]

theorem pay9_cell : k0_pay9 (ix2 r j) = Scalar.select (IntOp.cmpi CmpIPredicate.eq (BitVec.ofNat 32 (j.val / 64)) 2#32) 8#32 16#32 := by
  rw [← group_word]
  pointwise [k0_pay9, k0_pay6]

/-- A row's delta, as the block has it. -/
def diff : EReal := Ideal.div (trail (column v j) r.val (span j)) (count (span j) r) - v (ix2 r j)

theorem pay1_cell (w : Vec Ideal S256x256 .bf16) (sc : Vec Ideal S1x256 .f32) :
    k0_pay1 v (iota .tc S2048x256 32 [0] iota_S2048x256_d0_w32) (k0_pay2 v) (k0_pay3 v) (k0_pay4 v) (k0_pay5 v) k0_pay7 k0_pay8 k0_pay9 4#32 w sc (ix2 r j)
      = (∑ k : Fin 256, diff v r k * w (ix2 k j)) * sc (ix2 0 j) := by
  have e (v1 : IVec S2048x256 32) (s2 s4 s8 s16 : FVec Ideal S2048x256 .f32) (v30 v32 : IVec S2048x256 1) (v37 : IVec S2048x256 32)
      (h1 : ∀ k, v1 (ix2 r k) = BitVec.ofNat 32 r.val) (h2 : ∀ k, s2 (ix2 r k) = trail (column v k) r.val 2)
      (h4 : ∀ k, s4 (ix2 r k) = trail (column v k) r.val 4) (h8 : ∀ k, s8 (ix2 r k) = trail (column v k) r.val 8)
      (h16 : ∀ k, s16 (ix2 r k) = trail (column v k) r.val 16)
      (h30 : ∀ k : Fin 256, v30 (ix2 r k) = IntOp.cmpi CmpIPredicate.eq (BitVec.ofNat 32 (k.val / 64)) 0#32)
      (h32 : ∀ k : Fin 256, v32 (ix2 r k) = IntOp.cmpi CmpIPredicate.eq (BitVec.ofNat 32 (k.val / 64)) 1#32)
      (h37 : ∀ k : Fin 256, v37 (ix2 r k) = Scalar.select (IntOp.cmpi CmpIPredicate.eq (BitVec.ofNat 32 (k.val / 64)) 2#32) 8#32 16#32) :
      k0_pay1 v v1 s2 s4 s8 s16 v30 v32 v37 4#32 w sc (ix2 r j) = (∑ k : Fin 256, diff v r k * w (ix2 k j)) * sc (ix2 0 j) := by
    pointwise [k0_pay1]
    refine congrArg (· * _) (Finset.sum_congr rfl fun k _ => congrArg (· * _) ?_)
    rw [group_word, h1, h2, h4, h8, h16, h30, h32, h37]
    unfold diff
    refine congrArg (· - _) ?_
    have hk : k.val / 64 = 0 ∨ k.val / 64 = 1 ∨ k.val / 64 = 2 ∨ k.val / 64 = 3 := by omega
    rcases hk with h | h | h | h <;> unfold span <;> rw [h]
    · refine Eq.trans ?_ (mul_count _ 2 (by decide) r)
      exact congrArg (_ * Ideal.div 1 ·) (count_word 2 r.val (by decide) r.isLt)
    · refine Eq.trans ?_ (mul_count _ 4 (by decide) r)
      exact congrArg (_ * Ideal.div 1 ·) (count_word 4 r.val (by decide) r.isLt)
    · refine Eq.trans ?_ (mul_count _ 8 (by decide) r)
      exact congrArg (_ * Ideal.div 1 ·) (count_word 8 r.val (by decide) r.isLt)
    · refine Eq.trans ?_ (mul_count _ 16 (by decide) r)
      exact congrArg (_ * Ideal.div 1 ·) (count_word 16 r.val (by decide) r.isLt)
  exact e _ _ _ _ _ _ _ _ (fun k => by pointwise) (fun k => pay2_cell v r k) (fun k => pay3_cell v r k) (fun k => pay4_cell v r k)
    (fun k => pay5_cell v r k) (fun k => pay7_cell r k) (fun k => pay8_cell r k) fun k => pay9_cell r k

/-! ## The weight -/

/-- The block-diagonal weight. -/
def packed (w : FVec Ideal S4x64x64 .f32) : FVec Ideal S256x256 .bf16 :=
  truncf .bf16 (shapeCast S256x256 (mulf (broadcastInDim S4x64x4x64 ![0, 1, 2, 3] bcast_S4x1x4x1_S4x64x4x64_0_1_2_3
    (broadcastInDim S4x1x4x1 ![0, 2] bcast_S4x4_S4x1x4x1_0_2 (uitofp .f32 (cmpi .eq (addi (iotaInDim S4x4 32 0) (broadcastInDim S4x4 ![] bcast_S_S4x4 (constantI S_ 32 0#32))) (iotaInDim S4x4 32 1)))))
    (broadcastInDim S4x64x4x64 ![0, 1, 2, 3] bcast_S4x64x1x64_S4x64x4x64_0_1_2_3 (broadcastInDim S4x64x1x64 ![0, 1, 3] bcast_S4x64x64_S4x64x1x64_0_1_3 w)))
    shapeCasts_S4x64x4x64_S256x256) bitsLt_bf16_f32

theorem eye_word : ∀ g h : Fin 4, IntOp.cmpi CmpIPredicate.eq (IntOp.addi (BitVec.ofNat 32 g.val) 0#32) (BitVec.ofNat 32 h.val) = if g = h then 1#1 else 0#1 := by
  decide +kernel

theorem packed_cell (w : FVec Ideal S4x64x64 .f32) (g h : Fin 4) (c e : Fin 64) :
    packed w (ix2 (lane g c) (lane h e)) = if g = h then w (ix3 g c e) else 0 := by
  unfold lane
  pointwise [packed]
  rw [eye_word]
  by_cases q : g = h
  · rw [if_pos q, if_pos q]
    refine Eq.trans (congrArg (· * _) ?_) (one_mul _)
    show (((1#1 : BitVec 1).toNat : ℝ) : EReal) = 1
    simp
  · rw [if_neg q, if_neg q]
    refine Eq.trans (congrArg (· * _) ?_) (zero_mul _)
    show (((0#1 : BitVec 1).toNat : ℝ) : EReal) = 0
    simp

/-- A sum over the lanes, group by group. -/
theorem sum_lanes (f : Fin 256 → EReal) : ∑ k, f k = ∑ g : Fin 4, ∑ c : Fin 64, f (lane g c) := by
  rw [← Fintype.sum_prod_type' fun g c => f (lane g c)]
  refine (Equiv.sum_comp (finProdFinEquiv (m := 4) (n := 64)) f).symm.trans (Finset.sum_congr rfl fun p _ => congrArg f (Fin.ext ?_))
  show p.2.val + 64 * p.1.val = 64 * p.1.val + p.2.val
  omega

/-- Against the block-diagonal weight only the group's own lanes count. -/
theorem sum_packed (f : Fin 256 → EReal) (w : FVec Ideal S4x64x64 .f32) (h : Fin 4) (e : Fin 64) :
    ∑ k, f k * packed w (ix2 k (lane h e)) = ∑ c : Fin 64, f (lane h c) * w (ix3 h c e) := by
  rw [sum_lanes]
  refine (Finset.sum_eq_single h (fun g _ hg => ?_) (fun h' => absurd (Finset.mem_univ _) h')).trans ?_
  · exact Finset.sum_eq_zero fun c _ => by rw [packed_cell, if_neg hg, mul_zero]
  · exact Finset.sum_congr rfl fun c _ => by rw [packed_cell, if_pos rfl]

/-! ## The blocks at coordinates -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem V_v12 : V m c main_v12 = packed (m ((c : Thread nD τ).loc main_arg1)) := by
  show StableHlo.after hostOps0 (fun b => m (c, b)) (Proc.tc.devRef main_v12) = _
  after_results
  rfl
theorem V_v13 : V m c main_v13 = broadcastInDim S1x256 ![1] bcast_S256_S1x256_1 (m ((c : Thread nD τ).loc main_arg2)) := by
  show StableHlo.after hostOps0 (fun b => m (c, b)) (Proc.tc.devRef main_v13) = _
  after_results

variable (t : Fin cfg0.N)

/-- Tile `t` is sequence `t`; row `r` of it is this row of the whole array. -/
def row : Fin 16384 := ⟨t.val * 2048 + r.val, by have h : t.val < 8 := t.isLt; omega⟩

theorem blk0 (k : Fin 256) : iblk m c 0 t (ix2 r k) = m ((c : Thread nD τ).loc main_arg0) (ix2 (row r t) k) := by
  blk_ext! [iblk, row, V_main_arg0, idx0 t]
theorem blk1 (k j : Fin 256) : iblk m c 1 t (ix2 k j) = packed (m ((c : Thread nD τ).loc main_arg1)) (ix2 k j) := by
  have e : iblk m c 1 t (ix2 k j) = V m c main_v12 (ix2 k j) := by blk_ext! [iblk, idx1 t]
  rw [e, V_v12]
theorem blk2 (k : Fin 256) : iblk m c 2 t (ix2 0 k) = m ((c : Thread nD τ).loc main_arg2) (ix1 k) := by
  have e : iblk m c 2 t (ix2 0 k) = V m c main_v13 (ix2 0 k) := by blk_ext! [iblk, idx2 t]
  rw [e, V_v13]; pointwise

theorem ld0 (X : Vec Ideal S2048x256 .f32) : View.ld X r0_0 = X := View.ld_unit_lit _ X (by decide)
theorem ld1 (X : Vec Ideal S256x256 .bf16) : View.ld X r0_1 = X := View.ld_unit_lit _ X (by decide)
theorem ld2 (X : Vec Ideal S1x256 .f32) : View.ld X r0_2 = X := View.ld_unit_lit _ X (by decide)

/-- A tile's column is a sequence's lane. -/
theorem column_series (k : Fin 256) : column (iblk m c 0 t) k = series (m ((c : Thread nD τ).loc main_arg0)) ⟨t.val, t.isLt⟩ k := by
  funext n
  unfold column series
  by_cases h : n < 2048
  · rw [dif_pos h, dif_pos h, blk0]
    rfl
  · rw [dif_neg h, dif_neg h]

theorem diff_delta (k : Fin 256) : diff (iblk m c 0 t) r k = delta (m ((c : Thread nD τ).loc main_arg0)) ⟨t.val, t.isLt⟩ r k := by
  have e : (iblk m c 0 t : Vec Ideal S2048x256 .f32) (ix2 r k) = column (iblk m c 0 t) k r.val := by
    unfold column
    rw [dif_pos r.isLt]
  unfold diff delta
  rw [e, column_series]

theorem tile_cell (h : Fin 4) (e : Fin 64) :
    k0_pay1 (iblk m c 0 t) (iota .tc S2048x256 32 [0] iota_S2048x256_d0_w32) (k0_pay2 (iblk m c 0 t)) (k0_pay3 (iblk m c 0 t)) (k0_pay4 (iblk m c 0 t))
      (k0_pay5 (iblk m c 0 t)) k0_pay7 k0_pay8 k0_pay9 4#32 (iblk m c 1 t) (iblk m c 2 t) (ix2 r (lane h e))
      = pooled (m ((c : Thread nD τ).loc main_arg0)) (m ((c : Thread nD τ).loc main_arg1)) (m ((c : Thread nD τ).loc main_arg2)) ⟨t.val, t.isLt⟩ r h e := by
  refine (pay1_cell (iblk m c 0 t) r (lane h e) (iblk m c 1 t) (iblk m c 2 t)).trans ?_
  unfold pooled
  refine congrArg₂ (fun x y : EReal => x * y) ?_ (blk2 m c t _)
  rw [← sum_packed]
  exact Finset.sum_congr rfl fun k _ => congrArg₂ (fun x y : EReal => x * y) (diff_delta r m c t k) (blk1 m c t k _)

theorem final3 : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  rw [ld0, ld1, ld2]
  have e : (win0_3.blk t).view.emb y = ix2 (row (y 0) t) (y 1) := by
    blk_ext [row, idx3 t]
  canon_tiles x h using cover0_3 ..
  obtain ⟨r, l, rfl⟩ : ∃ r l, x = ix2 r l := ⟨x 0, x 1, by idx_ext⟩
  obtain ⟨g, d, rfl⟩ : ∃ g d, l = lane g d := ⟨⟨l.val / 64, by omega⟩, ⟨l.val % 64, by omega⟩, Fin.ext (by show l.val = 64 * (l.val / 64) + l.val % 64; omega)⟩
  rw [e, show y 0 = r from Fin.ext h0, show y 1 = lane g d from Fin.ext h1]
  refine (tile_cell r m c t g d).trans ?_
  unfold result
  have hr := r.isLt
  have hd := d.isLt
  congr 1
  · exact Fin.ext (by show t.val = (t.val * 2048 + r.val) / 2048; omega)
  · exact Fin.ext (by show r.val = (t.val * 2048 + r.val) % 2048; omega)
  · exact Fin.ext (by show g.val = (64 * g.val + d.val) / 64; omega)
  · exact Fin.ext (by show d.val = (64 * g.val + d.val) % 64; omega)

end Cert.PoolIdeal.Tile
end
-- ==== Proof.PoolRef.lean ====
module

public import proofs.«01_k».proof.Proof.PoolTile
public import proofs.«01_k».proof.Proof.Gen.PoolRefIdeal.Read

@[expose] public section

set_option maxRecDepth 16384

noncomputable section

namespace Cert.PoolRefIdeal.Tile

open Idealize.ShloMosaic Idealize.ShloMosaic.TcCoe Cert.PoolRefIdeal Cert.PoolRefIdeal.Read
open Cert.PoolIdeal.Tile (lane span count series delta pooled result count_word)
open Cert.Trail (trail running_difference running_sum)

variable (x0 : (⟨S16384x256, .f32⟩ : BufTy).Contents (Elt Ideal)) (x1 : (⟨S4x64x64, .f32⟩ : BufTy).Contents (Elt Ideal))
  (x2 : (⟨S256, .f32⟩ : BufTy).Contents (Elt Ideal)) (b : Fin 8) (r : Fin 2048) (k : Fin 256)

/-- A lane behind fifteen zeros. -/
def ext (q : ℕ) : EReal := if q < 15 then 0 else series x0 b k (q - 15)

theorem v0_cell (l : Fin 2048) : val_main_v0 x0 (ix3 b l k) = series x0 b k l.val := by
  unfold series
  rw [dif_pos l.isLt]
  pointwise [val_main_v0]

theorem v2_cell (q : Fin 2063) : val_main_v2 x0 (ix3 b q k) = ext x0 b k q.val := by
  unfold ext
  by_cases h : q.val < 15
  · rw [if_pos h]
    pointwise [val_main_v2, val_main_v1, val_main_cst]
    rw [dif_pos h]
  · rw [if_neg h]
    refine Eq.trans ?_ (v0_cell x0 b k ⟨q.val - 15, by omega⟩)
    unfold val_main_v2
    generalize val_main_v0 x0 = y
    pointwise
    rw [dif_neg h]

theorem v3_cell (p : Fin 2063) : val_main_v3 x0 (ix3 b p k) = ∑ q ∈ Finset.range (p.val + 1), ext x0 b k q := by
  have h := v2_cell x0 b k
  unfold val_main_v3 Host.reduceWindowAdd
  generalize val_main_v2 x0 = y at h ⊢
  rw [Ideal.hostReduceWindowAdd_def]
  refine running_sum y _ ?_ _ b p k (ext x0 b k) h
  pointwise [val_main_call0_call0_v0, val_main_call0_call0_cst]

theorem v4_cell (p : Fin 2064) : val_main_v4 x0 (ix3 b p k) = ∑ q ∈ Finset.range p.val, ext x0 b k q := by
  have h3 := v3_cell x0 b k
  unfold val_main_v4
  generalize val_main_v3 x0 = y at h3 ⊢
  pointwise
  have hp := p.isLt
  by_cases h : 1 ≤ p.val
  · rw [dif_pos ⟨h, by omega⟩, h3]
    show ∑ q ∈ Finset.range (p.val - 1 + 1), _ = _
    rw [Nat.sub_add_cancel h]
  · rw [dif_neg fun q => h q.1, show p.val = 0 by omega, Finset.range_zero, Finset.sum_empty]
    pointwise [val_main_call1_v0, val_main_c]
    show (((0#32 : BitVec 32).toInt : ℝ) : EReal) = 0
    simp

/-- Two running sums a window apart differ by the window's sum. -/
theorem apart (real : ∀ i, ∃ y : ℝ, x0 i = (y : EReal)) (w : ℕ) (hw : w ≤ 16) (p p' : Fin 2064) (hp : p.val = 16 + r.val) (hp' : p'.val = 16 + r.val - w) :
    val_main_v4 x0 (ix3 b p k) - val_main_v4 x0 (ix3 b p' k) = trail (series x0 b k) r.val w := by
  rw [v4_cell, v4_cell, hp, hp']
  refine running_difference (series x0 b k) (ext x0 b k) (fun n => ?_) r.val w hw fun q _ => rfl
  unfold series
  by_cases h : n < 2048
  · rw [dif_pos h]
    exact real _
  · rw [dif_neg h]
    exact ⟨0, rfl⟩

theorem v16_cell (real : ∀ i, ∃ y : ℝ, x0 i = (y : EReal)) (c : Fin 64) (hk : k.val = 0 + c.val) :
    val_main_v16 x0 (ix3 b r c) = Ideal.div (trail (series x0 b k) r.val 2) (count 2 r) := by
  pointwise [val_main_v16, val_main_v15, val_main_v14, val_main_v13, val_main_v12, val_main_v11, val_main_v10, val_main_v9, val_main_v8, val_main_v7, val_main_v6, val_main_v5, val_main_c_0, val_main_c_1]
  refine congrArg₂ Ideal.div ?_ (count_word 2 r.val (by decide) r.isLt)
  refine Eq.trans ?_ (apart x0 b r k real 2 (by decide) ⟨16 + r.val, by omega⟩ ⟨14 + r.val, by omega⟩ rfl (by dsimp only; omega))
  rw [show k = ⟨0 + c.val, by omega⟩ from Fin.ext hk]
  pointwise

theorem v27_cell (real : ∀ i, ∃ y : ℝ, x0 i = (y : EReal)) (c : Fin 64) (hk : k.val = 64 + c.val) :
    val_main_v27 x0 (ix3 b r c) = Ideal.div (trail (series x0 b k) r.val 4) (count 4 r) := by
  pointwise [val_main_v27, val_main_v26, val_main_v25, val_main_v24, val_main_v23, val_main_v22, val_main_v21, val_main_v20, val_main_v19, val_main_v18, val_main_v17, val_main_v5, val_main_c_2, val_main_c_3]
  refine congrArg₂ Ideal.div ?_ (count_word 4 r.val (by decide) r.isLt)
  refine Eq.trans ?_ (apart x0 b r k real 4 (by decide) ⟨16 + r.val, by omega⟩ ⟨12 + r.val, by omega⟩ rfl (by dsimp only; omega))
  rw [show k = ⟨64 + c.val, by omega⟩ from Fin.ext hk]

theorem v38_cell (real : ∀ i, ∃ y : ℝ, x0 i = (y : EReal)) (c : Fin 64) (hk : k.val = 128 + c.val) :
    val_main_v38 x0 (ix3 b r c) = Ideal.div (trail (series x0 b k) r.val 8) (count 8 r) := by
  pointwise [val_main_v38, val_main_v37, val_main_v36, val_main_v35, val_main_v34, val_main_v33, val_main_v32, val_main_v31, val_main_v30, val_main_v29, val_main_v28, val_main_v5, val_main_c_4, val_main_c_5]
  refine congrArg₂ Ideal.div ?_ (count_word 8 r.val (by decide) r.isLt)
  refine Eq.trans ?_ (apart x0 b r k real 8 (by decide) ⟨16 + r.val, by omega⟩ ⟨8 + r.val, by omega⟩ rfl (by dsimp only; omega))
  rw [show k = ⟨128 + c.val, by omega⟩ from Fin.ext hk]

theorem v49_cell (real : ∀ i, ∃ y : ℝ, x0 i = (y : EReal)) (c : Fin 64) (hk : k.val = 192 + c.val) :
    val_main_v49 x0 (ix3 b r c) = Ideal.div (trail (series x0 b k) r.val 16) (count 16 r) := by
  pointwise [val_main_v49, val_main_v48, val_main_v47, val_main_v46, val_main_v45, val_main_v44, val_main_v43, val_main_v42, val_main_v41, val_main_v40, val_main_v39, val_main_v5, val_main_c_6, val_main_c_7]
  refine congrArg₂ Ideal.div ?_ (count_word 16 r.val (by decide) r.isLt)
  refine Eq.trans ?_ (apart x0 b r k real 16 (by decide) ⟨16 + r.val, by omega⟩ ⟨0 + r.val, by omega⟩ rfl (by dsimp only; omega))
  rw [show k = ⟨192 + c.val, by omega⟩ from Fin.ext hk]
  pointwise

theorem v51_cell (real : ∀ i, ∃ y : ℝ, x0 i = (y : EReal)) : val_main_v51 x0 (ix3 b r k) = delta x0 b r k := by
  have h16 := v16_cell x0 b r k real
  have h27 := v27_cell x0 b r k real
  have h38 := v38_cell x0 b r k real
  have h49 := v49_cell x0 b r k real
  have hk := k.isLt
  pointwise [val_main_v51, val_main_v50]
  rw [v0_cell]
  unfold delta
  refine congrArg (· - _) ?_
  by_cases h0 : k.val < 64
  · rw [dif_pos h0, h16 _ (by dsimp only; omega), span, show k.val / 64 = 0 by omega, show 2 ^ (0 + 1) = 2 from rfl]
  rw [dif_neg h0]
  by_cases h1 : k.val - 64 < 64
  · rw [dif_pos h1, h27 _ (by dsimp only; omega), span, show k.val / 64 = 1 by omega, show 2 ^ (1 + 1) = 4 from rfl]
  rw [dif_neg h1]
  by_cases h2 : k.val - 64 - 64 < 64
  · rw [dif_pos h2, h38 _ (by dsimp only; omega), span, show k.val / 64 = 2 by omega, show 2 ^ (2 + 1) = 8 from rfl]
  rw [dif_neg h2, h49 _ (by dsimp only; omega), span, show k.val / 64 = 3 by omega, show 2 ^ (3 + 1) = 16 from rfl]

theorem v60_cell (R : Fin 16384) (g : Fin 4) (e : Fin 64) : val_main_v60 x0 x1 x2 (ix2 R (lane g e))
    = (∑ c : Fin 64, x1 (ix3 g c e) * val_main_v51 x0 (ix3 ⟨R.val / 2048, by omega⟩ ⟨R.val % 2048, Nat.mod_lt _ (by decide)⟩ (lane g c))) * x2 (ix1 (lane g e)) := by
  have l : ∀ c : Fin 64, lane g c = (⟨g.val * 64 + c.val, by omega⟩ : Fin 256) := fun c => Fin.ext (by show 64 * g.val + c.val = g.val * 64 + c.val; omega)
  simp only [l]
  pointwise [val_main_v60, val_main_v59, val_main_v58, val_main_v57, val_main_v56, val_main_v55, val_main_v54, val_main_v53, val_main_v52]

/-- The reference's array is the layer's function of its arguments. -/
theorem v60_result (real : ∀ i, ∃ y : ℝ, x0 i = (y : EReal)) : val_main_v60 x0 x1 x2 = result x0 x1 x2 := by
  funext j
  obtain ⟨R, l, rfl⟩ : ∃ R l, j = ix2 R l := ⟨j 0, j 1, by idx_ext⟩
  have e : l = lane ⟨l.val / 64, by omega⟩ ⟨l.val % 64, Nat.mod_lt _ (by decide)⟩ := Fin.ext (by show l.val = 64 * (l.val / 64) + l.val % 64; omega)
  have h := v60_cell x0 x1 x2 R ⟨l.val / 64, by omega⟩ ⟨l.val % 64, Nat.mod_lt _ (by decide)⟩
  rw [← e] at h
  rw [h]
  show _ = pooled x0 x1 x2 ⟨R.val / 2048, _⟩ ⟨R.val % 2048, _⟩ ⟨l.val / 64, _⟩ ⟨l.val % 64, _⟩
  unfold pooled
  rw [← e]
  refine congrArg (· * x2 (ix1 l)) (Finset.sum_congr rfl fun c _ => ?_)
  rw [v51_cell x0 _ _ _ real, mul_comm]

end Cert.PoolRefIdeal.Tile
end
-- ==== Proof.PoolClaim.lean ====
module

public import proofs.«01_k».proof.Defs
public import proofs.«01_k».proof.Proof.Gen.Pool.Frame
public import proofs.«01_k».proof.Proof.Gen.Pre_finite_rows
public import proofs.«01_k».proof.Proof.PoolRef
public import Idealize.ShloMosaic.Lib.ReduceAll

@[expose] public section

set_option maxRecDepth 16384

noncomputable section

namespace Cert.PoolIdeal.Claims

open Idealize.ShloMosaic Idealize.ShloMosaic.TcCoe Idealize.SL.Sem Cert.PoolIdeal Cert.PoolIdeal.Gen

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = (dats m 0 c).arrAt 3 cfg0.N) :=
  (θ_run defs _ _).mono (fun _ h c => (h c).1 3) (run_main m ρ)

theorem frame_kernel : Cert.quiescent_Pool := fun m ρ _ => Cert.Pool.Gen.frame m ρ
theorem frame_ideal : Cert.quiescent_PoolIdeal := fun m ρ _ => Cert.PoolIdeal.Gen.frame m ρ

theorem frame_reference : Cert.quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)
theorem frame_ideal_finite : Cert.quiescent_PoolIdeal_pre_finite_rows := fun m ρ _ => frame_ideal m ρ trivial
theorem frame_reference_finite : Cert.quiescent_PoolRefIdeal_pre_finite_rows := fun m ρ _ => frame_reference m ρ trivial
theorem preserves : Cert.preserves_Pool_PoolIdeal := trivial

/-- Under the precondition every row is of real numbers. -/
theorem rows_real (m : (ℓ : Loc nD τ sig) → Buf (Elt Ideal) ℓ) (h : Cert.Pre_PoolIdeal_finite_rows m) (c : Dev nD)
    (i : S16384x256.Idx) : ∃ r : ℝ, m ((c.tc : Thread nD τ).loc main_arg0) i = (r : EReal) := by
  have hc := congrFun (h c) ix0
  unfold Cert.Pre_finite_rows.fn at hc
  have hi := Host.reduce_andi_all _ _ _ _ _ hc i
  pointwise at hi
  have top : Ideal.ofBits FTy.f32 0x7F800000#32 = ⊤ := by
    simp [Ideal.ofBits, Ideal.ieee]
  have lt : (FloatOps.absf (φ := FTy.f32) (m ((c.tc : Thread nD τ).loc main_arg0) i) : Ideal .f32) < (⊤ : EReal) := by
    rw [← top]
    by_contra h
    rw [decide_eq_false h] at hi
    exact absurd hi (by decide)
  generalize m ((c.tc : Thread nD τ).loc main_arg0) i = x at lt ⊢
  change EReal at x
  induction x with
  | bot => exact absurd lt (by rw [Ideal.absf_def]; simp)
  | coe r => exact ⟨r, rfl⟩
  | top => exact absurd lt (by rw [Ideal.absf_def]; simp)

theorem algebraic : Cert.algebraic_PoolIdeal_PoolRefIdeal_pre_finite_rows := by
  intro m g m' g' hpre hargs
  refine ⟨_, (θ_run Cert.PoolIdeal.defs _ _).mono (fun r h c => ⟨h.1 c, h.2 c⟩)
    (θ_run_and (run_value m g) (Cert.PoolIdeal.Gen.unchanged m g)), ?_⟩
  refine (θ_run Cert.PoolRefIdeal.defs _ _).mono (fun r h c => ?_) (Cert.PoolRefIdeal.Value.run (F := Ideal) m' g')
  obtain ⟨h60, hrest⟩ := h c
  obtain ⟨e0, e1, e2⟩ := hargs c
  refine ⟨?_, hrest⟩
  rw [h60, Cert.PoolRefIdeal.Read.val_main_v60_eq, e0, e1, e2]
  exact (Cert.PoolRefIdeal.Tile.v60_result _ _ _ (rows_real m hpre c)).trans (Tile.final3 m c).symm

end Cert.PoolIdeal.Claims
end
-- ==== Proof.lean ====
module

public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.GlaStep
public import proofs.«01_k».proof.Proof.Gen.GlaStep.Skeleton
public import proofs.«01_k».proof.Proof.Gen.GlaStep.Launch
public import proofs.«01_k».proof.Proof.Gen.GlaStep.Points
public import proofs.«01_k».proof.Proof.Gen.GlaStep.Frame
public import proofs.«01_k».proof.Proof.Gen.GlaStepIdeal
public import proofs.«01_k».proof.Proof.Gen.GlaStepIdeal.Skeleton
public import proofs.«01_k».proof.Proof.Gen.GlaStepIdeal.Launch
public import proofs.«01_k».proof.Proof.Gen.GlaStepIdeal.Points
public import proofs.«01_k».proof.Proof.Gen.GlaStepIdeal.Frame
public import proofs.«01_k».proof.Proof.Gen.GlaStepRefIdeal
public import proofs.«01_k».proof.Proof.Gen.GlaStepRefIdeal.Run
public import proofs.«01_k».proof.Proof.Gen.GlaStepRefIdeal.Read
public import proofs.«01_k».proof.Proof.Gen.FfnStep
public import proofs.«01_k».proof.Proof.Gen.FfnStep.Skeleton
public import proofs.«01_k».proof.Proof.Gen.FfnStep.Launch
public import proofs.«01_k».proof.Proof.Gen.FfnStep.Points
public import proofs.«01_k».proof.Proof.Gen.FfnStep.Frame
public import proofs.«01_k».proof.Proof.Gen.FfnStepIdeal
public import proofs.«01_k».proof.Proof.Gen.FfnStepIdeal.Skeleton
public import proofs.«01_k».proof.Proof.Gen.FfnStepIdeal.Launch
public import proofs.«01_k».proof.Proof.Gen.FfnStepIdeal.Points
public import proofs.«01_k».proof.Proof.Gen.FfnStepIdeal.Frame
public import proofs.«01_k».proof.Proof.Gen.FfnStepRefIdeal
public import proofs.«01_k».proof.Proof.Gen.FfnStepRefIdeal.Run
public import proofs.«01_k».proof.Proof.Gen.FfnStepRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InStep
public import proofs.«01_k».proof.Proof.Gen.InStep.Skeleton
public import proofs.«01_k».proof.Proof.Gen.InStep.Launch
public import proofs.«01_k».proof.Proof.Gen.InStep.Points
public import proofs.«01_k».proof.Proof.Gen.InStep.Frame
public import proofs.«01_k».proof.Proof.Gen.InStepIdeal
public import proofs.«01_k».proof.Proof.Gen.InStepIdeal.Skeleton
public import proofs.«01_k».proof.Proof.Gen.InStepIdeal.Launch
public import proofs.«01_k».proof.Proof.Gen.InStepIdeal.Points
public import proofs.«01_k».proof.Proof.Gen.InStepIdeal.Frame
public import proofs.«01_k».proof.Proof.Gen.InStepRefIdeal
public import proofs.«01_k».proof.Proof.Gen.InStepRefIdeal.Run
public import proofs.«01_k».proof.Proof.Gen.InStepRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Pre_finite_gates
public import proofs.«01_k».proof.Proof.FfnClaim
public import proofs.«01_k».proof.Proof.GlaStepClaim
public import proofs.«01_k».proof.Proof.FfnStepClaim
public import proofs.«01_k».proof.Proof.InProjClaim
public import proofs.«01_k».proof.Proof.InStepClaim
public import proofs.«01_k».proof.Proof.OutProjClaim
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Pre_finite_rows
public import proofs.«01_k».proof.Proof.PoolClaim
public import Idealize.ShloMosaic.Adequacy
public import Idealize.ShloMosaic.Init

@[expose] public section

noncomputable section

namespace Cert.Proof

/-- The claims of every call: the runs of its programs, the ideal program's faithfulness and its equality with the
reference. -/
theorem claim : Cert.Claim := ⟨
    Cert.Ffn.Gen.facts, Cert.FfnIdeal.Gen.facts, Cert.FfnRefIdeal.Gen.facts, Cert.GlaStep.Gen.facts,
    Cert.GlaStepIdeal.Gen.facts, Cert.GlaStepRefIdeal.Gen.facts, Cert.FfnStep.Gen.facts, Cert.FfnStepIdeal.Gen.facts,
    Cert.FfnStepRefIdeal.Gen.facts, Cert.InProj.Gen.facts, Cert.InProjIdeal.Gen.facts, Cert.InProjRefIdeal.Gen.facts,
    Cert.InStep.Gen.facts, Cert.InStepIdeal.Gen.facts, Cert.InStepRefIdeal.Gen.facts, Cert.OutProj.Gen.facts,
    Cert.OutProjIdeal.Gen.facts, Cert.OutProjRefIdeal.Gen.facts, Cert.Pool.Gen.facts, Cert.PoolIdeal.Gen.facts,
    Cert.PoolRefIdeal.Gen.facts, Cert.Pre_finite_gates.Gen.facts, Cert.Pre_finite_rows.Gen.facts,
    FfnIdeal.Claims.frame_kernel, FfnIdeal.Claims.frame_ideal, FfnIdeal.Claims.frame_reference,
    GlaStepIdeal.Claims.frame_kernel, GlaStepIdeal.Claims.frame_ideal, GlaStepIdeal.Claims.frame_ideal_finite,
    GlaStepIdeal.Claims.frame_reference, GlaStepIdeal.Claims.frame_reference_finite, FfnStepIdeal.Claims.frame_kernel,
    FfnStepIdeal.Claims.frame_ideal, FfnStepIdeal.Claims.frame_reference, InProjIdeal.Claims.frame_kernel,
    InProjIdeal.Claims.frame_ideal, InProjIdeal.Claims.frame_reference, InStepIdeal.Claims.frame_kernel,
    InStepIdeal.Claims.frame_ideal, InStepIdeal.Claims.frame_reference, OutProjIdeal.Claims.frame_kernel,
    OutProjIdeal.Claims.frame_ideal, OutProjIdeal.Claims.frame_reference, PoolIdeal.Claims.frame_kernel,
    PoolIdeal.Claims.frame_ideal, PoolIdeal.Claims.frame_ideal_finite, PoolIdeal.Claims.frame_reference,
    PoolIdeal.Claims.frame_reference_finite,
    FfnIdeal.Claims.preserves, FfnIdeal.Claims.algebraic, GlaStepIdeal.Claims.preserves, GlaStepIdeal.Claims.algebraic,
    FfnStepIdeal.Claims.preserves, FfnStepIdeal.Claims.algebraic, InProjIdeal.Claims.preserves,
    InProjIdeal.Claims.algebraic, InStepIdeal.Claims.preserves, InStepIdeal.Claims.algebraic,
    OutProjIdeal.Claims.preserves, OutProjIdeal.Claims.algebraic, PoolIdeal.Claims.preserves, PoolIdeal.Claims.algebraic⟩

end Cert.Proof

end
